-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v9)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v10)) (v8 : (c : Dev Cert.KernelIdeal.nD) → Buf (Elt Ideal) ((c.tc : Thread Cert.KernelIdeal.nD Cert.KernelIdeal.τ).loc Cert.KernelIdeal.main_v7_8)) (v9 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v10) = v7 c
          ∧ r.2.mem ((c.tc : Thread Cert.KernelIdeal.nD Cert.KernelIdeal.τ).loc Cert.KernelIdeal.main_v7_8) = v8 c
          ∧ r.2.mem ((c.tc : Thread Cert.KernelIdeal.nD Cert.KernelIdeal.τ).loc Cert.KernelIdeal.main_v11) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_0) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v23_2) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v23_4) = v4 c
          ∧ r.2.mem ((c.tc : Thread Cert.ReferenceIdeal.nD Cert.ReferenceIdeal.τ).loc Cert.ReferenceIdeal.main_v49) = v5 c
          ∧ r.2.mem ((c.tc : Thread Cert.ReferenceIdeal.nD Cert.ReferenceIdeal.τ).loc Cert.ReferenceIdeal.main_v23_6) = v6 c
          ∧ r.2.mem ((c.tc : Thread Cert.ReferenceIdeal.nD Cert.ReferenceIdeal.τ).loc Cert.ReferenceIdeal.main_v50) = v7 c
          ∧ r.2.mem ((c.tc : Thread Cert.ReferenceIdeal.nD Cert.ReferenceIdeal.τ).loc Cert.ReferenceIdeal.main_v23_8) = v8 c
          ∧ r.2.mem ((c.tc : Thread Cert.ReferenceIdeal.nD Cert.ReferenceIdeal.τ).loc Cert.ReferenceIdeal.main_v51) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1280x1024 : Shape := ⟨2, ![1280, 1024]⟩
abbrev S7 : Shape := ⟨1, ![7]⟩
abbrev S1024 : Shape := ⟨1, ![1024]⟩
abbrev S1024x3072 : Shape := ⟨2, ![1024, 3072]⟩
abbrev S3072 : Shape := ⟨1, ![3072]⟩
abbrev S1024x4 : Shape := ⟨2, ![1024, 4]⟩
abbrev S1024x1024 : Shape := ⟨2, ![1024, 1024]⟩
abbrev S1024x2x4608 : Shape := ⟨3, ![1024, 2, 4608]⟩
abbrev S2x4608 : Shape := ⟨2, ![2, 4608]⟩
abbrev S4608x1024 : Shape := ⟨2, ![4608, 1024]⟩
abbrev S1x1024 : Shape := ⟨2, ![1, 1024]⟩
abbrev S1x3072 : Shape := ⟨2, ![1, 3072]⟩
abbrev S4x1024 : Shape := ⟨2, ![4, 1024]⟩
abbrev S2x1024x4608 : Shape := ⟨3, ![2, 1024, 4608]⟩
abbrev S6x3x1024 : Shape := ⟨3, ![6, 3, 1024]⟩
abbrev S5x2x128 : Shape := ⟨3, ![5, 2, 128]⟩
abbrev S1280x4608 : Shape := ⟨2, ![1280, 4608]⟩
abbrev S256x1024 : Shape := ⟨2, ![256, 1024]⟩
abbrev S1x2x128 : Shape := ⟨3, ![1, 2, 128]⟩
abbrev S256x4608 : Shape := ⟨2, ![256, 4608]⟩
abbrev S264x1024 : Shape := ⟨2, ![264, 1024]⟩
abbrev S6x8x1024 : Shape := ⟨3, ![6, 8, 1024]⟩
abbrev S8x1024 : Shape := ⟨2, ![8, 1024]⟩
abbrev S256 : Shape := ⟨1, ![256]⟩
abbrev S256x1 : Shape := ⟨2, ![256, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S2x128 : Shape := ⟨2, ![2, 128]⟩
abbrev S1 : Shape := ⟨1, ![1]⟩
abbrev S1x1x1024 : Shape := ⟨3, ![1, 1, 1024]⟩
abbrev S1x1024x512 : Shape := ⟨3, ![1, 1024, 512]⟩
abbrev S1024x512 : Shape := ⟨2, ![1024, 512]⟩
abbrev S256x512 : Shape := ⟨2, ![256, 512]⟩
abbrev S1x512 : Shape := ⟨2, ![1, 512]⟩
abbrev S1280 : Shape := ⟨1, ![1280]⟩

abbrev nBuf : Space → Nat
  | .hbm => 34
  | .vmem => 35
  | .smem => 1
  | _ => 0

abbrev bufTy : (tb : Table) → Fin (tcTables nBuf tb) → BufTy
  | .hbm, ⟨0, _⟩ => ⟨S1280x1024, .bf16⟩
  | .hbm, ⟨1, _⟩ => ⟨S7, .i32⟩
  | .hbm, ⟨2, _⟩ => ⟨S1024, .f32⟩
  | .hbm, ⟨3, _⟩ => ⟨S1024x3072, .i8⟩
  | .hbm, ⟨4, _⟩ => ⟨S3072, .f32⟩
  | .hbm, ⟨5, _⟩ => ⟨S1024x4, .f32⟩
  | .hbm, ⟨6, _⟩ => ⟨S1024x1024, .i8⟩
  | .hbm, ⟨7, _⟩ => ⟨S1024, .f32⟩
  | .hbm, ⟨8, _⟩ => ⟨S1024, .f32⟩
  | .hbm, ⟨9, _⟩ => ⟨S1024x2x4608, .i8⟩
  | .hbm, ⟨10, _⟩ => ⟨S2x4608, .f32⟩
  | .hbm, ⟨11, _⟩ => ⟨S4608x1024, .i8⟩
  | .hbm, ⟨12, _⟩ => ⟨S1024, .f32⟩
  | .hbm, ⟨13, _⟩ => ⟨S1x1024, .f32⟩
  | .hbm, ⟨14, _⟩ => ⟨S1x3072, .f32⟩
  | .hbm, ⟨15, _⟩ => ⟨S4x1024, .f32⟩
  | .hbm, ⟨16, _⟩ => ⟨S1x1024, .f32⟩
  | .hbm, ⟨17, _⟩ => ⟨S1x1024, .f32⟩
  | .hbm, ⟨18, _⟩ => ⟨S2x1024x4608, .i8⟩
  | .hbm, ⟨19, _⟩ => ⟨S1x1024, .f32⟩
  | .hbm, ⟨20, _⟩ => ⟨S1280x1024, .bf16⟩
  | .hbm, ⟨21, _⟩ => ⟨S6x3x1024, .bf16⟩
  | .hbm, ⟨22, _⟩ => ⟨S1280x1024, .i8⟩
  | .hbm, ⟨23, _⟩ => ⟨S5x2x128, .f32⟩
  | .hbm, ⟨24, _⟩ => ⟨S1280x1024, .i8⟩
  | .hbm, ⟨25, _⟩ => ⟨S5x2x128, .f32⟩
  | .hbm, ⟨26, _⟩ => ⟨S1280x1024, .i8⟩
  | .hbm, ⟨27, _⟩ => ⟨S5x2x128, .f32⟩
  | .hbm, ⟨28, _⟩ => ⟨S1280x4608, .i8⟩
  | .hbm, ⟨29, _⟩ => ⟨S5x2x128, .f32⟩
  | .hbm, ⟨30, _⟩ => ⟨S1280, .f32⟩
  | .hbm, ⟨31, _⟩ => ⟨S1280, .f32⟩
  | .hbm, ⟨32, _⟩ => ⟨S1280, .f32⟩
  | .hbm, ⟨33, _⟩ => ⟨S1280, .f32⟩
  | .local _ .vmem, ⟨0, _⟩ => ⟨S256x1024, .bf16⟩
  | .local _ .vmem, ⟨1, _⟩ => ⟨S256x1024, .bf16⟩
  | .local _ .vmem, ⟨2, _⟩ => ⟨S1x1024, .f32⟩
  | .local _ .vmem, ⟨3, _⟩ => ⟨S1024x3072, .i8⟩
  | .local _ .vmem, ⟨4, _⟩ => ⟨S1x3072, .f32⟩
  | .local _ .vmem, ⟨5, _⟩ => ⟨S4x1024, .f32⟩
  | .local _ .vmem, ⟨6, _⟩ => ⟨S1024x1024, .i8⟩
  | .local _ .vmem, ⟨7, _⟩ => ⟨S1x1024, .f32⟩
  | .local _ .vmem, ⟨8, _⟩ => ⟨S1x1024, .f32⟩
  | .local _ .vmem, ⟨9, _⟩ => ⟨S2x1024x4608, .i8⟩
  | .local _ .vmem, ⟨10, _⟩ => ⟨S2x4608, .f32⟩
  | .local _ .vmem, ⟨11, _⟩ => ⟨S4608x1024, .i8⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S6x3x1024, .bf16⟩
  | .local _ .vmem, ⟨16, _⟩ => ⟨S256x1024, .i8⟩
  | .local _ .vmem, ⟨17, _⟩ => ⟨S256x1024, .i8⟩
  | .local _ .vmem, ⟨18, _⟩ => ⟨S1x2x128, .f32⟩
  | .local _ .vmem, ⟨19, _⟩ => ⟨S1x2x128, .f32⟩
  | .local _ .vmem, ⟨20, _⟩ => ⟨S256x1024, .i8⟩
  | .local _ .vmem, ⟨21, _⟩ => ⟨S256x1024, .i8⟩
  | .local _ .vmem, ⟨22, _⟩ => ⟨S1x2x128, .f32⟩
  | .local _ .vmem, ⟨23, _⟩ => ⟨S1x2x128, .f32⟩
  | .local _ .vmem, ⟨24, _⟩ => ⟨S256x1024, .i8⟩
  | .local _ .vmem, ⟨25, _⟩ => ⟨S256x1024, .i8⟩
  | .local _ .vmem, ⟨26, _⟩ => ⟨S1x2x128, .f32⟩
  | .local _ .vmem, ⟨27, _⟩ => ⟨S1x2x128, .f32⟩
  | .local _ .vmem, ⟨28, _⟩ => ⟨S256x4608, .i8⟩
  | .local _ .vmem, ⟨29, _⟩ => ⟨S256x4608, .i8⟩
  | .local _ .vmem, ⟨30, _⟩ => ⟨S1x2x128, .f32⟩
  | .local _ .vmem, ⟨31, _⟩ => ⟨S1x2x128, .f32⟩
  | .local _ .vmem, ⟨32, _⟩ => ⟨S264x1024, .f32⟩
  | .local _ .vmem, ⟨33, _⟩ => ⟨S6x8x1024, .f32⟩
  | .local _ .vmem, ⟨34, _⟩ => ⟨S256x4608, .f32⟩
  | .local _ .smem, ⟨0, _⟩ => ⟨S7, .i32⟩
  | _, _ => ⟨S1280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v7_6 : Ref sig .tc := ⟨.hbm, 26, rfl⟩
abbrev main_v7_7 : Ref sig .tc := ⟨.hbm, 27, rfl⟩
abbrev main_v7_8 : Ref sig .tc := ⟨.hbm, 28, rfl⟩
abbrev main_v7_9 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![5], ![false]⟩

def k0_off1 (i : grid0.Coords) (v186 : BitVec 32) : Fin 2 → Nat :=
  let c1279_i32 : BitVec 32 := 1279#32
  let c0_i32_71 : BitVec 32 := 0#32
  let c3_i32_69 : BitVec 32 := 3#32
  let v187 : BitVec 32 := Scalar.subi v186 c3_i32_69
  let c0_i32_70 : BitVec 32 := 0#32
  let v188 : BitVec 32 := Scalar.addi v187 c0_i32_70
  let v189 : BitVec 32 := Scalar.maxsi c0_i32_71 v188
  let v190 : BitVec 32 := Scalar.minsi c1279_i32 v189
  let arg0 : BitVec 32 := BitVec.ofNat 32 (i 0).val
  let c256_i32 : BitVec 32 := 256#32
  let v0 : BitVec 32 := Scalar.muli arg0 c256_i32
  let v191 : BitVec 32 := Scalar.subi v190 v0
  let c8_i32 : BitVec 32 := 8#32
  let v880 : BitVec 32 := Scalar.addi v191 c8_i32
  let v881 : Index := Scalar.indexCast v880
  let c0_432 : Index := 0#32
  ![v881.toNat, 0]
def k0_cond2 (i : grid0.Coords) (v186 : BitVec 32) (v192 : BitVec 32) : BitVec 1 :=
  let c3_i32_69 : BitVec 32 := 3#32
  let v187 : BitVec 32 := Scalar.subi v186 c3_i32_69
  let c0_i32_70 : BitVec 32 := 0#32
  let v188 : BitVec 32 := Scalar.addi v187 c0_i32_70
  let v193 : BitVec 1 := Scalar.cmpi .sge v188 v192
  let c1279_i32 : BitVec 32 := 1279#32
  let c0_i32_71 : BitVec 32 := 0#32
  let v189 : BitVec 32 := Scalar.maxsi c0_i32_71 v188
  let v190 : BitVec 32 := Scalar.minsi c1279_i32 v189
  let arg0 : BitVec 32 := BitVec.ofNat 32 (i 0).val
  let c256_i32 : BitVec 32 := 256#32
  let v0 : BitVec 32 := Scalar.muli arg0 c256_i32
  let v191 : BitVec 32 := Scalar.subi v190 v0
  let c0_i32_73 : BitVec 32 := 0#32
  let v194 : BitVec 1 := Scalar.cmpi .sge v191 c0_i32_73
  let v195 : BitVec 1 := Scalar.andi v193 v194
  let c256_i32_74 : BitVec 32 := 256#32
  let v196 : BitVec 1 := Scalar.cmpi .slt v191 c256_i32_74
  let v197 : BitVec 1 := Scalar.andi v195 v196
  let v198 : BitVec 32 := Scalar.extui v197
  let c0_i32_75 : BitVec 32 := 0#32
  let v199 : BitVec 1 := Scalar.cmpi .ne v198 c0_i32_75
  v199

def k0_chk1 (i : grid0.Coords) (v186 : BitVec 32) (v192 : BitVec 32) : Prop :=
  (∀ (k0_h2 : k0_cond2 i v186 v192 = 1#1), ∀ a, (k0_off1 i v186) a + S1x1024.size a ≤ S264x1024.size a)
theorem k0_off1_inb : ∀ (i : grid0.Coords) (v186 : BitVec 32) (v192 : BitVec 32) (k0_hw1 : k0_chk1 i v186 v192), ∀ (k0_h2 : k0_cond2 i v186 v192 = 1#1), ∀ a, (k0_off1 i v186) a + S1x1024.size a ≤ S264x1024.size a := fun i v186 v192 k0_hw1 k0_h2 => k0_hw1 k0_h2

def k0_off2 (i : grid0.Coords) (v200 : BitVec 32) : Fin 2 → Nat :=
  let c1279_i32_80 : BitVec 32 := 1279#32
  let c0_i32_79 : BitVec 32 := 0#32
  let c3_i32_77 : BitVec 32 := 3#32
  let v201 : BitVec 32 := Scalar.subi v200 c3_i32_77
  let c1_i32_78 : BitVec 32 := 1#32
  let v202 : BitVec 32 := Scalar.addi v201 c1_i32_78
  let v203 : BitVec 32 := Scalar.maxsi c0_i32_79 v202
  let v204 : BitVec 32 := Scalar.minsi c1279_i32_80 v203
  let arg0 : BitVec 32 := BitVec.ofNat 32 (i 0).val
  let c256_i32 : BitVec 32 := 256#32
  let v0 : BitVec 32 := Scalar.muli arg0 c256_i32
  let v205 : BitVec 32 := Scalar.subi v204 v0
  let c8_i32 : BitVec 32 := 8#32
  let v880 : BitVec 32 := Scalar.addi v205 c8_i32
  let v881 : Index := Scalar.indexCast v880
  let c0_432 : Index := 0#32
  ![v881.toNat, 0]
def k0_cond3 (i : grid0.Coords) (v200 : BitVec 32) (v206 : BitVec 32) : BitVec 1 :=
  let c3_i32_77 : BitVec 32 := 3#32
  let v201 : BitVec 32 := Scalar.subi v200 c3_i32_77
  let c1_i32_78 : BitVec 32 := 1#32
  let v202 : BitVec 32 := Scalar.addi v201 c1_i32_78
  let v207 : BitVec 1 := Scalar.cmpi .sge v202 v206
  let c1279_i32_80 : BitVec 32 := 1279#32
  let c0_i32_79 : BitVec 32 := 0#32
  let v203 : BitVec 32 := Scalar.maxsi c0_i32_79 v202
  let v204 : BitVec 32 := Scalar.minsi c1279_i32_80 v203
  let arg0 : BitVec 32 := BitVec.ofNat 32 (i 0).val
  let c256_i32 : BitVec 32 := 256#32
  let v0 : BitVec 32 := Scalar.muli arg0 c256_i32
  let v205 : BitVec 32 := Scalar.subi v204 v0
  let c0_i32_82 : BitVec 32 := 0#32
  let v208 : BitVec 1 := Scalar.cmpi .sge v205 c0_i32_82
  let v209 : BitVec 1 := Scalar.andi v207 v208
  let c256_i32_83 : BitVec 32 := 256#32
  let v210 : BitVec 1 := Scalar.cmpi .slt v205 c256_i32_83
  let v211 : BitVec 1 := Scalar.andi v209 v210
  let v212 : BitVec 32 := Scalar.extui v211
  let c0_i32_84 : BitVec 32 := 0#32
  let v213 : BitVec 1 := Scalar.cmpi .ne v212 c0_i32_84
  v213

def k0_chk2 (i : grid0.Coords) (v200 : BitVec 32) (v206 : BitVec 32) : Prop :=
  (∀ (k0_h3 : k0_cond3 i v200 v206 = 1#1), ∀ a, (k0_off2 i v200) a + S1x1024.size a ≤ S264x1024.size a)
theorem k0_off2_inb : ∀ (i : grid0.Coords) (v200 : BitVec 32) (v206 : BitVec 32) (k0_hw2 : k0_chk2 i v200 v206), ∀ (k0_h3 : k0_cond3 i v200 v206 = 1#1), ∀ a, (k0_off2 i v200) a + S1x1024.size a ≤ S264x1024.size a := fun i v200 v206 k0_hw2 k0_h3 => k0_hw2 k0_h3

def k0_off3 (i : grid0.Coords) (v214 : BitVec 32) : Fin 2 → Nat :=
  let c1279_i32_89 : BitVec 32 := 1279#32
  let c0_i32_88 : BitVec 32 := 0#32
  let c3_i32_86 : BitVec 32 := 3#32
  let v215 : BitVec 32 := Scalar.subi v214 c3_i32_86
  let c2_i32_87 : BitVec 32 := 2#32
  let v216 : BitVec 32 := Scalar.addi v215 c2_i32_87
  let v217 : BitVec 32 := Scalar.maxsi c0_i32_88 v216
  let v218 : BitVec 32 := Scalar.minsi c1279_i32_89 v217
  let arg0 : BitVec 32 := BitVec.ofNat 32 (i 0).val
  let c256_i32 : BitVec 32 := 256#32
  let v0 : BitVec 32 := Scalar.muli arg0 c256_i32
  let v219 : BitVec 32 := Scalar.subi v218 v0
  let c8_i32 : BitVec 32 := 8#32
  let v880 : BitVec 32 := Scalar.addi v219 c8_i32
  let v881 : Index := Scalar.indexCast v880
  let c0_432 : Index := 0#32
  ![v881.toNat, 0]
def k0_cond4 (i : grid0.Coords) (v214 : BitVec 32) (v220 : BitVec 32) : BitVec 1 :=
  let c3_i32_86 : BitVec 32 := 3#32
  let v215 : BitVec 32 := Scalar.subi v214 c3_i32_86
  let c2_i32_87 : BitVec 32 := 2#32
  let v216 : BitVec 32 := Scalar.addi v215 c2_i32_87
  let v221 : BitVec 1 := Scalar.cmpi .sge v216 v220
  let c1279_i32_89 : BitVec 32 := 1279#32
  let c0_i32_88 : BitVec 32 := 0#32
  let v217 : BitVec 32 := Scalar.maxsi c0_i32_88 v216
  let v218 : BitVec 32 := Scalar.minsi c1279_i32_89 v217
  let arg0 : BitVec 32 := BitVec.ofNat 32 (i 0).val
  let c256_i32 : BitVec 32 := 256#32
  let v0 : BitVec 32 := Scalar.muli arg0 c256_i32
  let v219 : BitVec 32 := Scalar.subi v218 v0
  let c0_i32_91 : BitVec 32 := 0#32
  let v222 : BitVec 1 := Scalar.cmpi .sge v219 c0_i32_91
  let v223 : BitVec 1 := Scalar.andi v221 v222
  let c256_i32_92 : BitVec 32 := 256#32
  let v224 : BitVec 1 := Scalar.cmpi .slt v219 c256_i32_92
  let v225 : BitVec 1 := Scalar.andi v223 v224
  let v226 : BitVec 32 := Scalar.extui v225
  let c0_i32_93 : BitVec 32 := 0#32
  let v227 : BitVec 1 := Scalar.cmpi .ne v226 c0_i32_93
  v227

def k0_chk3 (i : grid0.Coords) (v214 : BitVec 32) (v220 : BitVec 32) : Prop :=
  (∀ (k0_h4 : k0_cond4 i v214 v220 = 1#1), ∀ a, (k0_off3 i v214) a + S1x1024.size a ≤ S264x1024.size a)
theorem k0_off3_inb : ∀ (i : grid0.Coords) (v214 : BitVec 32) (v220 : BitVec 32) (k0_hw3 : k0_chk3 i v214 v220), ∀ (k0_h4 : k0_cond4 i v214 v220 = 1#1), ∀ a, (k0_off3 i v214) a + S1x1024.size a ≤ S264x1024.size a := fun i v214 v220 k0_hw3 k0_h4 => k0_hw3 k0_h4

def k0_off4 (i : grid0.Coords) (v228 : BitVec 32) : Fin 2 → Nat :=
  let c1279_i32_98 : BitVec 32 := 1279#32
  let c0_i32_97 : BitVec 32 := 0#32
  let c3_i32_95 : BitVec 32 := 3#32
  let v229 : BitVec 32 := Scalar.subi v228 c3_i32_95
  let c0_i32_96 : BitVec 32 := 0#32
  let v230 : BitVec 32 := Scalar.addi v229 c0_i32_96
  let v231 : BitVec 32 := Scalar.maxsi c0_i32_97 v230
  let v232 : BitVec 32 := Scalar.minsi c1279_i32_98 v231
  let arg0 : BitVec 32 := BitVec.ofNat 32 (i 0).val
  let c256_i32 : BitVec 32 := 256#32
  let v0 : BitVec 32 := Scalar.muli arg0 c256_i32
  let v233 : BitVec 32 := Scalar.subi v232 v0
  let c8_i32 : BitVec 32 := 8#32
  let v880 : BitVec 32 := Scalar.addi v233 c8_i32
  let v881 : Index := Scalar.indexCast v880
  let c0_432 : Index := 0#32
  ![v881.toNat, 0]
def k0_cond5 (i : grid0.Coords) (v228 : BitVec 32) (v234 : BitVec 32) : BitVec 1 :=
  let c3_i32_95 : BitVec 32 := 3#32
  let v229 : BitVec 32 := Scalar.subi v228 c3_i32_95
  let c0_i32_96 : BitVec 32 := 0#32
  let v230 : BitVec 32 := Scalar.addi v229 c0_i32_96
  let v235 : BitVec 1 := Scalar.cmpi .sge v230 v234
  let c1279_i32_98 : BitVec 32 := 1279#32
  let c0_i32_97 : BitVec 32 := 0#32
  let v231 : BitVec 32 := Scalar.maxsi c0_i32_97 v230
  let v232 : BitVec 32 := Scalar.minsi c1279_i32_98 v231
  let arg0 : BitVec 32 := BitVec.ofNat 32 (i 0).val
  let c256_i32 : BitVec 32 := 256#32
  let v0 : BitVec 32 := Scalar.muli arg0 c256_i32
  let v233 : BitVec 32 := Scalar.subi v232 v0
  let c0_i32_100 : BitVec 32 := 0#32
  let v236 : BitVec 1 := Scalar.cmpi .sge v233 c0_i32_100
  let v237 : BitVec 1 := Scalar.andi v235 v236
  let c256_i32_101 : BitVec 32 := 256#32
  let v238 : BitVec 1 := Scalar.cmpi .slt v233 c256_i32_101
  let v239 : BitVec 1 := Scalar.andi v237 v238
  let v240 : BitVec 32 := Scalar.extui v239
  let c0_i32_102 : BitVec 32 := 0#32
  let v241 : BitVec 1 := Scalar.cmpi .ne v240 c0_i32_102
  v241

def k0_chk4 (i : grid0.Coords) (v228 : BitVec 32) (v234 : BitVec 32) : Prop :=
  (∀ (k0_h5 : k0_cond5 i v228 v234 = 1#1), ∀ a, (k0_off4 i v228) a + S1x1024.size a ≤ S264x1024.size a)
theorem k0_off4_inb : ∀ (i : grid0.Coords) (v228 : BitVec 32) (v234 : BitVec 32) (k0_hw4 : k0_chk4 i v228 v234), ∀ (k0_h5 : k0_cond5 i v228 v234 = 1#1), ∀ a, (k0_off4 i v228) a + S1x1024.size a ≤ S264x1024.size a := fun i v228 v234 k0_hw4 k0_h5 => k0_hw4 k0_h5

def k0_off5 (i : grid0.Coords) (v242 : BitVec 32) : Fin 2 → Nat :=
  let c1279_i32_107 : BitVec 32 := 1279#32
  let c0_i32_106 : BitVec 32 := 0#32
  let c3_i32_104 : BitVec 32 := 3#32
  let v243 : BitVec 32 := Scalar.subi v242 c3_i32_104
  let c1_i32_105 : BitVec 32 := 1#32
  let v244 : BitVec 32 := Scalar.addi v243 c1_i32_105
  let v245 : BitVec 32 := Scalar.maxsi c0_i32_106 v244
  let v246 : BitVec 32 := Scalar.minsi c1279_i32_107 v245
  let arg0 : BitVec 32 := BitVec.ofNat 32 (i 0).val
  let c256_i32 : BitVec 32 := 256#32
  let v0 : BitVec 32 := Scalar.muli arg0 c256_i32
  let v247 : BitVec 32 := Scalar.subi v246 v0
  let c8_i32 : BitVec 32 := 8#32
  let v880 : BitVec 32 := Scalar.addi v247 c8_i32
  let v881 : Index := Scalar.indexCast v880
  let c0_432 : Index := 0#32
  ![v881.toNat, 0]
def k0_cond6 (i : grid0.Coords) (v242 : BitVec 32) (v248 : BitVec 32) : BitVec 1 :=
  let c3_i32_104 : BitVec 32 := 3#32
  let v243 : BitVec 32 := Scalar.subi v242 c3_i32_104
  let c1_i32_105 : BitVec 32 := 1#32
  let v244 : BitVec 32 := Scalar.addi v243 c1_i32_105
  let v249 : BitVec 1 := Scalar.cmpi .sge v244 v248
  let c1279_i32_107 : BitVec 32 := 1279#32
  let c0_i32_106 : BitVec 32 := 0#32
  let v245 : BitVec 32 := Scalar.maxsi c0_i32_106 v244
  let v246 : BitVec 32 := Scalar.minsi c1279_i32_107 v245
  let arg0 : BitVec 32 := BitVec.ofNat 32 (i 0).val
  let c256_i32 : BitVec 32 := 256#32
  let v0 : BitVec 32 := Scalar.muli arg0 c256_i32
  let v247 : BitVec 32 := Scalar.subi v246 v0
  let c0_i32_109 : BitVec 32 := 0#32
  let v250 : BitVec 1 := Scalar.cmpi .sge v247 c0_i32_109
  let v251 : BitVec 1 := Scalar.andi v249 v250
  let c256_i32_110 : BitVec 32 := 256#32
  let v252 : BitVec 1 := Scalar.cmpi .slt v247 c256_i32_110
  let v253 : BitVec 1 := Scalar.andi v251 v252
  let v254 : BitVec 32 := Scalar.extui v253
  let c0_i32_111 : BitVec 32 := 0#32
  let v255 : BitVec 1 := Scalar.cmpi .ne v254 c0_i32_111
  v255

def k0_chk5 (i : grid0.Coords) (v242 : BitVec 32) (v248 : BitVec 32) : Prop :=
  (∀ (k0_h6 : k0_cond6 i v242 v248 = 1#1), ∀ a, (k0_off5 i v242) a + S1x1024.size a ≤ S264x1024.size a)
theorem k0_off5_inb : ∀ (i : grid0.Coords) (v242 : BitVec 32) (v248 : BitVec 32) (k0_hw5 : k0_chk5 i v242 v248), ∀ (k0_h6 : k0_cond6 i v242 v248 = 1#1), ∀ a, (k0_off5 i v242) a + S1x1024.size a ≤ S264x1024.size a := fun i v242 v248 k0_hw5 k0_h6 => k0_hw5 k0_h6

def k0_off6 (i : grid0.Coords) (v256 : BitVec 32) : Fin 2 → Nat :=
  let c1279_i32_116 : BitVec 32 := 1279#32
  let c0_i32_115 : BitVec 32 := 0#32
  let c3_i32_113 : BitVec 32 := 3#32
  let v257 : BitVec 32 := Scalar.subi v256 c3_i32_113
  let c2_i32_114 : BitVec 32 := 2#32
  let v258 : BitVec 32 := Scalar.addi v257 c2_i32_114
  let v259 : BitVec 32 := Scalar.maxsi c0_i32_115 v258
  let v260 : BitVec 32 := Scalar.minsi c1279_i32_116 v259
  let arg0 : BitVec 32 := BitVec.ofNat 32 (i 0).val
  let c256_i32 : BitVec 32 := 256#32
  let v0 : BitVec 32 := Scalar.muli arg0 c256_i32
  let v261 : BitVec 32 := Scalar.subi v260 v0
  let c8_i32 : BitVec 32 := 8#32
  let v880 : BitVec 32 := Scalar.addi v261 c8_i32
  let v881 : Index := Scalar.indexCast v880
  let c0_432 : Index := 0#32
  ![v881.toNat, 0]
def k0_cond7 (i : grid0.Coords) (v256 : BitVec 32) (v262 : BitVec 32) : BitVec 1 :=
  let c3_i32_113 : BitVec 32 := 3#32
  let v257 : BitVec 32 := Scalar.subi v256 c3_i32_113
  let c2_i32_114 : BitVec 32 := 2#32
  let v258 : BitVec 32 := Scalar.addi v257 c2_i32_114
  let v263 : BitVec 1 := Scalar.cmpi .sge v258 v262
  let c1279_i32_116 : BitVec 32 := 1279#32
  let c0_i32_115 : BitVec 32 := 0#32
  let v259 : BitVec 32 := Scalar.maxsi c0_i32_115 v258
  let v260 : BitVec 32 := Scalar.minsi c1279_i32_116 v259
  let arg0 : BitVec 32 := BitVec.ofNat 32 (i 0).val
  let c256_i32 : BitVec 32 := 256#32
  let v0 : BitVec 32 := Scalar.muli arg0 c256_i32
  let v261 : BitVec 32 := Scalar.subi v260 v0
  let c0_i32_118 : BitVec 32 := 0#32
  let v264 : BitVec 1 := Scalar.cmpi .sge v261 c0_i32_118
  let v265 : BitVec 1 := Scalar.andi v263 v264
  let c256_i32_119 : BitVec 32 := 256#32
  let v266 : BitVec 1 := Scalar.cmpi .slt v261 c256_i32_119
  let v267 : BitVec 1 := Scalar.andi v265 v266
  let v268 : BitVec 32 := Scalar.extui v267
  let c0_i32_120 : BitVec 32 := 0#32
  let v269 : BitVec 1 := Scalar.cmpi .ne v268 c0_i32_120
  v269

def k0_chk6 (i : grid0.Coords) (v256 : BitVec 32) (v262 : BitVec 32) : Prop :=
  (∀ (k0_h7 : k0_cond7 i v256 v262 = 1#1), ∀ a, (k0_off6 i v256) a + S1x1024.size a ≤ S264x1024.size a)
theorem k0_off6_inb : ∀ (i : grid0.Coords) (v256 : BitVec 32) (v262 : BitVec 32) (k0_hw6 : k0_chk6 i v256 v262), ∀ (k0_h7 : k0_cond7 i v256 v262 = 1#1), ∀ a, (k0_off6 i v256) a + S1x1024.size a ≤ S264x1024.size a := fun i v256 v262 k0_hw6 k0_h7 => k0_hw6 k0_h7

def k0_off7 (i : grid0.Coords) (v270 : BitVec 32) : Fin 2 → Nat :=
  let c1279_i32_125 : BitVec 32 := 1279#32
  let c0_i32_124 : BitVec 32 := 0#32
  let c3_i32_122 : BitVec 32 := 3#32
  let v271 : BitVec 32 := Scalar.subi v270 c3_i32_122
  let c0_i32_123 : BitVec 32 := 0#32
  let v272 : BitVec 32 := Scalar.addi v271 c0_i32_123
  let v273 : BitVec 32 := Scalar.maxsi c0_i32_124 v272
  let v274 : BitVec 32 := Scalar.minsi c1279_i32_125 v273
  let arg0 : BitVec 32 := BitVec.ofNat 32 (i 0).val
  let c256_i32 : BitVec 32 := 256#32
  let v0 : BitVec 32 := Scalar.muli arg0 c256_i32
  let v275 : BitVec 32 := Scalar.subi v274 v0
  let c8_i32 : BitVec 32 := 8#32
  let v880 : BitVec 32 := Scalar.addi v275 c8_i32
  let v881 : Index := Scalar.indexCast v880
  let c0_432 : Index := 0#32
  ![v881.toNat, 0]
def k0_cond8 (i : grid0.Coords) (v270 : BitVec 32) (v276 : BitVec 32) : BitVec 1 :=
  let c3_i32_122 : BitVec 32 := 3#32
  let v271 : BitVec 32 := Scalar.subi v270 c3_i32_122
  let c0_i32_123 : BitVec 32 := 0#32
  let v272 : BitVec 32 := Scalar.addi v271 c0_i32_123
  let v277 : BitVec 1 := Scalar.cmpi .sge v272 v276
  let c1279_i32_125 : BitVec 32 := 1279#32
  let c0_i32_124 : BitVec 32 := 0#32
  let v273 : BitVec 32 := Scalar.maxsi c0_i32_124 v272
  let v274 : BitVec 32 := Scalar.minsi c1279_i32_125 v273
  let arg0 : BitVec 32 := BitVec.ofNat 32 (i 0).val
  let c256_i32 : BitVec 32 := 256#32
  let v0 : BitVec 32 := Scalar.muli arg0 c256_i32
  let v275 : BitVec 32 := Scalar.subi v274 v0
  let c0_i32_127 : BitVec 32 := 0#32
  let v278 : BitVec 1 := Scalar.cmpi .sge v275 c0_i32_127
  let v279 : BitVec 1 := Scalar.andi v277 v278
  let c256_i32_128 : BitVec 32 := 256#32
  let v280 : BitVec 1 := Scalar.cmpi .slt v275 c256_i32_128
  let v281 : BitVec 1 := Scalar.andi v279 v280
  let v282 : BitVec 32 := Scalar.extui v281
  let c0_i32_129 : BitVec 32 := 0#32
  let v283 : BitVec 1 := Scalar.cmpi .ne v282 c0_i32_129
  v283

def k0_chk7 (i : grid0.Coords) (v270 : BitVec 32) (v276 : BitVec 32) : Prop :=
  (∀ (k0_h8 : k0_cond8 i v270 v276 = 1#1), ∀ a, (k0_off7 i v270) a + S1x1024.size a ≤ S264x1024.size a)
theorem k0_off7_inb : ∀ (i : grid0.Coords) (v270 : BitVec 32) (v276 : BitVec 32) (k0_hw7 : k0_chk7 i v270 v276), ∀ (k0_h8 : k0_cond8 i v270 v276 = 1#1), ∀ a, (k0_off7 i v270) a + S1x1024.size a ≤ S264x1024.size a := fun i v270 v276 k0_hw7 k0_h8 => k0_hw7 k0_h8

def k0_off8 (i : grid0.Coords) (v284 : BitVec 32) : Fin 2 → Nat :=
  let c1279_i32_134 : BitVec 32 := 1279#32
  let c0_i32_133 : BitVec 32 := 0#32
  let c3_i32_131 : BitVec 32 := 3#32
  let v285 : BitVec 32 := Scalar.subi v284 c3_i32_131
  let c1_i32_132 : BitVec 32 := 1#32
  let v286 : BitVec 32 := Scalar.addi v285 c1_i32_132
  let v287 : BitVec 32 := Scalar.maxsi c0_i32_133 v286
  let v288 : BitVec 32 := Scalar.minsi c1279_i32_134 v287
  let arg0 : BitVec 32 := BitVec.ofNat 32 (i 0).val
  let c256_i32 : BitVec 32 := 256#32
  let v0 : BitVec 32 := Scalar.muli arg0 c256_i32
  let v289 : BitVec 32 := Scalar.subi v288 v0
  let c8_i32 : BitVec 32 := 8#32
  let v880 : BitVec 32 := Scalar.addi v289 c8_i32
  let v881 : Index := Scalar.indexCast v880
  let c0_432 : Index := 0#32
  ![v881.toNat, 0]
def k0_cond9 (i : grid0.Coords) (v284 : BitVec 32) (v290 : BitVec 32) : BitVec 1 :=
  let c3_i32_131 : BitVec 32 := 3#32
  let v285 : BitVec 32 := Scalar.subi v284 c3_i32_131
  let c1_i32_132 : BitVec 32 := 1#32
  let v286 : BitVec 32 := Scalar.addi v285 c1_i32_132
  let v291 : BitVec 1 := Scalar.cmpi .sge v286 v290
  let c1279_i32_134 : BitVec 32 := 1279#32
  let c0_i32_133 : BitVec 32 := 0#32
  let v287 : BitVec 32 := Scalar.maxsi c0_i32_133 v286
  let v288 : BitVec 32 := Scalar.minsi c1279_i32_134 v287
  let arg0 : BitVec 32 := BitVec.ofNat 32 (i 0).val
  let c256_i32 : BitVec 32 := 256#32
  let v0 : BitVec 32 := Scalar.muli arg0 c256_i32
  let v289 : BitVec 32 := Scalar.subi v288 v0
  let c0_i32_136 : BitVec 32 := 0#32
  let v292 : BitVec 1 := Scalar.cmpi .sge v289 c0_i32_136
  let v293 : BitVec 1 := Scalar.andi v291 v292
  let c256_i32_137 : BitVec 32 := 256#32
  let v294 : BitVec 1 := Scalar.cmpi .slt v289 c256_i32_137
  let v295 : BitVec 1 := Scalar.andi v293 v294
  let v296 : BitVec 32 := Scalar.extui v295
  let c0_i32_138 : BitVec 32 := 0#32
  let v297 : BitVec 1 := Scalar.cmpi .ne v296 c0_i32_138
  v297

def k0_chk8 (i : grid0.Coords) (v284 : BitVec 32) (v290 : BitVec 32) : Prop :=
  (∀ (k0_h9 : k0_cond9 i v284 v290 = 1#1), ∀ a, (k0_off8 i v284) a + S1x1024.size a ≤ S264x1024.size a)
theorem k0_off8_inb : ∀ (i : grid0.Coords) (v284 : BitVec 32) (v290 : BitVec 32) (k0_hw8 : k0_chk8 i v284 v290), ∀ (k0_h9 : k0_cond9 i v284 v290 = 1#1), ∀ a, (k0_off8 i v284) a + S1x1024.size a ≤ S264x1024.size a := fun i v284 v290 k0_hw8 k0_h9 => k0_hw8 k0_h9

def k0_off9 (i : grid0.Coords) (v298 : BitVec 32) : Fin 2 → Nat :=
  let c1279_i32_143 : BitVec 32 := 1279#32
  let c0_i32_142 : BitVec 32 := 0#32
  let c3_i32_140 : BitVec 32 := 3#32
  let v299 : BitVec 32 := Scalar.subi v298 c3_i32_140
  let c2_i32_141 : BitVec 32 := 2#32
  let v300 : BitVec 32 := Scalar.addi v299 c2_i32_141
  let v301 : BitVec 32 := Scalar.maxsi c0_i32_142 v300
  let v302 : BitVec 32 := Scalar.minsi c1279_i32_143 v301
  let arg0 : BitVec 32 := BitVec.ofNat 32 (i 0).val
  let c256_i32 : BitVec 32 := 256#32
  let v0 : BitVec 32 := Scalar.muli arg0 c256_i32
  let v303 : BitVec 32 := Scalar.subi v302 v0
  let c8_i32 : BitVec 32 := 8#32
  let v880 : BitVec 32 := Scalar.addi v303 c8_i32
  let v881 : Index := Scalar.indexCast v880
  let c0_432 : Index := 0#32
  ![v881.toNat, 0]
def k0_cond10 (i : grid0.Coords) (v298 : BitVec 32) (v304 : BitVec 32) : BitVec 1 :=
  let c3_i32_140 : BitVec 32 := 3#32
  let v299 : BitVec 32 := Scalar.subi v298 c3_i32_140
  let c2_i32_141 : BitVec 32 := 2#32
  let v300 : BitVec 32 := Scalar.addi v299 c2_i32_141
  let v305 : BitVec 1 := Scalar.cmpi .sge v300 v304
  let c1279_i32_143 : BitVec 32 := 1279#32
  let c0_i32_142 : BitVec 32 := 0#32
  let v301 : BitVec 32 := Scalar.maxsi c0_i32_142 v300
  let v302 : BitVec 32 := Scalar.minsi c1279_i32_143 v301
  let arg0 : BitVec 32 := BitVec.ofNat 32 (i 0).val
  let c256_i32 : BitVec 32 := 256#32
  let v0 : BitVec 32 := Scalar.muli arg0 c256_i32
  let v303 : BitVec 32 := Scalar.subi v302 v0
  let c0_i32_145 : BitVec 32 := 0#32
  let v306 : BitVec 1 := Scalar.cmpi .sge v303 c0_i32_145
  let v307 : BitVec 1 := Scalar.andi v305 v306
  let c256_i32_146 : BitVec 32 := 256#32
  let v308 : BitVec 1 := Scalar.cmpi .slt v303 c256_i32_146
  let v309 : BitVec 1 := Scalar.andi v307 v308
  let v310 : BitVec 32 := Scalar.extui v309
  let c0_i32_147 : BitVec 32 := 0#32
  let v311 : BitVec 1 := Scalar.cmpi .ne v310 c0_i32_147
  v311

def k0_chk9 (i : grid0.Coords) (v298 : BitVec 32) (v304 : BitVec 32) : Prop :=
  (∀ (k0_h10 : k0_cond10 i v298 v304 = 1#1), ∀ a, (k0_off9 i v298) a + S1x1024.size a ≤ S264x1024.size a)
theorem k0_off9_inb : ∀ (i : grid0.Coords) (v298 : BitVec 32) (v304 : BitVec 32) (k0_hw9 : k0_chk9 i v298 v304), ∀ (k0_h10 : k0_cond10 i v298 v304 = 1#1), ∀ a, (k0_off9 i v298) a + S1x1024.size a ≤ S264x1024.size a := fun i v298 v304 k0_hw9 k0_h10 => k0_hw9 k0_h10

def k0_off10 (i : grid0.Coords) (v312 : BitVec 32) : Fin 2 → Nat :=
  let c1279_i32_152 : BitVec 32 := 1279#32
  let c0_i32_151 : BitVec 32 := 0#32
  let c3_i32_149 : BitVec 32 := 3#32
  let v313 : BitVec 32 := Scalar.subi v312 c3_i32_149
  let c0_i32_150 : BitVec 32 := 0#32
  let v314 : BitVec 32 := Scalar.addi v313 c0_i32_150
  let v315 : BitVec 32 := Scalar.maxsi c0_i32_151 v314
  let v316 : BitVec 32 := Scalar.minsi c1279_i32_152 v315
  let arg0 : BitVec 32 := BitVec.ofNat 32 (i 0).val
  let c256_i32 : BitVec 32 := 256#32
  let v0 : BitVec 32 := Scalar.muli arg0 c256_i32
  let v317 : BitVec 32 := Scalar.subi v316 v0
  let c8_i32 : BitVec 32 := 8#32
  let v880 : BitVec 32 := Scalar.addi v317 c8_i32
  let v881 : Index := Scalar.indexCast v880
  let c0_432 : Index := 0#32
  ![v881.toNat, 0]
def k0_cond11 (i : grid0.Coords) (v312 : BitVec 32) (v318 : BitVec 32) : BitVec 1 :=
  let c3_i32_149 : BitVec 32 := 3#32
  let v313 : BitVec 32 := Scalar.subi v312 c3_i32_149
  let c0_i32_150 : BitVec 32 := 0#32
  let v314 : BitVec 32 := Scalar.addi v313 c0_i32_150
  let v319 : BitVec 1 := Scalar.cmpi .sge v314 v318
  let c1279_i32_152 : BitVec 32 := 1279#32
  let c0_i32_151 : BitVec 32 := 0#32
  let v315 : BitVec 32 := Scalar.maxsi c0_i32_151 v314
  let v316 : BitVec 32 := Scalar.minsi c1279_i32_152 v315
  let arg0 : BitVec 32 := BitVec.ofNat 32 (i 0).val
  let c256_i32 : BitVec 32 := 256#32
  let v0 : BitVec 32 := Scalar.muli arg0 c256_i32
  let v317 : BitVec 32 := Scalar.subi v316 v0
  let c0_i32_154 : BitVec 32 := 0#32
  let v320 : BitVec 1 := Scalar.cmpi .sge v317 c0_i32_154
  let v321 : BitVec 1 := Scalar.andi v319 v320
  let c256_i32_155 : BitVec 32 := 256#32
  let v322 : BitVec 1 := Scalar.cmpi .slt v317 c256_i32_155
  let v323 : BitVec 1 := Scalar.andi v321 v322
  let v324 : BitVec 32 := Scalar.extui v323
  let c0_i32_156 : BitVec 32 := 0#32
  let v325 : BitVec 1 := Scalar.cmpi .ne v324 c0_i32_156
  v325

def k0_chk10 (i : grid0.Coords) (v312 : BitVec 32) (v318 : BitVec 32) : Prop :=
  (∀ (k0_h11 : k0_cond11 i v312 v318 = 1#1), ∀ a, (k0_off10 i v312) a + S1x1024.size a ≤ S264x1024.size a)
theorem k0_off10_inb : ∀ (i : grid0.Coords) (v312 : BitVec 32) (v318 : BitVec 32) (k0_hw10 : k0_chk10 i v312 v318), ∀ (k0_h11 : k0_cond11 i v312 v318 = 1#1), ∀ a, (k0_off10 i v312) a + S1x1024.size a ≤ S264x1024.size a := fun i v312 v318 k0_hw10 k0_h11 => k0_hw10 k0_h11

def k0_off11 (i : grid0.Coords) (v326 : BitVec 32) : Fin 2 → Nat :=
  let c1279_i32_161 : BitVec 32 := 1279#32
  let c0_i32_160 : BitVec 32 := 0#32
  let c3_i32_158 : BitVec 32 := 3#32
  let v327 : BitVec 32 := Scalar.subi v326 c3_i32_158
  let c1_i32_159 : BitVec 32 := 1#32
  let v328 : BitVec 32 := Scalar.addi v327 c1_i32_159
  let v329 : BitVec 32 := Scalar.maxsi c0_i32_160 v328
  let v330 : BitVec 32 := Scalar.minsi c1279_i32_161 v329
  let arg0 : BitVec 32 := BitVec.ofNat 32 (i 0).val
  let c256_i32 : BitVec 32 := 256#32
  let v0 : BitVec 32 := Scalar.muli arg0 c256_i32
  let v331 : BitVec 32 := Scalar.subi v330 v0
  let c8_i32 : BitVec 32 := 8#32
  let v880 : BitVec 32 := Scalar.addi v331 c8_i32
  let v881 : Index := Scalar.indexCast v880
  let c0_432 : Index := 0#32
  ![v881.toNat, 0]
def k0_cond12 (i : grid0.Coords) (v326 : BitVec 32) (v332 : BitVec 32) : BitVec 1 :=
  let c3_i32_158 : BitVec 32 := 3#32
  let v327 : BitVec 32 := Scalar.subi v326 c3_i32_158
  let c1_i32_159 : BitVec 32 := 1#32
  let v328 : BitVec 32 := Scalar.addi v327 c1_i32_159
  let v333 : BitVec 1 := Scalar.cmpi .sge v328 v332
  let c1279_i32_161 : BitVec 32 := 1279#32
  let c0_i32_160 : BitVec 32 := 0#32
  let v329 : BitVec 32 := Scalar.maxsi c0_i32_160 v328
  let v330 : BitVec 32 := Scalar.minsi c1279_i32_161 v329
  let arg0 : BitVec 32 := BitVec.ofNat 32 (i 0).val
  let c256_i32 : BitVec 32 := 256#32
  let v0 : BitVec 32 := Scalar.muli arg0 c256_i32
  let v331 : BitVec 32 := Scalar.subi v330 v0
  let c0_i32_163 : BitVec 32 := 0#32
  let v334 : BitVec 1 := Scalar.cmpi .sge v331 c0_i32_163
  let v335 : BitVec 1 := Scalar.andi v333 v334
  let c256_i32_164 : BitVec 32 := 256#32
  let v336 : BitVec 1 := Scalar.cmpi .slt v331 c256_i32_164
  let v337 : BitVec 1 := Scalar.andi v335 v336
  let v338 : BitVec 32 := Scalar.extui v337
  let c0_i32_165 : BitVec 32 := 0#32
  let v339 : BitVec 1 := Scalar.cmpi .ne v338 c0_i32_165
  v339

def k0_chk11 (i : grid0.Coords) (v326 : BitVec 32) (v332 : BitVec 32) : Prop :=
  (∀ (k0_h12 : k0_cond12 i v326 v332 = 1#1), ∀ a, (k0_off11 i v326) a + S1x1024.size a ≤ S264x1024.size a)
theorem k0_off11_inb : ∀ (i : grid0.Coords) (v326 : BitVec 32) (v332 : BitVec 32) (k0_hw11 : k0_chk11 i v326 v332), ∀ (k0_h12 : k0_cond12 i v326 v332 = 1#1), ∀ a, (k0_off11 i v326) a + S1x1024.size a ≤ S264x1024.size a := fun i v326 v332 k0_hw11 k0_h12 => k0_hw11 k0_h12

def k0_off12 (i : grid0.Coords) (v340 : BitVec 32) : Fin 2 → Nat :=
  let c1279_i32_170 : BitVec 32 := 1279#32
  let c0_i32_169 : BitVec 32 := 0#32
  let c3_i32_167 : BitVec 32 := 3#32
  let v341 : BitVec 32 := Scalar.subi v340 c3_i32_167
  let c2_i32_168 : BitVec 32 := 2#32
  let v342 : BitVec 32 := Scalar.addi v341 c2_i32_168
  let v343 : BitVec 32 := Scalar.maxsi c0_i32_169 v342
  let v344 : BitVec 32 := Scalar.minsi c1279_i32_170 v343
  let arg0 : BitVec 32 := BitVec.ofNat 32 (i 0).val
  let c256_i32 : BitVec 32 := 256#32
  let v0 : BitVec 32 := Scalar.muli arg0 c256_i32
  let v345 : BitVec 32 := Scalar.subi v344 v0
  let c8_i32 : BitVec 32 := 8#32
  let v880 : BitVec 32 := Scalar.addi v345 c8_i32
  let v881 : Index := Scalar.indexCast v880
  let c0_432 : Index := 0#32
  ![v881.toNat, 0]
def k0_cond13 (i : grid0.Coords) (v340 : BitVec 32) (v346 : BitVec 32) : BitVec 1 :=
  let c3_i32_167 : BitVec 32 := 3#32
  let v341 : BitVec 32 := Scalar.subi v340 c3_i32_167
  let c2_i32_168 : BitVec 32 := 2#32
  let v342 : BitVec 32 := Scalar.addi v341 c2_i32_168
  let v347 : BitVec 1 := Scalar.cmpi .sge v342 v346
  let c1279_i32_170 : BitVec 32 := 1279#32
  let c0_i32_169 : BitVec 32 := 0#32
  let v343 : BitVec 32 := Scalar.maxsi c0_i32_169 v342
  let v344 : BitVec 32 := Scalar.minsi c1279_i32_170 v343
  let arg0 : BitVec 32 := BitVec.ofNat 32 (i 0).val
  let c256_i32 : BitVec 32 := 256#32
  let v0 : BitVec 32 := Scalar.muli arg0 c256_i32
  let v345 : BitVec 32 := Scalar.subi v344 v0
  let c0_i32_172 : BitVec 32 := 0#32
  let v348 : BitVec 1 := Scalar.cmpi .sge v345 c0_i32_172
  let v349 : BitVec 1 := Scalar.andi v347 v348
  let c256_i32_173 : BitVec 32 := 256#32
  let v350 : BitVec 1 := Scalar.cmpi .slt v345 c256_i32_173
  let v351 : BitVec 1 := Scalar.andi v349 v350
  let v352 : BitVec 32 := Scalar.extui v351
  let c0_i32_174 : BitVec 32 := 0#32
  let v353 : BitVec 1 := Scalar.cmpi .ne v352 c0_i32_174
  v353

def k0_chk12 (i : grid0.Coords) (v340 : BitVec 32) (v346 : BitVec 32) : Prop :=
  (∀ (k0_h13 : k0_cond13 i v340 v346 = 1#1), ∀ a, (k0_off12 i v340) a + S1x1024.size a ≤ S264x1024.size a)
theorem k0_off12_inb : ∀ (i : grid0.Coords) (v340 : BitVec 32) (v346 : BitVec 32) (k0_hw12 : k0_chk12 i v340 v346), ∀ (k0_h13 : k0_cond13 i v340 v346 = 1#1), ∀ a, (k0_off12 i v340) a + S1x1024.size a ≤ S264x1024.size a := fun i v340 v346 k0_hw12 k0_h13 => k0_hw12 k0_h13

def k0_off13 (i : grid0.Coords) (v354 : BitVec 32) : Fin 2 → Nat :=
  let c1279_i32_179 : BitVec 32 := 1279#32
  let c0_i32_178 : BitVec 32 := 0#32
  let c3_i32_176 : BitVec 32 := 3#32
  let v355 : BitVec 32 := Scalar.subi v354 c3_i32_176
  let c0_i32_177 : BitVec 32 := 0#32
  let v356 : BitVec 32 := Scalar.addi v355 c0_i32_177
  let v357 : BitVec 32 := Scalar.maxsi c0_i32_178 v356
  let v358 : BitVec 32 := Scalar.minsi c1279_i32_179 v357
  let arg0 : BitVec 32 := BitVec.ofNat 32 (i 0).val
  let c256_i32 : BitVec 32 := 256#32
  let v0 : BitVec 32 := Scalar.muli arg0 c256_i32
  let v359 : BitVec 32 := Scalar.subi v358 v0
  let c8_i32 : BitVec 32 := 8#32
  let v880 : BitVec 32 := Scalar.addi v359 c8_i32
  let v881 : Index := Scalar.indexCast v880
  let c0_432 : Index := 0#32
  ![v881.toNat, 0]
def k0_cond14 (i : grid0.Coords) (v354 : BitVec 32) (v360 : BitVec 32) : BitVec 1 :=
  let c3_i32_176 : BitVec 32 := 3#32
  let v355 : BitVec 32 := Scalar.subi v354 c3_i32_176
  let c0_i32_177 : BitVec 32 := 0#32
  let v356 : BitVec 32 := Scalar.addi v355 c0_i32_177
  let v361 : BitVec 1 := Scalar.cmpi .sge v356 v360
  let c1279_i32_179 : BitVec 32 := 1279#32
  let c0_i32_178 : BitVec 32 := 0#32
  let v357 : BitVec 32 := Scalar.maxsi c0_i32_178 v356
  let v358 : BitVec 32 := Scalar.minsi c1279_i32_179 v357
  let arg0 : BitVec 32 := BitVec.ofNat 32 (i 0).val
  let c256_i32 : BitVec 32 := 256#32
  let v0 : BitVec 32 := Scalar.muli arg0 c256_i32
  let v359 : BitVec 32 := Scalar.subi v358 v0
  let c0_i32_181 : BitVec 32 := 0#32
  let v362 : BitVec 1 := Scalar.cmpi .sge v359 c0_i32_181
  let v363 : BitVec 1 := Scalar.andi v361 v362
  let c256_i32_182 : BitVec 32 := 256#32
  let v364 : BitVec 1 := Scalar.cmpi .slt v359 c256_i32_182
  let v365 : BitVec 1 := Scalar.andi v363 v364
  let v366 : BitVec 32 := Scalar.extui v365
  let c0_i32_183 : BitVec 32 := 0#32
  let v367 : BitVec 1 := Scalar.cmpi .ne v366 c0_i32_183
  v367

def k0_chk13 (i : grid0.Coords) (v354 : BitVec 32) (v360 : BitVec 32) : Prop :=
  (∀ (k0_h14 : k0_cond14 i v354 v360 = 1#1), ∀ a, (k0_off13 i v354) a + S1x1024.size a ≤ S264x1024.size a)
theorem k0_off13_inb : ∀ (i : grid0.Coords) (v354 : BitVec 32) (v360 : BitVec 32) (k0_hw13 : k0_chk13 i v354 v360), ∀ (k0_h14 : k0_cond14 i v354 v360 = 1#1), ∀ a, (k0_off13 i v354) a + S1x1024.size a ≤ S264x1024.size a := fun i v354 v360 k0_hw13 k0_h14 => k0_hw13 k0_h14

def k0_off14 (i : grid0.Coords) (v368 : BitVec 32) : Fin 2 → Nat :=
  let c1279_i32_188 : BitVec 32 := 1279#32
  let c0_i32_187 : BitVec 32 := 0#32
  let c3_i32_185 : BitVec 32 := 3#32
  let v369 : BitVec 32 := Scalar.subi v368 c3_i32_185
  let c1_i32_186 : BitVec 32 := 1#32
  let v370 : BitVec 32 := Scalar.addi v369 c1_i32_186
  let v371 : BitVec 32 := Scalar.maxsi c0_i32_187 v370
  let v372 : BitVec 32 := Scalar.minsi c1279_i32_188 v371
  let arg0 : BitVec 32 := BitVec.ofNat 32 (i 0).val
  let c256_i32 : BitVec 32 := 256#32
  let v0 : BitVec 32 := Scalar.muli arg0 c256_i32
  let v373 : BitVec 32 := Scalar.subi v372 v0
  let c8_i32 : BitVec 32 := 8#32
  let v880 : BitVec 32 := Scalar.addi v373 c8_i32
  let v881 : Index := Scalar.indexCast v880
  let c0_432 : Index := 0#32
  ![v881.toNat, 0]
def k0_cond15 (i : grid0.Coords) (v368 : BitVec 32) (v374 : BitVec 32) : BitVec 1 :=
  let c3_i32_185 : BitVec 32 := 3#32
  let v369 : BitVec 32 := Scalar.subi v368 c3_i32_185
  let c1_i32_186 : BitVec 32 := 1#32
  let v370 : BitVec 32 := Scalar.addi v369 c1_i32_186
  let v375 : BitVec 1 := Scalar.cmpi .sge v370 v374
  let c1279_i32_188 : BitVec 32 := 1279#32
  let c0_i32_187 : BitVec 32 := 0#32
  let v371 : BitVec 32 := Scalar.maxsi c0_i32_187 v370
  let v372 : BitVec 32 := Scalar.minsi c1279_i32_188 v371
  let arg0 : BitVec 32 := BitVec.ofNat 32 (i 0).val
  let c256_i32 : BitVec 32 := 256#32
  let v0 : BitVec 32 := Scalar.muli arg0 c256_i32
  let v373 : BitVec 32 := Scalar.subi v372 v0
  let c0_i32_190 : BitVec 32 := 0#32
  let v376 : BitVec 1 := Scalar.cmpi .sge v373 c0_i32_190
  let v377 : BitVec 1 := Scalar.andi v375 v376
  let c256_i32_191 : BitVec 32 := 256#32
  let v378 : BitVec 1 := Scalar.cmpi .slt v373 c256_i32_191
  let v379 : BitVec 1 := Scalar.andi v377 v378
  let v380 : BitVec 32 := Scalar.extui v379
  let c0_i32_192 : BitVec 32 := 0#32
  let v381 : BitVec 1 := Scalar.cmpi .ne v380 c0_i32_192
  v381

def k0_chk14 (i : grid0.Coords) (v368 : BitVec 32) (v374 : BitVec 32) : Prop :=
  (∀ (k0_h15 : k0_cond15 i v368 v374 = 1#1), ∀ a, (k0_off14 i v368) a + S1x1024.size a ≤ S264x1024.size a)
theorem k0_off14_inb : ∀ (i : grid0.Coords) (v368 : BitVec 32) (v374 : BitVec 32) (k0_hw14 : k0_chk14 i v368 v374), ∀ (k0_h15 : k0_cond15 i v368 v374 = 1#1), ∀ a, (k0_off14 i v368) a + S1x1024.size a ≤ S264x1024.size a := fun i v368 v374 k0_hw14 k0_h15 => k0_hw14 k0_h15

def k0_off15 (i : grid0.Coords) (v382 : BitVec 32) : Fin 2 → Nat :=
  let c1279_i32_197 : BitVec 32 := 1279#32
  let c0_i32_196 : BitVec 32 := 0#32
  let c3_i32_194 : BitVec 32 := 3#32
  let v383 : BitVec 32 := Scalar.subi v382 c3_i32_194
  let c2_i32_195 : BitVec 32 := 2#32
  let v384 : BitVec 32 := Scalar.addi v383 c2_i32_195
  let v385 : BitVec 32 := Scalar.maxsi c0_i32_196 v384
  let v386 : BitVec 32 := Scalar.minsi c1279_i32_197 v385
  let arg0 : BitVec 32 := BitVec.ofNat 32 (i 0).val
  let c256_i32 : BitVec 32 := 256#32
  let v0 : BitVec 32 := Scalar.muli arg0 c256_i32
  let v387 : BitVec 32 := Scalar.subi v386 v0
  let c8_i32 : BitVec 32 := 8#32
  let v880 : BitVec 32 := Scalar.addi v387 c8_i32
  let v881 : Index := Scalar.indexCast v880
  let c0_432 : Index := 0#32
  ![v881.toNat, 0]
def k0_cond16 (i : grid0.Coords) (v382 : BitVec 32) (v388 : BitVec 32) : BitVec 1 :=
  let c3_i32_194 : BitVec 32 := 3#32
  let v383 : BitVec 32 := Scalar.subi v382 c3_i32_194
  let c2_i32_195 : BitVec 32 := 2#32
  let v384 : BitVec 32 := Scalar.addi v383 c2_i32_195
  let v389 : BitVec 1 := Scalar.cmpi .sge v384 v388
  let c1279_i32_197 : BitVec 32 := 1279#32
  let c0_i32_196 : BitVec 32 := 0#32
  let v385 : BitVec 32 := Scalar.maxsi c0_i32_196 v384
  let v386 : BitVec 32 := Scalar.minsi c1279_i32_197 v385
  let arg0 : BitVec 32 := BitVec.ofNat 32 (i 0).val
  let c256_i32 : BitVec 32 := 256#32
  let v0 : BitVec 32 := Scalar.muli arg0 c256_i32
  let v387 : BitVec 32 := Scalar.subi v386 v0
  let c0_i32_199 : BitVec 32 := 0#32
  let v390 : BitVec 1 := Scalar.cmpi .sge v387 c0_i32_199
  let v391 : BitVec 1 := Scalar.andi v389 v390
  let c256_i32_200 : BitVec 32 := 256#32
  let v392 : BitVec 1 := Scalar.cmpi .slt v387 c256_i32_200
  let v393 : BitVec 1 := Scalar.andi v391 v392
  let v394 : BitVec 32 := Scalar.extui v393
  let c0_i32_201 : BitVec 32 := 0#32
  let v395 : BitVec 1 := Scalar.cmpi .ne v394 c0_i32_201
  v395

def k0_chk15 (i : grid0.Coords) (v382 : BitVec 32) (v388 : BitVec 32) : Prop :=
  (∀ (k0_h16 : k0_cond16 i v382 v388 = 1#1), ∀ a, (k0_off15 i v382) a + S1x1024.size a ≤ S264x1024.size a)
theorem k0_off15_inb : ∀ (i : grid0.Coords) (v382 : BitVec 32) (v388 : BitVec 32) (k0_hw15 : k0_chk15 i v382 v388), ∀ (k0_h16 : k0_cond16 i v382 v388 = 1#1), ∀ a, (k0_off15 i v382) a + S1x1024.size a ≤ S264x1024.size a := fun i v382 v388 k0_hw15 k0_h16 => k0_hw15 k0_h16

def k0_off16 (i : grid0.Coords) (v396 : BitVec 32) : Fin 2 → Nat :=
  let c1279_i32_206 : BitVec 32 := 1279#32
  let c0_i32_205 : BitVec 32 := 0#32
  let c3_i32_203 : BitVec 32 := 3#32
  let v397 : BitVec 32 := Scalar.subi v396 c3_i32_203
  let c0_i32_204 : BitVec 32 := 0#32
  let v398 : BitVec 32 := Scalar.addi v397 c0_i32_204
  let v399 : BitVec 32 := Scalar.maxsi c0_i32_205 v398
  let v400 : BitVec 32 := Scalar.minsi c1279_i32_206 v399
  let arg0 : BitVec 32 := BitVec.ofNat 32 (i 0).val
  let c256_i32 : BitVec 32 := 256#32
  let v0 : BitVec 32 := Scalar.muli arg0 c256_i32
  let v401 : BitVec 32 := Scalar.subi v400 v0
  let c8_i32 : BitVec 32 := 8#32
  let v880 : BitVec 32 := Scalar.addi v401 c8_i32
  let v881 : Index := Scalar.indexCast v880
  let c0_432 : Index := 0#32
  ![v881.toNat, 0]
def k0_cond17 (i : grid0.Coords) (v396 : BitVec 32) (v402 : BitVec 32) : BitVec 1 :=
  let c3_i32_203 : BitVec 32 := 3#32
  let v397 : BitVec 32 := Scalar.subi v396 c3_i32_203
  let c0_i32_204 : BitVec 32 := 0#32
  let v398 : BitVec 32 := Scalar.addi v397 c0_i32_204
  let v403 : BitVec 1 := Scalar.cmpi .sge v398 v402
  let c1279_i32_206 : BitVec 32 := 1279#32
  let c0_i32_205 : BitVec 32 := 0#32
  let v399 : BitVec 32 := Scalar.maxsi c0_i32_205 v398
  let v400 : BitVec 32 := Scalar.minsi c1279_i32_206 v399
  let arg0 : BitVec 32 := BitVec.ofNat 32 (i 0).val
  let c256_i32 : BitVec 32 := 256#32
  let v0 : BitVec 32 := Scalar.muli arg0 c256_i32
  let v401 : BitVec 32 := Scalar.subi v400 v0
  let c0_i32_208 : BitVec 32 := 0#32
  let v404 : BitVec 1 := Scalar.cmpi .sge v401 c0_i32_208
  let v405 : BitVec 1 := Scalar.andi v403 v404
  let c256_i32_209 : BitVec 32 := 256#32
  let v406 : BitVec 1 := Scalar.cmpi .slt v401 c256_i32_209
  let v407 : BitVec 1 := Scalar.andi v405 v406
  let v408 : BitVec 32 := Scalar.extui v407
  let c0_i32_210 : BitVec 32 := 0#32
  let v409 : BitVec 1 := Scalar.cmpi .ne v408 c0_i32_210
  v409

def k0_chk16 (i : grid0.Coords) (v396 : BitVec 32) (v402 : BitVec 32) : Prop :=
  (∀ (k0_h17 : k0_cond17 i v396 v402 = 1#1), ∀ a, (k0_off16 i v396) a + S1x1024.size a ≤ S264x1024.size a)
theorem k0_off16_inb : ∀ (i : grid0.Coords) (v396 : BitVec 32) (v402 : BitVec 32) (k0_hw16 : k0_chk16 i v396 v402), ∀ (k0_h17 : k0_cond17 i v396 v402 = 1#1), ∀ a, (k0_off16 i v396) a + S1x1024.size a ≤ S264x1024.size a := fun i v396 v402 k0_hw16 k0_h17 => k0_hw16 k0_h17

def k0_off17 (i : grid0.Coords) (v410 : BitVec 32) : Fin 2 → Nat :=
  let c1279_i32_215 : BitVec 32 := 1279#32
  let c0_i32_214 : BitVec 32 := 0#32
  let c3_i32_212 : BitVec 32 := 3#32
  let v411 : BitVec 32 := Scalar.subi v410 c3_i32_212
  let c1_i32_213 : BitVec 32 := 1#32
  let v412 : BitVec 32 := Scalar.addi v411 c1_i32_213
  let v413 : BitVec 32 := Scalar.maxsi c0_i32_214 v412
  let v414 : BitVec 32 := Scalar.minsi c1279_i32_215 v413
  let arg0 : BitVec 32 := BitVec.ofNat 32 (i 0).val
  let c256_i32 : BitVec 32 := 256#32
  let v0 : BitVec 32 := Scalar.muli arg0 c256_i32
  let v415 : BitVec 32 := Scalar.subi v414 v0
  let c8_i32 : BitVec 32 := 8#32
  let v880 : BitVec 32 := Scalar.addi v415 c8_i32
  let v881 : Index := Scalar.indexCast v880
  let c0_432 : Index := 0#32
  ![v881.toNat, 0]
def k0_cond18 (i : grid0.Coords) (v410 : BitVec 32) (v416 : BitVec 32) : BitVec 1 :=
  let c3_i32_212 : BitVec 32 := 3#32
  let v411 : BitVec 32 := Scalar.subi v410 c3_i32_212
  let c1_i32_213 : BitVec 32 := 1#32
  let v412 : BitVec 32 := Scalar.addi v411 c1_i32_213
  let v417 : BitVec 1 := Scalar.cmpi .sge v412 v416
  let c1279_i32_215 : BitVec 32 := 1279#32
  let c0_i32_214 : BitVec 32 := 0#32
  let v413 : BitVec 32 := Scalar.maxsi c0_i32_214 v412
  let v414 : BitVec 32 := Scalar.minsi c1279_i32_215 v413
  let arg0 : BitVec 32 := BitVec.ofNat 32 (i 0).val
  let c256_i32 : BitVec 32 := 256#32
  let v0 : BitVec 32 := Scalar.muli arg0 c256_i32
  let v415 : BitVec 32 := Scalar.subi v414 v0
  let c0_i32_217 : BitVec 32 := 0#32
  let v418 : BitVec 1 := Scalar.cmpi .sge v415 c0_i32_217
  let v419 : BitVec 1 := Scalar.andi v417 v418
  let c256_i32_218 : BitVec 32 := 256#32
  let v420 : BitVec 1 := Scalar.cmpi .slt v415 c256_i32_218
  let v421 : BitVec 1 := Scalar.andi v419 v420
  let v422 : BitVec 32 := Scalar.extui v421
  let c0_i32_219 : BitVec 32 := 0#32
  let v423 : BitVec 1 := Scalar.cmpi .ne v422 c0_i32_219
  v423

def k0_chk17 (i : grid0.Coords) (v410 : BitVec 32) (v416 : BitVec 32) : Prop :=
  (∀ (k0_h18 : k0_cond18 i v410 v416 = 1#1), ∀ a, (k0_off17 i v410) a + S1x1024.size a ≤ S264x1024.size a)
theorem k0_off17_inb : ∀ (i : grid0.Coords) (v410 : BitVec 32) (v416 : BitVec 32) (k0_hw17 : k0_chk17 i v410 v416), ∀ (k0_h18 : k0_cond18 i v410 v416 = 1#1), ∀ a, (k0_off17 i v410) a + S1x1024.size a ≤ S264x1024.size a := fun i v410 v416 k0_hw17 k0_h18 => k0_hw17 k0_h18

def k0_off18 (i : grid0.Coords) (v424 : BitVec 32) : Fin 2 → Nat :=
  let c1279_i32_224 : BitVec 32 := 1279#32
  let c0_i32_223 : BitVec 32 := 0#32
  let c3_i32_221 : BitVec 32 := 3#32
  let v425 : BitVec 32 := Scalar.subi v424 c3_i32_221
  let c2_i32_222 : BitVec 32 := 2#32
  let v426 : BitVec 32 := Scalar.addi v425 c2_i32_222
  let v427 : BitVec 32 := Scalar.maxsi c0_i32_223 v426
  let v428 : BitVec 32 := Scalar.minsi c1279_i32_224 v427
  let arg0 : BitVec 32 := BitVec.ofNat 32 (i 0).val
  let c256_i32 : BitVec 32 := 256#32
  let v0 : BitVec 32 := Scalar.muli arg0 c256_i32
  let v429 : BitVec 32 := Scalar.subi v428 v0
  let c8_i32 : BitVec 32 := 8#32
  let v880 : BitVec 32 := Scalar.addi v429 c8_i32
  let v881 : Index := Scalar.indexCast v880
  let c0_432 : Index := 0#32
  ![v881.toNat, 0]
def k0_cond19 (i : grid0.Coords) (v424 : BitVec 32) (v430 : BitVec 32) : BitVec 1 :=
  let c3_i32_221 : BitVec 32 := 3#32
  let v425 : BitVec 32 := Scalar.subi v424 c3_i32_221
  let c2_i32_222 : BitVec 32 := 2#32
  let v426 : BitVec 32 := Scalar.addi v425 c2_i32_222
  let v431 : BitVec 1 := Scalar.cmpi .sge v426 v430
  let c1279_i32_224 : BitVec 32 := 1279#32
  let c0_i32_223 : BitVec 32 := 0#32
  let v427 : BitVec 32 := Scalar.maxsi c0_i32_223 v426
  let v428 : BitVec 32 := Scalar.minsi c1279_i32_224 v427
  let arg0 : BitVec 32 := BitVec.ofNat 32 (i 0).val
  let c256_i32 : BitVec 32 := 256#32
  let v0 : BitVec 32 := Scalar.muli arg0 c256_i32
  let v429 : BitVec 32 := Scalar.subi v428 v0
  let c0_i32_226 : BitVec 32 := 0#32
  let v432 : BitVec 1 := Scalar.cmpi .sge v429 c0_i32_226
  let v433 : BitVec 1 := Scalar.andi v431 v432
  let c256_i32_227 : BitVec 32 := 256#32
  let v434 : BitVec 1 := Scalar.cmpi .slt v429 c256_i32_227
  let v435 : BitVec 1 := Scalar.andi v433 v434
  let v436 : BitVec 32 := Scalar.extui v435
  let c0_i32_228 : BitVec 32 := 0#32
  let v437 : BitVec 1 := Scalar.cmpi .ne v436 c0_i32_228
  v437

def k0_chk18 (i : grid0.Coords) (v424 : BitVec 32) (v430 : BitVec 32) : Prop :=
  (∀ (k0_h19 : k0_cond19 i v424 v430 = 1#1), ∀ a, (k0_off18 i v424) a + S1x1024.size a ≤ S264x1024.size a)
theorem k0_off18_inb : ∀ (i : grid0.Coords) (v424 : BitVec 32) (v430 : BitVec 32) (k0_hw18 : k0_chk18 i v424 v430), ∀ (k0_h19 : k0_cond19 i v424 v430 = 1#1), ∀ a, (k0_off18 i v424) a + S1x1024.size a ≤ S264x1024.size a := fun i v424 v430 k0_hw18 k0_h19 => k0_hw18 k0_h19

def k0_cond20 (i : grid0.Coords) : BitVec 1 :=
  let arg0 : BitVec 32 := BitVec.ofNat 32 (i 0).val
  let c4_i32 : BitVec 32 := 4#32
  let v877 : BitVec 1 := Scalar.cmpi .eq arg0 c4_i32
  let v878 : BitVec 32 := Scalar.extui v877
  let c0_i32_431 : BitVec 32 := 0#32
  let v879 : BitVec 1 := Scalar.cmpi .ne v878 c0_i32_431
  v879

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024x4608 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4608 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4608x1024 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S6x3x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x4608 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x2x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S1280x1024 : Shape := ⟨2, ![1280, 1024]⟩
abbrev S7 : Shape := ⟨1, ![7]⟩
abbrev S1024 : Shape := ⟨1, ![1024]⟩
abbrev S1024x3072 : Shape := ⟨2, ![1024, 3072]⟩
abbrev S3072 : Shape := ⟨1, ![3072]⟩
abbrev S1024x4 : Shape := ⟨2, ![1024, 4]⟩
abbrev S1024x1024 : Shape := ⟨2, ![1024, 1024]⟩
abbrev S1024x2x4608 : Shape := ⟨3, ![1024, 2, 4608]⟩
abbrev S2x4608 : Shape := ⟨2, ![2, 4608]⟩
abbrev S4608x1024 : Shape := ⟨2, ![4608, 1024]⟩
abbrev S1280 : Shape := ⟨1, ![1280]⟩
abbrev S5 : Shape := ⟨1, ![5]⟩
abbrev S1x5 : Shape := ⟨2, ![1, 5]⟩
abbrev S1280x1 : Shape := ⟨2, ![1280, 1]⟩
abbrev S1280x5 : Shape := ⟨2, ![1280, 5]⟩
abbrev S_ : Shape := ⟨0, ![]⟩
abbrev S1x1024 : Shape := ⟨2, ![1, 1024]⟩
abbrev S1x3072 : Shape := ⟨2, ![1, 3072]⟩
abbrev S4x1024 : Shape := ⟨2, ![4, 1024]⟩
abbrev S1024x1x4608 : Shape := ⟨3, ![1024, 1, 4608]⟩
abbrev S1024x4608 : Shape := ⟨2, ![1024, 4608]⟩
abbrev S1280x4608 : Shape := ⟨2, ![1280, 4608]⟩
abbrev S1280x3072 : Shape := ⟨2, ![1280, 3072]⟩
abbrev S1279x1024 : Shape := ⟨2, ![1279, 1024]⟩
abbrev S2x1024 : Shape := ⟨2, ![2, 1024]⟩
abbrev S1278x1024 : Shape := ⟨2, ![1278, 1024]⟩
abbrev S3x1024 : Shape := ⟨2, ![3, 1024]⟩
abbrev S1277x1024 : Shape := ⟨2, ![1277, 1024]⟩
abbrev S1x4608 : Shape := ⟨2, ![1, 4608]⟩
abbrev S6 : Shape := ⟨1, ![6]⟩
abbrev S6x1 : Shape := ⟨2, ![6, 1]⟩
abbrev S3 : Shape := ⟨1, ![3]⟩
abbrev S1x3 : Shape := ⟨2, ![1, 3]⟩
abbrev S6x3 : Shape := ⟨2, ![6, 3]⟩
abbrev S6x3x1 : Shape := ⟨3, ![6, 3, 1]⟩
abbrev S6x3x1024 : Shape := ⟨3, ![6, 3, 1024]⟩

abbrev nBuf : Space → Nat
  | .hbm => 94
  | .vmem => 24
  | .smem => 0
  | _ => 0

abbrev bufTy : (tb : Table) → Fin (tcTables nBuf tb) → BufTy
  | .hbm, ⟨0, _⟩ => ⟨S1280x1024, .bf16⟩
  | .hbm, ⟨1, _⟩ => ⟨S7, .i32⟩
  | .hbm, ⟨2, _⟩ => ⟨S1024, .f32⟩
  | .hbm, ⟨3, _⟩ => ⟨S1024x3072, .i8⟩
  | .hbm, ⟨4, _⟩ => ⟨S3072, .f32⟩
  | .hbm, ⟨5, _⟩ => ⟨S1024x4, .f32⟩
  | .hbm, ⟨6, _⟩ => ⟨S1024x1024, .i8⟩
  | .hbm, ⟨7, _⟩ => ⟨S1024, .f32⟩
  | .hbm, ⟨8, _⟩ => ⟨S1024, .f32⟩
  | .hbm, ⟨9, _⟩ => ⟨S1024x2x4608, .i8⟩
  | .hbm, ⟨10, _⟩ => ⟨S2x4608, .f32⟩
  | .hbm, ⟨11, _⟩ => ⟨S4608x1024, .i8⟩
  | .hbm, ⟨12, _⟩ => ⟨S1024, .f32⟩
  | .hbm, ⟨13, _⟩ => ⟨S1280, .i32⟩
  | .hbm, ⟨14, _⟩ => ⟨S5, .i32⟩
  | .hbm, ⟨15, _⟩ => ⟨S1x5, .i32⟩
  | .hbm, ⟨16, _⟩ => ⟨S1280x1, .i32⟩
  | .hbm, ⟨17, _⟩ => ⟨S1280x5, .i32⟩
  | .hbm, ⟨18, _⟩ => ⟨S1280x5, .i32⟩
  | .hbm, ⟨19, _⟩ => ⟨S1280x5, .i1⟩
  | .hbm, ⟨20, _⟩ => ⟨S_, .i32⟩
  | .hbm, ⟨21, _⟩ => ⟨S_, .i32⟩
  | .hbm, ⟨22, _⟩ => ⟨S1280x5, .i32⟩
  | .hbm, ⟨23, _⟩ => ⟨S1280x5, .i32⟩
  | .hbm, ⟨24, _⟩ => ⟨S1280x5, .i32⟩
  | .hbm, ⟨25, _⟩ => ⟨S_, .i32⟩
  | .hbm, ⟨26, _⟩ => ⟨S1280, .i32⟩
  | .hbm, ⟨27, _⟩ => ⟨S_, .i32⟩
  | .hbm, ⟨28, _⟩ => ⟨S1280, .i32⟩
  | .hbm, ⟨29, _⟩ => ⟨S1280, .i32⟩
  | .hbm, ⟨30, _⟩ => ⟨S1280, .i32⟩
  | .hbm, ⟨31, _⟩ => ⟨S1280x1, .i32⟩
  | .hbm, ⟨32, _⟩ => ⟨S1x1024, .f32⟩
  | .hbm, ⟨33, _⟩ => ⟨S1x3072, .f32⟩
  | .hbm, ⟨34, _⟩ => ⟨S4x1024, .f32⟩
  | .hbm, ⟨35, _⟩ => ⟨S1x1024, .f32⟩
  | .hbm, ⟨36, _⟩ => ⟨S1x1024, .f32⟩
  | .hbm, ⟨37, _⟩ => ⟨S1024x1x4608, .i8⟩
  | .hbm, ⟨38, _⟩ => ⟨S1024x4608, .i8⟩
  | .hbm, ⟨39, _⟩ => ⟨S1024x1x4608, .i8⟩
  | .hbm, ⟨40, _⟩ => ⟨S1024x4608, .i8⟩
  | .hbm, ⟨41, _⟩ => ⟨S1x1024, .f32⟩
  | .hbm, ⟨42, _⟩ => ⟨S1280x1024, .bf16⟩
  | .hbm, ⟨43, _⟩ => ⟨S1280x1024, .f32⟩
  | .hbm, ⟨44, _⟩ => ⟨S1280x1024, .i8⟩
  | .hbm, ⟨45, _⟩ => ⟨S1280x1, .f32⟩
  | .hbm, ⟨46, _⟩ => ⟨S1280x1024, .i8⟩
  | .hbm, ⟨47, _⟩ => ⟨S1280x1, .f32⟩
  | .hbm, ⟨48, _⟩ => ⟨S1280x1024, .i8⟩
  | .hbm, ⟨49, _⟩ => ⟨S1280x1, .f32⟩
  | .hbm, ⟨50, _⟩ => ⟨S1280x4608, .i8⟩
  | .hbm, ⟨51, _⟩ => ⟨S1280x1, .f32⟩
  | .hbm, ⟨52, _⟩ => ⟨S6, .i32⟩
  | .hbm, ⟨53, _⟩ => ⟨S6x1, .i32⟩
  | .hbm, ⟨54, _⟩ => ⟨S_, .i32⟩
  | .hbm, ⟨55, _⟩ => ⟨S6x1, .i32⟩
  | .hbm, ⟨56, _⟩ => ⟨S6x1, .i32⟩
  | .hbm, ⟨57, _⟩ => ⟨S3, .i32⟩
  | .hbm, ⟨58, _⟩ => ⟨S1x3, .i32⟩
  | .hbm, ⟨59, _⟩ => ⟨S6x3, .i32⟩
  | .hbm, ⟨60, _⟩ => ⟨S6x3, .i32⟩
  | .hbm, ⟨61, _⟩ => ⟨S6x3, .i32⟩
  | .hbm, ⟨62, _⟩ => ⟨S6, .i32⟩
  | .hbm, ⟨63, _⟩ => ⟨S6x1, .i32⟩
  | .hbm, ⟨64, _⟩ => ⟨S6x3, .i32⟩
  | .hbm, ⟨65, _⟩ => ⟨S6x3, .i1⟩
  | .hbm, ⟨66, _⟩ => ⟨S6x3x1, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S6x3, .i32⟩
  | .hbm, ⟨71, _⟩ => ⟨S6x3, .i32⟩
  | .hbm, ⟨72, _⟩ => ⟨S_, .i32⟩
  | .hbm, ⟨73, _⟩ => ⟨S6x3, .i32⟩
  | .hbm, ⟨74, _⟩ => ⟨S6x3, .i32⟩
  | .hbm, ⟨75, _⟩ => ⟨S_, .i32⟩
  | .hbm, ⟨76, _⟩ => ⟨S6x3, .i32⟩
  | .hbm, ⟨77, _⟩ => ⟨S6x3, .i1⟩
  | .hbm, ⟨78, _⟩ => ⟨S_, .i32⟩
  | .hbm, ⟨79, _⟩ => ⟨S6x3, .i32⟩
  | .hbm, ⟨80, _⟩ => ⟨S6x3, .i32⟩
  | .hbm, ⟨81, _⟩ => ⟨S6x3, .i32⟩
  | .hbm, ⟨82, _⟩ => ⟨S6x3x1, .i32⟩
  | .hbm, ⟨83, _⟩ => ⟨S6x3x1024, .f32⟩
  | .hbm, ⟨84, _⟩ => ⟨S_, .f32⟩
  | .hbm, ⟨85, _⟩ => ⟨S_, .f32⟩
  | .hbm, ⟨86, _⟩ => ⟨S6x3x1024, .i1⟩
  | .hbm, ⟨87, _⟩ => ⟨S6x3x1024, .f32⟩
  | .hbm, ⟨88, _⟩ => ⟨S6x3x1024, .f32⟩
  | .hbm, ⟨89, _⟩ => ⟨S6x3x1024, .bf16⟩
  | .hbm, ⟨90, _⟩ => ⟨S1280, .f32⟩
  | .hbm, ⟨91, _⟩ => ⟨S1280, .f32⟩
  | .hbm, ⟨92, _⟩ => ⟨S1280, .f32⟩
  | .hbm, ⟨93, _⟩ => ⟨S1280, .f32⟩
  | .local _ .vmem, ⟨0, _⟩ => ⟨S1280x1024, .bf16⟩
  | .local _ .vmem, ⟨1, _⟩ => ⟨S1280x1, .i32⟩
  | .local _ .vmem, ⟨2, _⟩ => ⟨S1x1024, .f32⟩
  | .local _ .vmem, ⟨3, _⟩ => ⟨S1024x3072, .i8⟩
  | .local _ .vmem, ⟨4, _⟩ => ⟨S1x3072, .f32⟩
  | .local _ .vmem, ⟨5, _⟩ => ⟨S4x1024, .f32⟩
  | .local _ .vmem, ⟨6, _⟩ => ⟨S1024x1024, .i8⟩
  | .local _ .vmem, ⟨7, _⟩ => ⟨S1x1024, .f32⟩
  | .local _ .vmem, ⟨8, _⟩ => ⟨S1x1024, .f32⟩
  | .local _ .vmem, ⟨9, _⟩ => ⟨S1024x4608, .i8⟩
  | .local _ .vmem, ⟨10, _⟩ => ⟨S1024x4608, .i8⟩
  | .local _ .vmem, ⟨11, _⟩ => ⟨S2x4608, .f32⟩
  | .local _ .vmem, ⟨12, _⟩ => ⟨S4608x1024, .i8⟩
  | .local _ .vmem, ⟨13, _⟩ => ⟨S1x1024, .f32⟩
  | .local _ .vmem, ⟨14, _⟩ => ⟨S1280x1024, .bf16⟩
  | .local _ .vmem, ⟨15, _⟩ => ⟨S1280x1024, .f32⟩
  | .local _ .vmem, ⟨16, _⟩ => ⟨S1280x1024, .i8⟩
  | .local _ .vmem, ⟨17, _⟩ => ⟨S1280x1, .f32⟩
  | .local _ .vmem, ⟨18, _⟩ => ⟨S1280x1024, .i8⟩
  | .local _ .vmem, ⟨19, _⟩ => ⟨S1280x1, .f32⟩
  | .local _ .vmem, ⟨20, _⟩ => ⟨S1280x1024, .i8⟩
  | .local _ .vmem, ⟨21, _⟩ => ⟨S1280x1, .f32⟩
  | .local _ .vmem, ⟨22, _⟩ => ⟨S1280x4608, .i8⟩
  | .local _ .vmem, ⟨23, _⟩ => ⟨S1280x1, .f32⟩
  | _, _ => ⟨S1280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v23_3 : Ref sig .tc := ⟨.hbm, 45, rfl⟩
abbrev main_v23_4 : Ref sig .tc := ⟨.hbm, 46, rfl⟩
abbrev main_v23_5 : Ref sig .tc := ⟨.hbm, 47, rfl⟩
abbrev main_v23_6 : Ref sig .tc := ⟨.hbm, 48, rfl⟩
abbrev main_v23_7 : Ref sig .tc := ⟨.hbm, 49, rfl⟩
abbrev main_v23_8 : Ref sig .tc := ⟨.hbm, 50, rfl⟩
abbrev main_v23_9 : Ref sig .tc := ⟨.hbm, 51, rfl⟩
abbrev main_v24 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_3 : Ref sig .tc := ⟨.hbm, 67, rfl⟩
abbrev main_c_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v38 : Ref sig .tc := ⟨.hbm, 74, rfl⟩
abbrev main_c_5 : Ref sig .tc := ⟨.hbm, 75, rfl⟩
abbrev main_v39 : Ref sig .tc := ⟨.hbm, 76, rfl⟩
abbrev main_v40 : Ref sig .tc := ⟨.hbm, 77, rfl⟩
abbrev main_c_6 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1280x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x4608 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x4608 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4608 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x1024 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1280x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1280x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1280x1024 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1280x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1280x1024 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1280x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1280x1024 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1280x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1280x4608 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1280x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.Words.lean ====
/- The kernel copies row `cu[b+1] - 3 + k` of the convolution's input into row `(b, k)` of its carried state, in the
   tile that holds the row: the word arithmetic of that copy, shared by both readings of the kernel. Grid point `p` works
   on positions `256·p … 256·p + 255`. -/
module

public import Idealize.ShloMosaic.Lib.WordCmp
public import Idealize.ShloMosaic.PureOps

@[expose] public section

namespace Cert.Words

open Idealize.ShloMosaic Idealize.ShloMosaic.WordCmp

/-- The position copied for row `k` of a sequence that ends at `v`: `v - 3 + k`. -/
def idx (v k : BitVec 32) : BitVec 32 := Scalar.addi (Scalar.subi v 3#32) k

/-- That position clipped to the sequence. -/
def clip (v k : BitVec 32) : BitVec 32 := Scalar.minsi 1279#32 (Scalar.maxsi 0#32 (idx v k))

/-- The clipped position relative to tile `p`'s first. -/
def row (p : ℕ) (v k : BitVec 32) : BitVec 32 := Scalar.subi (clip v k) (Scalar.muli (BitVec.ofNat 32 p) 256#32)

/-- The row of the scratch buffer it is read from: eight rows precede the tile's own. -/
def off (p : ℕ) (v k : BitVec 32) : ℕ := (Scalar.indexCast (Scalar.addi (row p v k) 8#32) : Index).toNat

/-- The copy's condition: the position is not before the sequence's start `v'`, and its clip lies in tile `p`. -/
def cond (p : ℕ) (v v' k : BitVec 32) : BitVec 1 :=
  Scalar.cmpi .ne (Scalar.extui (Scalar.andi (Scalar.andi (Scalar.cmpi .sge (idx v k) v')
    (Scalar.cmpi .sge (row p v k) 0#32)) (Scalar.cmpi .slt (row p v k) 256#32)) : BitVec 32) 0#32

/-- The condition, read as one on integers. -/
theorem cond_iff (p : ℕ) (v v' k : BitVec 32) :
    cond p v v' k = 1#1 ↔ v'.toInt ≤ (idx v k).toInt ∧ (row p v k).toNat < 256 := by
  have h : ∀ b : Bool, Scalar.cmpi .ne (Scalar.extui (BitVec.ofBool b) : BitVec 32) 0#32 = BitVec.ofBool b := by decide
  unfold cond
  rw [scalar_andi_eq, scalar_andi_eq, scalar_cmpi_eq .sge, scalar_cmpi_eq .sge, scalar_cmpi_eq .slt, cmpi_sge_eq, cmpi_sge_eq,
    cmpi_slt_eq, andi_ofBool, andi_ofBool, h, ofBool_eq_one_iff, Bool.and_eq_true, Bool.and_eq_true, decide_eq_true_iff,
    decide_eq_true_iff, decide_eq_true_iff]
  have e0 : (0#32 : BitVec 32).toInt = 0 := by decide
  have e1 : (256#32 : BitVec 32).toInt = 256 := by decide
  rw [e0, e1, and_assoc, toInt_nonneg_iff_lt_half]
  constructor
  · rintro ⟨h1, h2, h3⟩
    rw [toInt_eq_toNat_of_lt_half h2] at h3
    exact ⟨h1, by omega⟩
  · rintro ⟨h1, h2⟩
    have h3 : (row p v k).toNat < 2 ^ (32 - 1) := by omega
    exact ⟨h1, h3, by rw [toInt_eq_toNat_of_lt_half h3]; omega⟩

/-- Under the condition the row read is eight past the relative position. -/
theorem off_eq {p : ℕ} {v v' k : BitVec 32} (h : cond p v v' k = 1#1) : off p v k = (row p v k).toNat + 8 := by
  have h2 := ((cond_iff p v v' k).1 h).2
  change ((row p v k + 8#32)).toNat = _
  rw [BitVec.toNat_add]
  change ((row p v k).toNat + 8) % 2 ^ 32 = _
  omega

/-- Under the condition the row read is one of the scratch buffer's 264. -/
theorem off_le {p : ℕ} {v v' k : BitVec 32} (h : cond p v v' k = 1#1) : off p v k + 1 ≤ 264 := by
  have h2 := ((cond_iff p v v' k).1 h).2
  rw [off_eq h]; omega

end Cert.Words

end
-- ==== Proof.KernelFrame.lean ====
/- The kernel's frame at the bits: every execution ends, with the arguments unchanged and every semaphore at zero.
   Nothing is said of the outputs here, so the body's run leaves them at some contents. -/
module

public import proofs.«01_k».proof.Proof.Gen.Kernel.Frame
public import proofs.«01_k».proof.Proof.Words
public import proofs.«01_k».proof.Proof.Gen.Kernel.Skeleton
public import Idealize.ShloMosaic.Lib.WordCmp
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each copy of a state's row stays inside the buffer, when its branch is taken. -/
theorem chk1 (i : grid0.Coords) (v v' : BitVec 32) : k0_chk1 i v v' := fun h => by
  intro a; fin_cases a
  · exact Cert.Words.off_le (k := 0#32) h
  · exact (by decide : 0 + 1024 ≤ 1024)
theorem chk2 (i : grid0.Coords) (v v' : BitVec 32) : k0_chk2 i v v' := fun h => by
  intro a; fin_cases a
  · exact Cert.Words.off_le (k := 1#32) h
  · exact (by decide : 0 + 1024 ≤ 1024)
theorem chk3 (i : grid0.Coords) (v v' : BitVec 32) : k0_chk3 i v v' := fun h => by
  intro a; fin_cases a
  · exact Cert.Words.off_le (k := 2#32) h
  · exact (by decide : 0 + 1024 ≤ 1024)
theorem chk4 (i : grid0.Coords) (v v' : BitVec 32) : k0_chk4 i v v' := fun h => by
  intro a; fin_cases a
  · exact Cert.Words.off_le (k := 0#32) h
  · exact (by decide : 0 + 1024 ≤ 1024)
theorem chk5 (i : grid0.Coords) (v v' : BitVec 32) : k0_chk5 i v v' := fun h => by
  intro a; fin_cases a
  · exact Cert.Words.off_le (k := 1#32) h
  · exact (by decide : 0 + 1024 ≤ 1024)
theorem chk6 (i : grid0.Coords) (v v' : BitVec 32) : k0_chk6 i v v' := fun h => by
  intro a; fin_cases a
  · exact Cert.Words.off_le (k := 2#32) h
  · exact (by decide : 0 + 1024 ≤ 1024)
theorem chk7 (i : grid0.Coords) (v v' : BitVec 32) : k0_chk7 i v v' := fun h => by
  intro a; fin_cases a
  · exact Cert.Words.off_le (k := 0#32) h
  · exact (by decide : 0 + 1024 ≤ 1024)
theorem chk8 (i : grid0.Coords) (v v' : BitVec 32) : k0_chk8 i v v' := fun h => by
  intro a; fin_cases a
  · exact Cert.Words.off_le (k := 1#32) h
  · exact (by decide : 0 + 1024 ≤ 1024)
theorem chk9 (i : grid0.Coords) (v v' : BitVec 32) : k0_chk9 i v v' := fun h => by
  intro a; fin_cases a
  · exact Cert.Words.off_le (k := 2#32) h
  · exact (by decide : 0 + 1024 ≤ 1024)
theorem chk10 (i : grid0.Coords) (v v' : BitVec 32) : k0_chk10 i v v' := fun h => by
  intro a; fin_cases a
  · exact Cert.Words.off_le (k := 0#32) h
  · exact (by decide : 0 + 1024 ≤ 1024)
theorem chk11 (i : grid0.Coords) (v v' : BitVec 32) : k0_chk11 i v v' := fun h => by
  intro a; fin_cases a
  · exact Cert.Words.off_le (k := 1#32) h
  · exact (by decide : 0 + 1024 ≤ 1024)
theorem chk12 (i : grid0.Coords) (v v' : BitVec 32) : k0_chk12 i v v' := fun h => by
  intro a; fin_cases a
  · exact Cert.Words.off_le (k := 2#32) h
  · exact (by decide : 0 + 1024 ≤ 1024)
theorem chk13 (i : grid0.Coords) (v v' : BitVec 32) : k0_chk13 i v v' := fun h => by
  intro a; fin_cases a
  · exact Cert.Words.off_le (k := 0#32) h
  · exact (by decide : 0 + 1024 ≤ 1024)
theorem chk14 (i : grid0.Coords) (v v' : BitVec 32) : k0_chk14 i v v' := fun h => by
  intro a; fin_cases a
  · exact Cert.Words.off_le (k := 1#32) h
  · exact (by decide : 0 + 1024 ≤ 1024)
theorem chk15 (i : grid0.Coords) (v v' : BitVec 32) : k0_chk15 i v v' := fun h => by
  intro a; fin_cases a
  · exact Cert.Words.off_le (k := 2#32) h
  · exact (by decide : 0 + 1024 ≤ 1024)
theorem chk16 (i : grid0.Coords) (v v' : BitVec 32) : k0_chk16 i v v' := fun h => by
  intro a; fin_cases a
  · exact Cert.Words.off_le (k := 0#32) h
  · exact (by decide : 0 + 1024 ≤ 1024)
theorem chk17 (i : grid0.Coords) (v v' : BitVec 32) : k0_chk17 i v v' := fun h => by
  intro a; fin_cases a
  · exact Cert.Words.off_le (k := 1#32) h
  · exact (by decide : 0 + 1024 ≤ 1024)
theorem chk18 (i : grid0.Coords) (v v' : BitVec 32) : k0_chk18 i v v' := fun h => by
  intro a; fin_cases a
  · exact Cert.Words.off_le (k := 2#32) h
  · exact (by decide : 0 + 1024 ≤ 1024)

set_option maxHeartbeats 16000000 in
/-- The body's run: from the input blocks and anything in the other buffers, it leaves the inputs as they are. -/
theorem body (c : Dev nD) (i : grid0.Coords) (arg1 : Memref sig .tc .smem S7 .i32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x3072 .i8) (harg4 : arg4.IsWhole) (arg5 : Memref sig .tc .vmem S1x3072 .f32) (harg5 : arg5.IsWhole) (arg6 : Memref sig .tc .vmem S4x1024 .f32) (harg6 : arg6.IsWhole) (arg7 : Memref sig .tc .vmem S1024x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2x1024x4608 .i8) (harg10 : arg10.IsWhole) (arg11 : Memref sig .tc .vmem S2x4608 .f32) (harg11 : arg11.IsWhole) (arg12 : Memref sig .tc .vmem S4608x1024 .i8) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S6x3x1024 .bf16) (harg15 : arg15.IsWhole) (arg16 : Memref sig .tc .vmem S256x1024 .i8) (harg16 : arg16.IsWhole) (arg17 : Memref sig .tc .vmem S1x2x128 .f32) (harg17 : arg17.IsWhole) (arg18 : Memref sig .tc .vmem S256x1024 .i8) (harg18 : arg18.IsWhole) (arg19 : Memref sig .tc .vmem S1x2x128 .f32) (harg19 : arg19.IsWhole) (arg20 : Memref sig .tc .vmem S256x1024 .i8) (harg20 : arg20.IsWhole) (arg21 : Memref sig .tc .vmem S1x2x128 .f32) (harg21 : arg21.IsWhole) (arg22 : Memref sig .tc .vmem S256x4608 .i8) (harg22 : arg22.IsWhole) (arg23 : Memref sig .tc .vmem S1x2x128 .f32) (harg23 : arg23.IsWhole) (arg24 : Memref sig .tc .vmem S264x1024 .f32) (harg24 : arg24.IsWhole) (arg25 : Memref sig .tc .vmem S6x8x1024 .f32) (harg25 : arg25.IsWhole) (arg26 : Memref sig .tc .vmem S256x4608 .f32) (harg26 : arg26.IsWhole)
    (x0 : Vec F S7 .i32) (x1 : Vec F S256x1024 .bf16) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S2x1024x4608 .i8) (x10 : Vec F S2x4608 .f32) (x11 : Vec F S4608x1024 .i8) (x12 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) -∗ K ⟨⟩)) ⊢ wp frame (wpE (defs₀ (F := F)) Variants.none c none) E (cc0_lfm2_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_lfm2_block_eq_skeleton]; unfold cc0_lfm2_block_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  sl_exec! (disch := first | with_reducible exact chk1 _ _ _ | with_reducible exact chk2 _ _ _ | with_reducible exact chk3 _ _ _ | with_reducible exact chk4 _ _ _ | with_reducible exact chk5 _ _ _ | with_reducible exact chk6 _ _ _ | with_reducible exact chk7 _ _ _ | with_reducible exact chk8 _ _ _ | with_reducible exact chk9 _ _ _ | with_reducible exact chk10 _ _ _ | with_reducible exact chk11 _ _ _ | with_reducible exact chk12 _ _ _ | with_reducible exact chk13 _ _ _ | with_reducible exact chk14 _ _ _ | with_reducible exact chk15 _ _ _ | with_reducible exact chk16 _ _ _ | with_reducible exact chk17 _ _ _ | with_reducible exact chk18 _ _ _)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact hf11
  isplitl [H12]
  · iexists _; isplitr
    swap; · iexact H12
    ipureintro; exact hf12
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  isplitl [H22]
  · iexists _; iexists _; isplitr
    swap; · iexact H22
    ipureintro; rfl
  isplitl [H23]
  · iexists _; iexists _; isplitr
    swap; · iexact H23
    ipureintro; rfl
  isplitl [H24]
  · iexists _; iexists _; isplitr
    swap; · iexact H24
    ipureintro; rfl
  iexists _; iexists _; isplitr
  swap; · iexact H25
  ipureintro; rfl

variable (m : (ℓ : Loc nD τ sig) → Buf (Elt F) ℓ) (ρ : Dev nD → PrngReg)

/-- The buffers the lines after the region write: results of contents the run does not name. -/
def T0 : Finset (Ref sig .tc) := {main_v10, main_v11, main_v8, main_v9}

/-- They write only those. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option maxHeartbeats 1380000 in
/-- The frame from a run that says nothing of the outputs: each argument array is a staged input or stands outside `T0`. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePostR.arr_in h c 1 rfl).trans ((hA c 1).trans (V_main_arg0 m c)),
      (Pipeline.RDat.FramePostR.arr_in h c 0 rfl).trans ((hA c 0).trans (V_main_arg1 m c)),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      (Pipeline.RDat.FramePostR.arr_in h c 10 rfl).trans ((hA c 10).trans (V_main_arg10 m c)),
      (Pipeline.RDat.FramePostR.arr_in h c 11 rfl).trans ((hA c 11).trans (V_main_arg11 m c)),
      ((h c).2 main_arg12 (Finset.mem_sdiff.mpr ⟨Pipeline.mem_restRefs_of main_arg12 (by decide) (by decide), by decide⟩)).trans (V_main_arg12 m c)⟩) h

/-- The outputs' windows, whose contents are not named. -/
def forgets0 : Fin 23 → Bool := fun w => w.val == 13 || w.val == 14 || w.val == 15 || w.val == 16 || w.val == 17 || w.val == 18 || w.val == 19 || w.val == 20 || w.val == 21 || w.val == 22

/-- The pipeline's proof data: each input's buffer at its block, the outputs unnamed, the scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

/-- The scratch memrefs. -/
abbrev scM0 : Memref sig .tc .vmem S264x1024 .f32 := Memref.whole cc0_scratch0
abbrev scM1 : Memref sig .tc .vmem S6x8x1024 .f32 := Memref.whole cc0_scratch1
abbrev scM2 : Memref sig .tc .vmem S256x4608 .f32 := Memref.whole cc0_scratch2

/-- The launch's invariant, its scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (st0_11 t) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (st0_12 t) fullShare (iblk m c 12 t) := by
  unfold Dat.leavesExact; rw [show cfg0.idle 12 (grid0.coords t) = false from rfl, after_12]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare d)
    ∗ (∃ d, owns (c : Thread nD τ) (st0_21 t) fullShare d)
    ∗ (∃ d, owns (c : Thread nD τ) (st0_22 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare d)
    ∗ (∃ d, owns (c : Thread nD τ) (st0_21 t) fullShare d)
    ∗ (∃ d, owns (c : Thread nD τ) (st0_22 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  rw [leaves_0, leaves_1, leaves_2, leaves_3, leaves_4, leaves_5, leaves_6, leaves_7, leaves_8, leaves_9, leaves_10, leaves_11, leaves_12]
  iintro ⟨⟨⟨H23, H24, H25⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20, H21, H22⟩
  iapply (body c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H0, H1, H2, H3, H4, H5, H6, H7, H8, H9, H10, H11, H12, H13, H14, H15, H16, H17, H18, H19, H20, H21, H22, H23, H24, H25⟩
  isplitl [H23 H24 H25 Hg]
  · isplitl [H23 H24 H25]
    · isplitl [H23]; · iexact H23
      isplitl [H24]; · iexact H24
      iexact H25
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_ofR m ρ (fun c => (dats m 0 c).toRForget forgets0) (A_eq m) (run_main m ρ)

/-- The frame: every execution ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel.Body

end
-- ==== Proof.KernelIdealValues.lean ====
/- What one tile of the block computes: the kernel body's values as functions of the blocks a grid point is given and of
   the scratch buffers it finds, over any floats and with no buffer named. -/
module

public import proofs.«01_k».proof.Proof.Gen.KernelIdeal.Frame
public import proofs.«01_k».proof.Proof.Words
public import proofs.«01_k».proof.Proof.Gen.KernelIdeal.Skeleton
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The thirteen input blocks of a grid point. -/
structure Blocks (F : FTy → Type) where
  /-- the sequences' boundaries -/
  cu : Vec F S7 .i32
  /-- the tile of positions -/
  x : Vec F S256x1024 .bf16
  /-- the first norm's weights -/
  n1 : Vec F S1x1024 .f32
  /-- the input projection's codes -/
  win : Vec F S1024x3072 .i8
  /-- their scales -/
  sin : Vec F S1x3072 .f32
  /-- the convolution's taps -/
  taps : Vec F S4x1024 .f32
  /-- the output projection's codes -/
  wout : Vec F S1024x1024 .i8
  /-- their scales -/
  sout : Vec F S1x1024 .f32
  /-- the second norm's weights -/
  n2 : Vec F S1x1024 .f32
  /-- the gate and up projections' codes -/
  wgu : Vec F S2x1024x4608 .i8
  /-- their scales -/
  sgu : Vec F S2x4608 .f32
  /-- the down projection's codes -/
  wdn : Vec F S4608x1024 .i8
  /-- their scales -/
  sdn : Vec F S1x1024 .f32

variable (i : grid0.Coords) (X : Blocks F)

/-- The first position of the grid point's tile, as a word. -/
def t0 : BitVec 32 := Scalar.muli (BitVec.ofNat 32 (i 0).val) 256#32

/-- Whether this is the first tile, as the kernel asks it. -/
def isFirst : Prop := Scalar.cmpi .ne (Scalar.extui (Scalar.cmpi .eq (BitVec.ofNat 32 (i 0).val) 0#32) : BitVec 32) 0#32 = 1#1

instance : Decidable (isFirst i) := by unfold isFirst; infer_instance

/-- Boundary 0. -/
def cu0 : Elt F .i32 :=
  (View.ld X.cu (Rect.unit (s := S7) ![0] S1.size inb_S7_S1_0)) (Shape.Idx.first (show 0 < S1.numel by decide))

/-- Boundary 1. -/
def cu1 : Elt F .i32 :=
  (View.ld X.cu (Rect.unit (s := S7) ![1] S1.size inb_S7_S1_1)) (Shape.Idx.first (show 0 < S1.numel by decide))

/-- Boundary 2. -/
def cu2 : Elt F .i32 :=
  (View.ld X.cu (Rect.unit (s := S7) ![2] S1.size inb_S7_S1_2)) (Shape.Idx.first (show 0 < S1.numel by decide))

/-- Boundary 3. -/
def cu3 : Elt F .i32 :=
  (View.ld X.cu (Rect.unit (s := S7) ![3] S1.size inb_S7_S1_3)) (Shape.Idx.first (show 0 < S1.numel by decide))

/-- Boundary 4. -/
def cu4 : Elt F .i32 :=
  (View.ld X.cu (Rect.unit (s := S7) ![4] S1.size inb_S7_S1_4)) (Shape.Idx.first (show 0 < S1.numel by decide))

/-- Boundary 5. -/
def cu5 : Elt F .i32 :=
  (View.ld X.cu (Rect.unit (s := S7) ![5] S1.size inb_S7_S1_5)) (Shape.Idx.first (show 0 < S1.numel by decide))

/-- Boundary 6. -/
def cu6 : Elt F .i32 :=
  (View.ld X.cu (Rect.unit (s := S7) ![6] S1.size inb_S7_S1_6)) (Shape.Idx.first (show 0 < S1.numel by decide))

/-- The tile in 32 bits. -/
def xf : FVec F S256x1024 .f32 :=
  k0_pay5 (View.ld X.x (Rect.unit (s := S256x1024) ![0, 0] S256x1024.size inb_S256x1024_S256x1024_0_0))

/-- The scale of each normalised position. -/
def scale1 : FVec F S256x1 .f32 :=
  k0_pay7 (View.ld X.x (Rect.unit (s := S256x1024) ![0, 0] S256x1024.size inb_S256x1024_S256x1024_0_0)) (View.ld X.n1 (Rect.unit (s := S1x1024) ![0, 0] S1x1024.size inb_S1x1024_S1x1024_0_0))

/-- Its rounded and clipped quotients. -/
def round1 : FVec F S256x1024 .f32 :=
  k0_pay8 (View.ld X.x (Rect.unit (s := S256x1024) ![0, 0] S256x1024.size inb_S256x1024_S256x1024_0_0)) (View.ld X.n1 (Rect.unit (s := S1x1024) ![0, 0] S1x1024.size inb_S1x1024_S1x1024_0_0))

/-- Its codes. -/
def code1 : IVec S256x1024 8 :=
  k0_pay9 (round1 X)

/-- The middle third of the input projection: the gate on the convolution. -/
def gate : FVec F S256x1024 .f32 :=
  k0_pay15 (scale1 X) (code1 X) (View.ld X.win (Rect.unit (s := S1024x3072) ![0, 1024] S1024x1024.size inb_S1024x3072_S1024x1024_0_1024)) (View.ld X.sin (Rect.unit (s := S1x3072) ![0, 1024] S1x1024.size inb_S1x3072_S1x1024_0_1024))

/-- The first third times the last: the convolution's input. -/
def bxTile : FVec F S256x1024 .f32 :=
  k0_pay14 (scale1 X) (k0_pay11 (scale1 X) (round1 X) (View.ld X.win (Rect.unit (s := S1024x3072) ![0, 0] S1024x1024.size inb_S1024x3072_S1024x1024_0_0)) (View.ld X.sin (Rect.unit (s := S1x3072) ![0, 0] S1x1024.size inb_S1x3072_S1x1024_0_0))) (k0_pay12 (round1 X) (View.ld X.win (Rect.unit (s := S1024x3072) ![0, 2048] S1024x1024.size inb_S1024x3072_S1024x1024_0_2048))) (k0_pay13 (View.ld X.sin (Rect.unit (s := S1x3072) ![0, 2048] S1x1024.size inb_S1x3072_S1x1024_0_2048)))

/-- The convolution's buffer as the tile finds it: zeros in its first eight rows at the first tile. -/
def bxStart (P : Vec F S264x1024 .f32) : Vec F S264x1024 .f32 :=
  if isFirst i then VecWindow.put P ![0, 0] S8x1024.size k0_pay3 else P

/-- The convolution's buffer with the tile's input stored from row 8 on. -/
def bx (P : Vec F S264x1024 .f32) : Vec F S264x1024 .f32 := VecWindow.put (bxStart i P) ![8, 0] S256x1024.size (bxTile X)

/-- The tile's input stored over what it finds, as a view reads it. -/
theorem bx_read {sp : Space} (v : View sig .tc sp S264x1024 .f32) (f : v.ty.Contents (Elt F)) :
    v.read (Elt F) (v.writes (Elt F) (if hc : isFirst i then
        v.writes (Elt F) f [⟨Rect.unit (s := S264x1024) ![0, 0] S8x1024.size inb_S264x1024_S8x1024_0_0, k0_pay3⟩] else f)
      [⟨Rect.unit (s := S264x1024) ![8, 0] S256x1024.size inb_S264x1024_S256x1024_8_0, bxTile X⟩]) = bx i X (v.read (Elt F) f) := by
  rw [View.read_writes_cons_put v _ _ _ _ rfl, View.writes_nil]
  unfold bx bxStart
  by_cases hc : isFirst i
  · rw [dif_pos hc, if_pos hc, View.read_writes_cons_put v _ _ _ _ rfl, View.writes_nil]
  · rw [dif_neg hc, if_neg hc]

/-- The store of the tile's input into the convolution's buffer. -/
def bxStore : List (View.Piece (Elt F) S264x1024 .f32) :=
  [⟨Rect.unit (s := S264x1024) ![8, 0] S256x1024.size inb_S264x1024_S256x1024_8_0, bxTile X⟩]

/-- The tile's own rows, as a load after their store reads them. -/
theorem bxTile_read {sp : Space} (v : View sig .tc sp S264x1024 .f32) :
    v.readCov (Val := Elt F) (bxStore X) (Rect.unit (s := S264x1024) ![8, 0] S256x1024.size inb_S264x1024_S256x1024_8_0).toLoadRect = bxTile X :=
  View.readCov_cons_toLoadRect _ _ _ _

/-- The last eight rows of the tile. -/
def tail : Vec F S8x1024 .f32 :=
  fun j => View.canon (bxStore X) ((Rect.unit (s := S264x1024) ![256, 0] S8x1024.size inb_S264x1024_S8x1024_256_0).toLoadRect.idx j)

/-- Those rows, as a load after the tile's store reads them. -/
theorem tail_read {sp : Space} (v : View sig .tc sp S264x1024 .f32) :
    v.readCov (Val := Elt F) (bxStore X) (Rect.unit (s := S264x1024) ![256, 0] S8x1024.size inb_S264x1024_S8x1024_256_0).toLoadRect = tail X :=
  View.readCov_eq_canon' v _ _

/-- The convolution's buffer as the tile leaves it: its last eight rows in the first eight, which the next tile finds. -/
def bxEnd (W : Vec F S8x1024 .f32) : Vec F S264x1024 .f32 :=
  View.canon (⟨Rect.unit (s := S264x1024) ![0, 0] S8x1024.size inb_S264x1024_S8x1024_0_0, k0_pay41 W⟩ :: bxStore X)

/-- Each position's distance from its sequence's start. -/
def pos : IVec S256x1 32 :=
  k0_pay19 (k0_pay16 (t0 i)) (k0_pay17 (t0 i) (cu1 X) (cu1 X) (cu2 X) (cu2 X)) (k0_pay18 (t0 i) (cu3 X)) (cu3 X) 0#32 (cu4 X) (cu4 X) (cu5 X) (cu5 X)

/-- The short convolution of the tile, from the buffer that holds its input and the tile's own rows of it. -/
def conv (B : Vec F S264x1024 .f32) (T : Vec F S256x1024 .f32) : FVec F S256x1024 .f32 :=
  k0_pay22 (pos i X) (k0_pay20 (k0_pay16 (t0 i)) (k0_pay17 (t0 i) (cu1 X) (cu1 X) (cu2 X) (cu2 X)) (k0_pay18 (t0 i) (cu3 X)) (cu3 X) 0#32 (cu4 X) (cu4 X) (cu5 X) (cu5 X) (View.ld X.taps (Rect.unit (s := S4x1024) ![3, 0] S1x1024.size inb_S4x1024_S1x1024_3_0)) T (View.ld X.taps (Rect.unit (s := S4x1024) ![2, 0] S1x1024.size inb_S4x1024_S1x1024_2_0)) (View.ld B (Rect.unit (s := S264x1024) ![7, 0] S256x1024.size inb_S264x1024_S256x1024_7_0))) (k0_pay21 (k0_pay16 (t0 i)) (k0_pay17 (t0 i) (cu1 X) (cu1 X) (cu2 X) (cu2 X)) (k0_pay18 (t0 i) (cu3 X)) (cu3 X) 0#32 (cu4 X) (cu4 X) (cu5 X) (cu5 X)) (Scalar.ofBits .f32 0x3F800000#32) (View.ld X.taps (Rect.unit (s := S4x1024) ![1, 0] S1x1024.size inb_S4x1024_S1x1024_1_0)) (View.ld B (Rect.unit (s := S264x1024) ![6, 0] S256x1024.size inb_S264x1024_S256x1024_6_0)) (View.ld X.taps (Rect.unit (s := S4x1024) ![0, 0] S1x1024.size inb_S4x1024_S1x1024_0_0)) (View.ld B (Rect.unit (s := S264x1024) ![5, 0] S256x1024.size inb_S264x1024_S256x1024_5_0))

/-- The scale of each gated position. -/
def scale2 (B : Vec F S264x1024 .f32) (T : Vec F S256x1024 .f32) : FVec F S256x1 .f32 :=
  k0_pay43 (gate X) (conv i X B T)

/-- Its codes. -/
def code2 (B : Vec F S264x1024 .f32) (T : Vec F S256x1024 .f32) : IVec S256x1024 8 :=
  k0_pay44 (gate X) (conv i X B T)

/-- Those scales laid along lanes. -/
def lanes2 (B : Vec F S264x1024 .f32) (T : Vec F S256x1024 .f32) : FVec F S1x2x128 .f32 :=
  k0_pay48 k0_pay45 (k0_pay46 (gate X) (conv i X B T)) (k0_pay47 (gate X) (conv i X B T)) (Scalar.ofBits .f32 0x00000000#32)

/-- The tile after the convolution's branch. -/
def hid (B : Vec F S264x1024 .f32) (T : Vec F S256x1024 .f32) : FVec F S256x1024 .f32 :=
  k0_pay49 (xf X) (scale2 i X B T) (code2 i X B T) (View.ld X.wout (Rect.unit (s := S1024x1024) ![0, 0] S1024x1024.size inb_S1024x1024_S1024x1024_0_0)) (View.ld X.sout (Rect.unit (s := S1x1024) ![0, 0] S1x1024.size inb_S1x1024_S1x1024_0_0))

/-- Its second norm. -/
def norm2 (B : Vec F S264x1024 .f32) (T : Vec F S256x1024 .f32) : FVec F S256x1024 .f32 :=
  k0_pay50 (xf X) (scale2 i X B T) (code2 i X B T) (View.ld X.wout (Rect.unit (s := S1024x1024) ![0, 0] S1024x1024.size inb_S1024x1024_S1024x1024_0_0)) (View.ld X.sout (Rect.unit (s := S1x1024) ![0, 0] S1x1024.size inb_S1x1024_S1x1024_0_0)) (View.ld X.n2 (Rect.unit (s := S1x1024) ![0, 0] S1x1024.size inb_S1x1024_S1x1024_0_0))

/-- The greatest magnitude of each normalised position. -/
def amax2 (B : Vec F S264x1024 .f32) (T : Vec F S256x1024 .f32) : FVec F S256x1 .f32 :=
  k0_pay51 (xf X) (scale2 i X B T) (code2 i X B T) (View.ld X.wout (Rect.unit (s := S1024x1024) ![0, 0] S1024x1024.size inb_S1024x1024_S1024x1024_0_0)) (View.ld X.sout (Rect.unit (s := S1x1024) ![0, 0] S1x1024.size inb_S1x1024_S1x1024_0_0)) (View.ld X.n2 (Rect.unit (s := S1x1024) ![0, 0] S1x1024.size inb_S1x1024_S1x1024_0_0))

/-- Which of them are zero. -/
def zero2 (B : Vec F S264x1024 .f32) (T : Vec F S256x1024 .f32) : IVec S256x1 1 :=
  k0_pay52 (xf X) (scale2 i X B T) (code2 i X B T) (View.ld X.wout (Rect.unit (s := S1024x1024) ![0, 0] S1024x1024.size inb_S1024x1024_S1024x1024_0_0)) (View.ld X.sout (Rect.unit (s := S1x1024) ![0, 0] S1x1024.size inb_S1x1024_S1x1024_0_0)) (View.ld X.n2 (Rect.unit (s := S1x1024) ![0, 0] S1x1024.size inb_S1x1024_S1x1024_0_0))

/-- Their scales. -/
def scale3 (B : Vec F S264x1024 .f32) (T : Vec F S256x1024 .f32) : FVec F S256x1 .f32 :=
  k0_pay53 (amax2 i X B T) (zero2 i X B T)

/-- Their codes. -/
def code3 (B : Vec F S264x1024 .f32) (T : Vec F S256x1024 .f32) : IVec S256x1024 8 :=
  k0_pay54 (norm2 i X B T) (amax2 i X B T) (zero2 i X B T)

/-- Those scales laid along lanes. -/
def lanes3 (B : Vec F S264x1024 .f32) (T : Vec F S256x1024 .f32) : FVec F S1x2x128 .f32 :=
  k0_pay55 (amax2 i X B T) (zero2 i X B T)

/-- The feed-forward activation of one group of 512 columns, from the group's gate and up codes and their scales. -/
def actOf (B : Vec F S264x1024 .f32) (T : Vec F S256x1024 .f32) (wg : Vec F S1x1024x512 .i8) (sg : Vec F S1x512 .f32) (wu : Vec F S1x1024x512 .i8) (su : Vec F S1x512 .f32) : FVec F S256x512 .f32 :=
  k0_pay59 (scale3 i X B T) (code3 i X B T) (k0_pay57 wg) (k0_pay58 (norm2 i X B T) (amax2 i X B T) (zero2 i X B T)) sg wu su

/-- The greatest magnitude of each row of an activation's group, and of what came before. -/
def maxOf (a : FVec F S256x1 .f32) (v : FVec F S256x512 .f32) : FVec F S256x1 .f32 :=
  maximumf a (shapeCast S256x1 (multiReduction .maximumf [1] S256 (absf v) 0xFF800000#32 reduces_S256x512_S256 (.inl rfl) rfl) shapeCasts_S256_S256x1)

/-- The activation of group 0. -/
def act0 (B : Vec F S264x1024 .f32) (T : Vec F S256x1024 .f32) : FVec F S256x512 .f32 :=
  actOf i X B T (View.ld X.wgu (Rect.unit (s := S2x1024x4608) ![0, 0, 0] S1x1024x512.size inb_S2x1024x4608_S1x1024x512_0_0_0)) (View.ld X.sgu (Rect.unit (s := S2x4608) ![0, 0] S1x512.size inb_S2x4608_S1x512_0_0)) (View.ld X.wgu (Rect.unit (s := S2x1024x4608) ![1, 0, 0] S1x1024x512.size inb_S2x1024x4608_S1x1024x512_1_0_0)) (View.ld X.sgu (Rect.unit (s := S2x4608) ![1, 0] S1x512.size inb_S2x4608_S1x512_1_0))

/-- The activation of group 1. -/
def act1 (B : Vec F S264x1024 .f32) (T : Vec F S256x1024 .f32) : FVec F S256x512 .f32 :=
  actOf i X B T (View.ld X.wgu (Rect.unit (s := S2x1024x4608) ![0, 0, 512] S1x1024x512.size inb_S2x1024x4608_S1x1024x512_0_0_512)) (View.ld X.sgu (Rect.unit (s := S2x4608) ![0, 512] S1x512.size inb_S2x4608_S1x512_0_512)) (View.ld X.wgu (Rect.unit (s := S2x1024x4608) ![1, 0, 512] S1x1024x512.size inb_S2x1024x4608_S1x1024x512_1_0_512)) (View.ld X.sgu (Rect.unit (s := S2x4608) ![1, 512] S1x512.size inb_S2x4608_S1x512_1_512))

/-- The activation of group 2. -/
def act2 (B : Vec F S264x1024 .f32) (T : Vec F S256x1024 .f32) : FVec F S256x512 .f32 :=
  actOf i X B T (View.ld X.wgu (Rect.unit (s := S2x1024x4608) ![0, 0, 1024] S1x1024x512.size inb_S2x1024x4608_S1x1024x512_0_0_1024)) (View.ld X.sgu (Rect.unit (s := S2x4608) ![0, 1024] S1x512.size inb_S2x4608_S1x512_0_1024)) (View.ld X.wgu (Rect.unit (s := S2x1024x4608) ![1, 0, 1024] S1x1024x512.size inb_S2x1024x4608_S1x1024x512_1_0_1024)) (View.ld X.sgu (Rect.unit (s := S2x4608) ![1, 1024] S1x512.size inb_S2x4608_S1x512_1_1024))

/-- The activation of group 3. -/
def act3 (B : Vec F S264x1024 .f32) (T : Vec F S256x1024 .f32) : FVec F S256x512 .f32 :=
  actOf i X B T (View.ld X.wgu (Rect.unit (s := S2x1024x4608) ![0, 0, 1536] S1x1024x512.size inb_S2x1024x4608_S1x1024x512_0_0_1536)) (View.ld X.sgu (Rect.unit (s := S2x4608) ![0, 1536] S1x512.size inb_S2x4608_S1x512_0_1536)) (View.ld X.wgu (Rect.unit (s := S2x1024x4608) ![1, 0, 1536] S1x1024x512.size inb_S2x1024x4608_S1x1024x512_1_0_1536)) (View.ld X.sgu (Rect.unit (s := S2x4608) ![1, 1536] S1x512.size inb_S2x4608_S1x512_1_1536))

/-- The activation of group 4. -/
def act4 (B : Vec F S264x1024 .f32) (T : Vec F S256x1024 .f32) : FVec F S256x512 .f32 :=
  actOf i X B T (View.ld X.wgu (Rect.unit (s := S2x1024x4608) ![0, 0, 2048] S1x1024x512.size inb_S2x1024x4608_S1x1024x512_0_0_2048)) (View.ld X.sgu (Rect.unit (s := S2x4608) ![0, 2048] S1x512.size inb_S2x4608_S1x512_0_2048)) (View.ld X.wgu (Rect.unit (s := S2x1024x4608) ![1, 0, 2048] S1x1024x512.size inb_S2x1024x4608_S1x1024x512_1_0_2048)) (View.ld X.sgu (Rect.unit (s := S2x4608) ![1, 2048] S1x512.size inb_S2x4608_S1x512_1_2048))

/-- The activation of group 5. -/
def act5 (B : Vec F S264x1024 .f32) (T : Vec F S256x1024 .f32) : FVec F S256x512 .f32 :=
  actOf i X B T (View.ld X.wgu (Rect.unit (s := S2x1024x4608) ![0, 0, 2560] S1x1024x512.size inb_S2x1024x4608_S1x1024x512_0_0_2560)) (View.ld X.sgu (Rect.unit (s := S2x4608) ![0, 2560] S1x512.size inb_S2x4608_S1x512_0_2560)) (View.ld X.wgu (Rect.unit (s := S2x1024x4608) ![1, 0, 2560] S1x1024x512.size inb_S2x1024x4608_S1x1024x512_1_0_2560)) (View.ld X.sgu (Rect.unit (s := S2x4608) ![1, 2560] S1x512.size inb_S2x4608_S1x512_1_2560))

/-- The activation of group 6. -/
def act6 (B : Vec F S264x1024 .f32) (T : Vec F S256x1024 .f32) : FVec F S256x512 .f32 :=
  actOf i X B T (View.ld X.wgu (Rect.unit (s := S2x1024x4608) ![0, 0, 3072] S1x1024x512.size inb_S2x1024x4608_S1x1024x512_0_0_3072)) (View.ld X.sgu (Rect.unit (s := S2x4608) ![0, 3072] S1x512.size inb_S2x4608_S1x512_0_3072)) (View.ld X.wgu (Rect.unit (s := S2x1024x4608) ![1, 0, 3072] S1x1024x512.size inb_S2x1024x4608_S1x1024x512_1_0_3072)) (View.ld X.sgu (Rect.unit (s := S2x4608) ![1, 3072] S1x512.size inb_S2x4608_S1x512_1_3072))

/-- The activation of group 7. -/
def act7 (B : Vec F S264x1024 .f32) (T : Vec F S256x1024 .f32) : FVec F S256x512 .f32 :=
  actOf i X B T (View.ld X.wgu (Rect.unit (s := S2x1024x4608) ![0, 0, 3584] S1x1024x512.size inb_S2x1024x4608_S1x1024x512_0_0_3584)) (View.ld X.sgu (Rect.unit (s := S2x4608) ![0, 3584] S1x512.size inb_S2x4608_S1x512_0_3584)) (View.ld X.wgu (Rect.unit (s := S2x1024x4608) ![1, 0, 3584] S1x1024x512.size inb_S2x1024x4608_S1x1024x512_1_0_3584)) (View.ld X.sgu (Rect.unit (s := S2x4608) ![1, 3584] S1x512.size inb_S2x4608_S1x512_1_3584))

/-- The activation of group 8. -/
def act8 (B : Vec F S264x1024 .f32) (T : Vec F S256x1024 .f32) : FVec F S256x512 .f32 :=
  actOf i X B T (View.ld X.wgu (Rect.unit (s := S2x1024x4608) ![0, 0, 4096] S1x1024x512.size inb_S2x1024x4608_S1x1024x512_0_0_4096)) (View.ld X.sgu (Rect.unit (s := S2x4608) ![0, 4096] S1x512.size inb_S2x4608_S1x512_0_4096)) (View.ld X.wgu (Rect.unit (s := S2x1024x4608) ![1, 0, 4096] S1x1024x512.size inb_S2x1024x4608_S1x1024x512_1_0_4096)) (View.ld X.sgu (Rect.unit (s := S2x4608) ![1, 4096] S1x512.size inb_S2x4608_S1x512_1_4096))

/-- The greatest magnitudes up to group 0. -/
def max0 (B : Vec F S264x1024 .f32) (T : Vec F S256x1024 .f32) : FVec F S256x1 .f32 :=
  maxOf k0_pay56 (act0 i X B T)

/-- The greatest magnitudes up to group 1. -/
def max1 (B : Vec F S264x1024 .f32) (T : Vec F S256x1024 .f32) : FVec F S256x1 .f32 :=
  maxOf (max0 i X B T) (act1 i X B T)

/-- The greatest magnitudes up to group 2. -/
def max2 (B : Vec F S264x1024 .f32) (T : Vec F S256x1024 .f32) : FVec F S256x1 .f32 :=
  maxOf (max1 i X B T) (act2 i X B T)

/-- The greatest magnitudes up to group 3. -/
def max3 (B : Vec F S264x1024 .f32) (T : Vec F S256x1024 .f32) : FVec F S256x1 .f32 :=
  maxOf (max2 i X B T) (act3 i X B T)

/-- The greatest magnitudes up to group 4. -/
def max4 (B : Vec F S264x1024 .f32) (T : Vec F S256x1024 .f32) : FVec F S256x1 .f32 :=
  maxOf (max3 i X B T) (act4 i X B T)

/-- The greatest magnitudes up to group 5. -/
def max5 (B : Vec F S264x1024 .f32) (T : Vec F S256x1024 .f32) : FVec F S256x1 .f32 :=
  maxOf (max4 i X B T) (act5 i X B T)

/-- The greatest magnitudes up to group 6. -/
def max6 (B : Vec F S264x1024 .f32) (T : Vec F S256x1024 .f32) : FVec F S256x1 .f32 :=
  maxOf (max5 i X B T) (act6 i X B T)

/-- The greatest magnitudes up to group 7. -/
def max7 (B : Vec F S264x1024 .f32) (T : Vec F S256x1024 .f32) : FVec F S256x1 .f32 :=
  maxOf (max6 i X B T) (act7 i X B T)

/-- The greatest magnitudes up to group 8. -/
def max8 (B : Vec F S264x1024 .f32) (T : Vec F S256x1024 .f32) : FVec F S256x1 .f32 :=
  maxOf (max7 i X B T) (act8 i X B T)

/-- The stores of the nine groups of the activation, the last first. -/
def actStores (B : Vec F S264x1024 .f32) (T : Vec F S256x1024 .f32) : List (View.Piece (Elt F) S256x4608 .f32) :=
  [⟨Rect.unit (s := S256x4608) ![0, 4096] S256x512.size inb_S256x4608_S256x512_0_4096, shapeCast S256x512 (act8 i X B T) shapeCasts_S256x512_S256x512⟩, ⟨Rect.unit (s := S256x4608) ![0, 3584] S256x512.size inb_S256x4608_S256x512_0_3584, shapeCast S256x512 (act7 i X B T) shapeCasts_S256x512_S256x512⟩, ⟨Rect.unit (s := S256x4608) ![0, 3072] S256x512.size inb_S256x4608_S256x512_0_3072, shapeCast S256x512 (act6 i X B T) shapeCasts_S256x512_S256x512⟩, ⟨Rect.unit (s := S256x4608) ![0, 2560] S256x512.size inb_S256x4608_S256x512_0_2560, shapeCast S256x512 (act5 i X B T) shapeCasts_S256x512_S256x512⟩, ⟨Rect.unit (s := S256x4608) ![0, 2048] S256x512.size inb_S256x4608_S256x512_0_2048, shapeCast S256x512 (act4 i X B T) shapeCasts_S256x512_S256x512⟩, ⟨Rect.unit (s := S256x4608) ![0, 1536] S256x512.size inb_S256x4608_S256x512_0_1536, shapeCast S256x512 (act3 i X B T) shapeCasts_S256x512_S256x512⟩, ⟨Rect.unit (s := S256x4608) ![0, 1024] S256x512.size inb_S256x4608_S256x512_0_1024, shapeCast S256x512 (act2 i X B T) shapeCasts_S256x512_S256x512⟩, ⟨Rect.unit (s := S256x4608) ![0, 512] S256x512.size inb_S256x4608_S256x512_0_512, shapeCast S256x512 (act1 i X B T) shapeCasts_S256x512_S256x512⟩, ⟨Rect.unit (s := S256x4608) ![0, 0] S256x512.size inb_S256x4608_S256x512_0_0, shapeCast S256x512 (act0 i X B T) shapeCasts_S256x512_S256x512⟩]

/-- The whole activation, its nine groups side by side. -/
def acts (B : Vec F S264x1024 .f32) (T : Vec F S256x1024 .f32) : Vec F S256x4608 .f32 :=
  fun j => View.canon (actStores i X B T) ((Rect.unit (s := S256x4608) ![0, 0] S256x4608.size inb_S256x4608_S256x4608_0_0).toLoadRect.idx j)

/-- The activation, as a load after its nine stores reads it. -/
theorem acts_read (B : Vec F S264x1024 .f32) (T : Vec F S256x1024 .f32) {sp : Space} (v : View sig .tc sp S256x4608 .f32) :
    v.readCov (Val := Elt F) (actStores i X B T) (Rect.unit (s := S256x4608) ![0, 0] S256x4608.size inb_S256x4608_S256x4608_0_0).toLoadRect = acts i X B T :=
  View.readCov_eq_canon' v _ _

/-- The scale of a row from its greatest magnitude. -/
def scaleOf (a : FVec F S256x1 .f32) : FVec F S256x1 .f32 :=
  select (cmpf .oeq a (broadcast S256x1 (Scalar.ofBits .f32 0x00000000#32 : F .f32))) (broadcast S256x1 (Scalar.ofBits .f32 0x3F800000#32 : F .f32))
    (divf a (broadcast S256x1 (Scalar.ofBits .f32 0x42FE0000#32 : F .f32)))

/-- The activation's scales. -/
def scale4 (B : Vec F S264x1024 .f32) (T : Vec F S256x1024 .f32) : FVec F S256x1 .f32 :=
  scaleOf (max8 i X B T)

/-- The activation's codes, from the activation. -/
def code4 (B : Vec F S264x1024 .f32) (T : Vec F S256x1024 .f32) (A : Vec F S256x4608 .f32) : IVec S256x4608 8 :=
  k0_pay93 (scale4 i X B T) A

/-- Those scales laid along lanes. -/
def lanes4 (B : Vec F S264x1024 .f32) (T : Vec F S256x1024 .f32) : FVec F S1x2x128 .f32 :=
  k0_pay94 (scale4 i X B T)

/-- The activation's codes, as a load after their store reads them. -/
theorem code4_read (B : Vec F S264x1024 .f32) (T : Vec F S256x1024 .f32) (A : Vec F S256x4608 .f32) {sp : Space} (v : View sig .tc sp S256x4608 .i8) :
    v.readCov (Val := Elt F) [⟨Rect.unit (s := S256x4608) ![0, 0] S256x4608.size inb_S256x4608_S256x4608_0_0, code4 i X B T A⟩]
      (Rect.unit (s := S256x4608) ![0, 0] S256x4608.size inb_S256x4608_S256x4608_0_0).toLoadRect = code4 i X B T A :=
  View.readCov_full v _ _ _ _

/-- The tile's result, from the activation's codes. -/
def out (B : Vec F S264x1024 .f32) (T : Vec F S256x1024 .f32) (Q : Vec F S256x4608 .i8) : FVec F S256x1024 .bf16 :=
  k0_pay1 (hid i X B T) (scale4 i X B T) (k0_pay95 Q (View.ld X.wdn (Rect.unit (s := S4608x1024) ![0, 0] S4608x1024.size inb_S4608x1024_S4608x1024_0_0))) (View.ld X.sdn (Rect.unit (s := S1x1024) ![0, 0] S1x1024.size inb_S1x1024_S1x1024_0_0))

/-- Row `off` of a buffer, where the copy's condition holds. -/
theorem inb_row {p : ℕ} {v v' k : BitVec 32} (h : Cert.Words.cond p v v' k = 1#1) : ∀ a, (![Cert.Words.off p v k, 0] : Fin 2 → ℕ) a + S1x1024.size a ≤ S264x1024.size a := fun a => by
  fin_cases a
  · exact Cert.Words.off_le h
  · exact (by decide : 0 + 1024 ≤ 1024)

/-- One guarded copy: row `(b, j)` of the state is the buffer's row for boundary `v` and word `k`, if this tile holds it. -/
def copy (B : Vec F S264x1024 .f32) (b j : ℕ) (v v' k : BitVec 32) (C : Vec F S6x8x1024 .f32) : Vec F S6x8x1024 .f32 :=
  if h : Cert.Words.cond (i 0).val v v' k = 1#1 then
    VecWindow.put C ![b, j, 0] S1x1x1024.size (shapeCast S1x1x1024
      (View.ld B (Rect.unit (s := S264x1024) ![Cert.Words.off (i 0).val v k, 0] S1x1024.size (inb_row h)) : Vec F S1x1024 .f32) shapeCasts_S1x1024_S1x1x1024)
  else C

/-- One guarded copy over contents that read the state, as a view reads it. -/
theorem copy_read (B : Vec F S264x1024 .f32) {sp : Space} (v : View sig .tc sp S6x8x1024 .f32) {b j : ℕ} {w w' k : BitVec 32} {C : Vec F S6x8x1024 .f32} {f : v.ty.Contents (Elt F)}
    {inb : ∀ a, (![b, j, 0] : Fin 3 → ℕ) a + S1x1x1024.size a ≤ S6x8x1024.size a} (hf : v.read (Elt F) f = C) :
    v.read (Elt F) (if h : Cert.Words.cond (i 0).val w w' k = 1#1 then v.writes (Elt F) f [⟨Rect.unit (s := S6x8x1024) ![b, j, 0] S1x1x1024.size inb,
        shapeCast S1x1x1024 (View.ld B (Rect.unit (s := S264x1024) ![Cert.Words.off (i 0).val w k, 0] S1x1024.size (inb_row h)) : Vec F S1x1024 .f32) shapeCasts_S1x1024_S1x1x1024⟩]
      else f) = copy i B b j w w' k C := by
  unfold copy
  by_cases h : Cert.Words.cond (i 0).val w w' k = 1#1
  · rw [dif_pos h, dif_pos h, View.read_writes_cons_put v _ _ _ _ rfl, View.writes_nil, hf]
  · rw [dif_neg h, dif_neg h, hf]

/-- The carried state as the tile finds it: zeros at the first tile. -/
def stateStart (C : Vec F S6x8x1024 .f32) : Vec F S6x8x1024 .f32 := if isFirst i then k0_pay4 else C

/-- The state a tile finds, as a view reads it. -/
theorem stateStart_read {sp : Space} (v : View sig .tc sp S6x8x1024 .f32) (f : v.ty.Contents (Elt F)) :
    v.read (Elt F) (if hc : isFirst i then v.writes (Elt F) f [⟨Rect.unit (s := S6x8x1024) ![0, 0, 0] S6x8x1024.size inb_S6x8x1024_S6x8x1024_0_0_0, k0_pay4⟩] else f)
      = stateStart i (v.read (Elt F) f) := by
  unfold stateStart
  by_cases hc : isFirst i
  · rw [dif_pos hc, if_pos hc]; exact View.read_writes_full v _ _ _ _
  · rw [dif_neg hc, if_neg hc]

/-- The state after sequence 0's three copies. -/
def state0 (B : Vec F S264x1024 .f32) (C : Vec F S6x8x1024 .f32) : Vec F S6x8x1024 .f32 :=
  (copy i B 0 2 (cu1 X) (cu0 X) 2#32 (copy i B 0 1 (cu1 X) (cu0 X) 1#32 (copy i B 0 0 (cu1 X) (cu0 X) 0#32 C)))

/-- The state after sequence 1's three copies. -/
def state1 (B : Vec F S264x1024 .f32) (C : Vec F S6x8x1024 .f32) : Vec F S6x8x1024 .f32 :=
  (copy i B 1 2 (cu2 X) (cu1 X) 2#32 (copy i B 1 1 (cu2 X) (cu1 X) 1#32 (copy i B 1 0 (cu2 X) (cu1 X) 0#32 C)))

/-- The state after sequence 2's three copies. -/
def state2 (B : Vec F S264x1024 .f32) (C : Vec F S6x8x1024 .f32) : Vec F S6x8x1024 .f32 :=
  (copy i B 2 2 (cu3 X) (cu2 X) 2#32 (copy i B 2 1 (cu3 X) (cu2 X) 1#32 (copy i B 2 0 (cu3 X) (cu2 X) 0#32 C)))

/-- The state after sequence 3's three copies. -/
def state3 (B : Vec F S264x1024 .f32) (C : Vec F S6x8x1024 .f32) : Vec F S6x8x1024 .f32 :=
  (copy i B 3 2 (cu4 X) (cu3 X) 2#32 (copy i B 3 1 (cu4 X) (cu3 X) 1#32 (copy i B 3 0 (cu4 X) (cu3 X) 0#32 C)))

/-- The state after sequence 4's three copies. -/
def state4 (B : Vec F S264x1024 .f32) (C : Vec F S6x8x1024 .f32) : Vec F S6x8x1024 .f32 :=
  (copy i B 4 2 (cu5 X) (cu4 X) 2#32 (copy i B 4 1 (cu5 X) (cu4 X) 1#32 (copy i B 4 0 (cu5 X) (cu4 X) 0#32 C)))

/-- The state after sequence 5's three copies. -/
def state5 (B : Vec F S264x1024 .f32) (C : Vec F S6x8x1024 .f32) : Vec F S6x8x1024 .f32 :=
  (copy i B 5 2 (cu6 X) (cu5 X) 2#32 (copy i B 5 1 (cu6 X) (cu5 X) 1#32 (copy i B 5 0 (cu6 X) (cu5 X) 0#32 C)))

/-- The carried state as the tile leaves it. -/
def stateEnd (B : Vec F S264x1024 .f32) (C : Vec F S6x8x1024 .f32) : Vec F S6x8x1024 .f32 :=
  state5 i X B (state4 i X B (state3 i X B (state2 i X B (state1 i X B (state0 i X B (stateStart i C))))))

/-- The state's result, from the carried state: its first three rows of each sequence. -/
def stateOut (C : Vec F S6x8x1024 .f32) : FVec F S6x3x1024 .bf16 :=
  k0_pay2 (View.ld C (Rect.unit (s := S6x8x1024) ![0, 0, 0] S6x3x1024.size inb_S6x8x1024_S6x3x1024_0_0_0))

end Cert.KernelIdeal.Body

end
-- ==== Proof.KernelIdealBody.lean ====
/- The kernel body's run at one grid point: from the input blocks, the scratch buffers and anything in the outputs, it
   leaves the inputs as they are, each output at its value, and the scratch buffers at the next tile's. -/
module

public import proofs.«01_k».proof.Proof.KernelIdealValues
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Each copy of a state's row stays inside the buffer, when its branch is taken. -/
theorem chk1 (i : grid0.Coords) (v v' : BitVec 32) : k0_chk1 i v v' := fun h => by
  intro a; fin_cases a
  · exact Cert.Words.off_le (k := 0#32) h
  · exact (by decide : 0 + 1024 ≤ 1024)
theorem chk2 (i : grid0.Coords) (v v' : BitVec 32) : k0_chk2 i v v' := fun h => by
  intro a; fin_cases a
  · exact Cert.Words.off_le (k := 1#32) h
  · exact (by decide : 0 + 1024 ≤ 1024)
theorem chk3 (i : grid0.Coords) (v v' : BitVec 32) : k0_chk3 i v v' := fun h => by
  intro a; fin_cases a
  · exact Cert.Words.off_le (k := 2#32) h
  · exact (by decide : 0 + 1024 ≤ 1024)
theorem chk4 (i : grid0.Coords) (v v' : BitVec 32) : k0_chk4 i v v' := fun h => by
  intro a; fin_cases a
  · exact Cert.Words.off_le (k := 0#32) h
  · exact (by decide : 0 + 1024 ≤ 1024)
theorem chk5 (i : grid0.Coords) (v v' : BitVec 32) : k0_chk5 i v v' := fun h => by
  intro a; fin_cases a
  · exact Cert.Words.off_le (k := 1#32) h
  · exact (by decide : 0 + 1024 ≤ 1024)
theorem chk6 (i : grid0.Coords) (v v' : BitVec 32) : k0_chk6 i v v' := fun h => by
  intro a; fin_cases a
  · exact Cert.Words.off_le (k := 2#32) h
  · exact (by decide : 0 + 1024 ≤ 1024)
theorem chk7 (i : grid0.Coords) (v v' : BitVec 32) : k0_chk7 i v v' := fun h => by
  intro a; fin_cases a
  · exact Cert.Words.off_le (k := 0#32) h
  · exact (by decide : 0 + 1024 ≤ 1024)
theorem chk8 (i : grid0.Coords) (v v' : BitVec 32) : k0_chk8 i v v' := fun h => by
  intro a; fin_cases a
  · exact Cert.Words.off_le (k := 1#32) h
  · exact (by decide : 0 + 1024 ≤ 1024)
theorem chk9 (i : grid0.Coords) (v v' : BitVec 32) : k0_chk9 i v v' := fun h => by
  intro a; fin_cases a
  · exact Cert.Words.off_le (k := 2#32) h
  · exact (by decide : 0 + 1024 ≤ 1024)
theorem chk10 (i : grid0.Coords) (v v' : BitVec 32) : k0_chk10 i v v' := fun h => by
  intro a; fin_cases a
  · exact Cert.Words.off_le (k := 0#32) h
  · exact (by decide : 0 + 1024 ≤ 1024)
theorem chk11 (i : grid0.Coords) (v v' : BitVec 32) : k0_chk11 i v v' := fun h => by
  intro a; fin_cases a
  · exact Cert.Words.off_le (k := 1#32) h
  · exact (by decide : 0 + 1024 ≤ 1024)
theorem chk12 (i : grid0.Coords) (v v' : BitVec 32) : k0_chk12 i v v' := fun h => by
  intro a; fin_cases a
  · exact Cert.Words.off_le (k := 2#32) h
  · exact (by decide : 0 + 1024 ≤ 1024)
theorem chk13 (i : grid0.Coords) (v v' : BitVec 32) : k0_chk13 i v v' := fun h => by
  intro a; fin_cases a
  · exact Cert.Words.off_le (k := 0#32) h
  · exact (by decide : 0 + 1024 ≤ 1024)
theorem chk14 (i : grid0.Coords) (v v' : BitVec 32) : k0_chk14 i v v' := fun h => by
  intro a; fin_cases a
  · exact Cert.Words.off_le (k := 1#32) h
  · exact (by decide : 0 + 1024 ≤ 1024)
theorem chk15 (i : grid0.Coords) (v v' : BitVec 32) : k0_chk15 i v v' := fun h => by
  intro a; fin_cases a
  · exact Cert.Words.off_le (k := 2#32) h
  · exact (by decide : 0 + 1024 ≤ 1024)
theorem chk16 (i : grid0.Coords) (v v' : BitVec 32) : k0_chk16 i v v' := fun h => by
  intro a; fin_cases a
  · exact Cert.Words.off_le (k := 0#32) h
  · exact (by decide : 0 + 1024 ≤ 1024)
theorem chk17 (i : grid0.Coords) (v v' : BitVec 32) : k0_chk17 i v v' := fun h => by
  intro a; fin_cases a
  · exact Cert.Words.off_le (k := 1#32) h
  · exact (by decide : 0 + 1024 ≤ 1024)
theorem chk18 (i : grid0.Coords) (v v' : BitVec 32) : k0_chk18 i v v' := fun h => by
  intro a; fin_cases a
  · exact Cert.Words.off_le (k := 2#32) h
  · exact (by decide : 0 + 1024 ≤ 1024)

set_option maxHeartbeats 16000000 in
/-- The body's run: each value the run names is one of the values above (the equations `e…`), so each buffer ends as said. -/
theorem body (c : Dev nD) (i : grid0.Coords) (arg1 : Memref sig .tc .smem S7 .i32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x3072 .i8) (harg4 : arg4.IsWhole) (arg5 : Memref sig .tc .vmem S1x3072 .f32) (harg5 : arg5.IsWhole) (arg6 : Memref sig .tc .vmem S4x1024 .f32) (harg6 : arg6.IsWhole) (arg7 : Memref sig .tc .vmem S1024x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2x1024x4608 .i8) (harg10 : arg10.IsWhole) (arg11 : Memref sig .tc .vmem S2x4608 .f32) (harg11 : arg11.IsWhole) (arg12 : Memref sig .tc .vmem S4608x1024 .i8) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S6x3x1024 .bf16) (harg15 : arg15.IsWhole) (arg16 : Memref sig .tc .vmem S256x1024 .i8) (harg16 : arg16.IsWhole) (arg17 : Memref sig .tc .vmem S1x2x128 .f32) (harg17 : arg17.IsWhole) (arg18 : Memref sig .tc .vmem S256x1024 .i8) (harg18 : arg18.IsWhole) (arg19 : Memref sig .tc .vmem S1x2x128 .f32) (harg19 : arg19.IsWhole) (arg20 : Memref sig .tc .vmem S256x1024 .i8) (harg20 : arg20.IsWhole) (arg21 : Memref sig .tc .vmem S1x2x128 .f32) (harg21 : arg21.IsWhole) (arg22 : Memref sig .tc .vmem S256x4608 .i8) (harg22 : arg22.IsWhole) (arg23 : Memref sig .tc .vmem S1x2x128 .f32) (harg23 : arg23.IsWhole) (arg24 : Memref sig .tc .vmem S264x1024 .f32) (harg24 : arg24.IsWhole) (arg25 : Memref sig .tc .vmem S6x8x1024 .f32) (harg25 : arg25.IsWhole) (arg26 : Memref sig .tc .vmem S256x4608 .f32) (harg26 : arg26.IsWhole)
    (X : Blocks F) (Y : Vec F S6x3x1024 .bf16) (P : Vec F S264x1024 .f32) (C : Vec F S6x8x1024 .f32) (E : Set ℕ) (K : PUnit → sProp 𝕄) :
    iprop(owns (c : Thread nD τ) arg1 fullShare X.cu ∗ owns (c : Thread nD τ) arg2 fullShare X.x ∗ owns (c : Thread nD τ) arg3 fullShare X.n1 ∗ owns (c : Thread nD τ) arg4 fullShare X.win ∗ owns (c : Thread nD τ) arg5 fullShare X.sin ∗ owns (c : Thread nD τ) arg6 fullShare X.taps ∗ owns (c : Thread nD τ) arg7 fullShare X.wout ∗ owns (c : Thread nD τ) arg8 fullShare X.sout ∗ owns (c : Thread nD τ) arg9 fullShare X.n2 ∗ owns (c : Thread nD τ) arg10 fullShare X.wgu ∗ owns (c : Thread nD τ) arg11 fullShare X.sgu ∗ owns (c : Thread nD τ) arg12 fullShare X.wdn ∗ owns (c : Thread nD τ) arg13 fullShare X.sdn ∗ (∃ d, owns (c : Thread nD τ) arg14 fullShare d) ∗ owns (c : Thread nD τ) arg15 fullShare Y ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare P ∗ owns (c : Thread nD τ) arg25 fullShare C ∗ (∃ d, owns (c : Thread nD τ) arg26 fullShare d) ∗ (owns (c : Thread nD τ) arg1 fullShare X.cu ∗ owns (c : Thread nD τ) arg2 fullShare X.x ∗ owns (c : Thread nD τ) arg3 fullShare X.n1 ∗ owns (c : Thread nD τ) arg4 fullShare X.win ∗ owns (c : Thread nD τ) arg5 fullShare X.sin ∗ owns (c : Thread nD τ) arg6 fullShare X.taps ∗ owns (c : Thread nD τ) arg7 fullShare X.wout ∗ owns (c : Thread nD τ) arg8 fullShare X.sout ∗ owns (c : Thread nD τ) arg9 fullShare X.n2 ∗ owns (c : Thread nD τ) arg10 fullShare X.wgu ∗ owns (c : Thread nD τ) arg11 fullShare X.sgu ∗ owns (c : Thread nD τ) arg12 fullShare X.wdn ∗ owns (c : Thread nD τ) arg13 fullShare X.sdn ∗ owns (c : Thread nD τ) arg14 fullShare (out i X (bx i X P) (bxTile X) (code4 i X (bx i X P) (bxTile X) (acts i X (bx i X P) (bxTile X)))) ∗ owns (c : Thread nD τ) arg15 fullShare (if k0_cond20 i = 1#1 then stateOut (stateEnd i X (bx i X P) C) else Y) ∗ owns (c : Thread nD τ) arg16 fullShare (code1 X) ∗ owns (c : Thread nD τ) arg17 fullShare (k0_pay10 (scale1 X)) ∗ owns (c : Thread nD τ) arg18 fullShare (code2 i X (bx i X P) (bxTile X)) ∗ owns (c : Thread nD τ) arg19 fullShare (lanes2 i X (bx i X P) (bxTile X)) ∗ owns (c : Thread nD τ) arg20 fullShare (code3 i X (bx i X P) (bxTile X)) ∗ owns (c : Thread nD τ) arg21 fullShare (lanes3 i X (bx i X P) (bxTile X)) ∗ owns (c : Thread nD τ) arg22 fullShare (code4 i X (bx i X P) (bxTile X) (acts i X (bx i X P) (bxTile X))) ∗ owns (c : Thread nD τ) arg23 fullShare (lanes4 i X (bx i X P) (bxTile X)) ∗ owns (c : Thread nD τ) arg24 fullShare (bxEnd X (tail X)) ∗ owns (c : Thread nD τ) arg25 fullShare (stateEnd i X (bx i X P) C) ∗ (∃ d, owns (c : Thread nD τ) arg26 fullShare d) -∗ K ⟨⟩)) ⊢ wp frame (wpE (defs₀ (F := F)) Variants.none c none) E (cc0_lfm2_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_lfm2_block_eq_skeleton]; unfold cc0_lfm2_block_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, ⟨%fs1, %hfs1, HS1⟩, ⟨%ds2, %fs2, -, HS2⟩, Hk⟩
  sl_exec! (disch := first | with_reducible exact chk1 _ _ _ | with_reducible exact chk2 _ _ _ | with_reducible exact chk3 _ _ _ | with_reducible exact chk4 _ _ _ | with_reducible exact chk5 _ _ _ | with_reducible exact chk6 _ _ _ | with_reducible exact chk7 _ _ _ | with_reducible exact chk8 _ _ _ | with_reducible exact chk9 _ _ _ | with_reducible exact chk10 _ _ _ | with_reducible exact chk11 _ _ _ | with_reducible exact chk12 _ _ _ | with_reducible exact chk13 _ _ _ | with_reducible exact chk14 _ _ _ | with_reducible exact chk15 _ _ _ | with_reducible exact chk16 _ _ _ | with_reducible exact chk17 _ _ _ | with_reducible exact chk18 _ _ _)
  sl_step
  have hB : arg24.view.read (Elt F) (arg24.view.writes (Elt F) (if hc : isFirst i then arg24.view.writes (Elt F) fs0 [⟨Rect.unit (s := S264x1024) ![0, 0] S8x1024.size inb_S264x1024_S8x1024_0_0, k0_pay3⟩] else fs0) (bxStore X)) = bx i X P := by
    rw [← hfs0]; exact bx_read i X arg24.view fs0
  have e0 : (body.sl.r (F := F) c arg2 f1) = xf X := by
    delta body.sl.r xf
    first | done | (simp only [View.readAt_eq_ld, hf1] <;> rfl) | rfl
  have e1 : (body.sl.r_1 (F := F) c arg2 arg3 f1 f2) = scale1 X := by
    delta body.sl.r_1 scale1
    first | done | (simp only [View.readAt_eq_ld, hf1, hf2] <;> rfl) | rfl
  have e2 : (body.sl.r_2 (F := F) c arg2 arg3 f1 f2) = round1 X := by
    delta body.sl.r_2 round1
    first | done | (simp only [View.readAt_eq_ld, hf1, hf2] <;> rfl) | rfl
  have e3 : (body.sl.r_3 (F := F) c arg2 arg3 f1 f2) = code1 X := by
    delta body.sl.r_3 code1
    first | done | (simp only [e2, View.readAt_eq_ld, hf1, hf2] <;> rfl) | rfl
  have eHS0_1 : (body.sl.HS0_1 (F := F) c arg2 arg3 arg4 arg5 f1 f2 f3 f4) = bxStore X := by
    delta body.sl.HS0_1 body.sl.r_4 body.sl.r_5 body.sl.r_6 bxStore bxTile
    first | done | (simp only [e1, e2, View.readAt_eq_ld, hf1, hf2, hf3, hf4] <;> rfl) | rfl
  have e10 : (body.sl.r_10 (F := F) c arg2 arg3 arg4 arg5 f1 f2 f3 f4) = gate X := by
    delta body.sl.r_10 gate
    first | done | (simp only [e1, e3, View.readAt_eq_ld, hf1, hf2, hf3, hf4] <;> rfl) | rfl
  have e7 : (body.sl.r_7 (F := F) c arg1 f0) = cu1 X := by
    delta body.sl.r_7 cu1
    first | done | (simp only [View.readAt_eq_ld, hf0] <;> rfl) | rfl
  have e8 : (body.sl.r_8 (F := F) c arg1 f0) = cu2 X := by
    delta body.sl.r_8 cu2
    first | done | (simp only [View.readAt_eq_ld, hf0] <;> rfl) | rfl
  have e9 : (body.sl.r_9 (F := F) c arg1 f0) = cu3 X := by
    delta body.sl.r_9 cu3
    first | done | (simp only [View.readAt_eq_ld, hf0] <;> rfl) | rfl
  have e14 : (body.sl.r_14 (F := F) c arg1 f0) = cu4 X := by
    delta body.sl.r_14 cu4
    first | done | (simp only [View.readAt_eq_ld, hf0] <;> rfl) | rfl
  have e15 : (body.sl.r_15 (F := F) c arg1 f0) = cu5 X := by
    delta body.sl.r_15 cu5
    first | done | (simp only [View.readAt_eq_ld, hf0] <;> rfl) | rfl
  have e19 : (body.sl.r_19 (F := F) c arg1 f0) = cu0 X := by
    delta body.sl.r_19 cu0
    first | done | (simp only [View.readAt_eq_ld, hf0] <;> rfl) | rfl
  have e21 : (body.sl.r_21 (F := F) c arg1 f0) = cu6 X := by
    delta body.sl.r_21 cu6
    first | done | (simp only [View.readAt_eq_ld, hf0] <;> rfl) | rfl
  have e11 : (body.sl.r_11 i) = k0_pay16 (t0 i) := by
    delta body.sl.r_11
    rfl
  have e12 : (body.sl.r_12 (F := F) c i arg1 f0) = k0_pay17 (t0 i) (cu1 X) (cu1 X) (cu2 X) (cu2 X) := by
    delta body.sl.r_12
    first | done | (simp only [e7, e8, View.readAt_eq_ld, hf0] <;> rfl) | rfl
  have e13 : (body.sl.r_13 (F := F) c i arg1 f0) = k0_pay18 (t0 i) (cu3 X) := by
    delta body.sl.r_13
    first | done | (simp only [e9, View.readAt_eq_ld, hf0] <;> rfl) | rfl
  have e16 : (body.sl.r_16 (F := F) c i arg1 f0) = pos i X := by
    delta body.sl.r_16 pos
    first | done | (simp only [e11, e12, e13, e9, e14, e15, View.readAt_eq_ld, hf0] <;> rfl) | rfl
  have ev144 : (body.sl.v144 (F := F) c arg2 arg3 arg4 arg5 arg24 f1 f2 f3 f4) = bxTile X := by
    delta body.sl.v144
    rw [eHS0_1]; exact bxTile_read X arg24.view
  have ev157 : (body.sl.v157 (F := F) c i arg2 arg3 arg4 arg5 arg24 f1 f2 f3 f4 fs0) = View.ld (bx i X P) (Rect.unit (s := S264x1024) ![7, 0] S256x1024.size inb_S264x1024_S256x1024_7_0) := by
    delta body.sl.v157
    simp only [View.readAt_eq_ld]; rw [eHS0_1]; exact congrArg (fun Z => View.ld Z _) hB
  have ev170 : (body.sl.v170 (F := F) c i arg2 arg3 arg4 arg5 arg24 f1 f2 f3 f4 fs0) = View.ld (bx i X P) (Rect.unit (s := S264x1024) ![6, 0] S256x1024.size inb_S264x1024_S256x1024_6_0) := by
    delta body.sl.v170
    simp only [View.readAt_eq_ld]; rw [eHS0_1]; exact congrArg (fun Z => View.ld Z _) hB
  have ev183 : (body.sl.v183 (F := F) c i arg2 arg3 arg4 arg5 arg24 f1 f2 f3 f4 fs0) = View.ld (bx i X P) (Rect.unit (s := S264x1024) ![5, 0] S256x1024.size inb_S264x1024_S256x1024_5_0) := by
    delta body.sl.v183
    simp only [View.readAt_eq_ld]; rw [eHS0_1]; exact congrArg (fun Z => View.ld Z _) hB
  have e20 : (body.sl.r_20 (F := F) c i arg1 arg2 arg3 arg4 arg5 arg6 arg24 f0 f1 f2 f3 f4 f5 fs0) = conv i X (bx i X P) (bxTile X) := by
    delta body.sl.r_20 body.sl.r_17 body.sl.r_18 body.sl.cst_57 conv
    first | done | (simp only [e16, e11, e12, e13, e9, e14, e15, ev144, ev157, ev170, ev183, View.readAt_eq_ld, hf0, hf1, hf2, hf3, hf4, hf5] <;> rfl) | rfl
  have e22 : (body.sl.r_22 (F := F) c i arg1 arg2 arg3 arg4 arg5 arg6 arg24 f0 f1 f2 f3 f4 f5 fs0) = scale2 i X (bx i X P) (bxTile X) := by
    delta body.sl.r_22 scale2
    first | done | (simp only [e10, e20, View.readAt_eq_ld, hf0, hf1, hf2, hf3, hf4, hf5] <;> rfl) | rfl
  have e23 : (body.sl.r_23 (F := F) c i arg1 arg2 arg3 arg4 arg5 arg6 arg24 f0 f1 f2 f3 f4 f5 fs0) = code2 i X (bx i X P) (bxTile X) := by
    delta body.sl.r_23 code2
    first | done | (simp only [e10, e20, View.readAt_eq_ld, hf0, hf1, hf2, hf3, hf4, hf5] <;> rfl) | rfl
  have e24 : (body.sl.r_24 (F := F) c i arg1 arg2 arg3 arg4 arg5 arg6 arg24 f0 f1 f2 f3 f4 f5 fs0) = k0_pay46 (gate X) (conv i X (bx i X P) (bxTile X)) := by
    delta body.sl.r_24
    first | done | (simp only [e10, e20, View.readAt_eq_ld, hf0, hf1, hf2, hf3, hf4, hf5] <;> rfl) | rfl
  have e25 : (body.sl.r_25 (F := F) c i arg1 arg2 arg3 arg4 arg5 arg6 arg24 f0 f1 f2 f3 f4 f5 fs0) = k0_pay47 (gate X) (conv i X (bx i X P) (bxTile X)) := by
    delta body.sl.r_25
    first | done | (simp only [e10, e20, View.readAt_eq_ld, hf0, hf1, hf2, hf3, hf4, hf5] <;> rfl) | rfl
  have e26 : (body.sl.r_26 (F := F) c i arg1 arg2 arg3 arg4 arg5 arg6 arg7 arg8 arg24 f0 f1 f2 f3 f4 f5 f6 f7 fs0) = hid i X (bx i X P) (bxTile X) := by
    delta body.sl.r_26 hid
    first | done | (simp only [e0, e22, e23, View.readAt_eq_ld, hf0, hf1, hf2, hf3, hf4, hf5, hf6, hf7] <;> rfl) | rfl
  have e27 : (body.sl.r_27 (F := F) c i arg1 arg2 arg3 arg4 arg5 arg6 arg7 arg8 arg9 arg24 f0 f1 f2 f3 f4 f5 f6 f7 f8 fs0) = norm2 i X (bx i X P) (bxTile X) := by
    delta body.sl.r_27 norm2
    first | done | (simp only [e0, e22, e23, View.readAt_eq_ld, hf0, hf1, hf2, hf3, hf4, hf5, hf6, hf7, hf8] <;> rfl) | rfl
  have e28 : (body.sl.r_28 (F := F) c i arg1 arg2 arg3 arg4 arg5 arg6 arg7 arg8 arg9 arg24 f0 f1 f2 f3 f4 f5 f6 f7 f8 fs0) = amax2 i X (bx i X P) (bxTile X) := by
    delta body.sl.r_28 amax2
    first | done | (simp only [e0, e22, e23, View.readAt_eq_ld, hf0, hf1, hf2, hf3, hf4, hf5, hf6, hf7, hf8] <;> rfl) | rfl
  have e29 : (body.sl.r_29 (F := F) c i arg1 arg2 arg3 arg4 arg5 arg6 arg7 arg8 arg9 arg24 f0 f1 f2 f3 f4 f5 f6 f7 f8 fs0) = zero2 i X (bx i X P) (bxTile X) := by
    delta body.sl.r_29 zero2
    first | done | (simp only [e0, e22, e23, View.readAt_eq_ld, hf0, hf1, hf2, hf3, hf4, hf5, hf6, hf7, hf8] <;> rfl) | rfl
  have e30 : (body.sl.r_30 (F := F) c i arg1 arg2 arg3 arg4 arg5 arg6 arg7 arg8 arg9 arg24 f0 f1 f2 f3 f4 f5 f6 f7 f8 fs0) = scale3 i X (bx i X P) (bxTile X) := by
    delta body.sl.r_30 scale3
    first | done | (simp only [e28, e29, View.readAt_eq_ld, hf0, hf1, hf2, hf3, hf4, hf5, hf6, hf7, hf8] <;> rfl) | rfl
  have e31 : (body.sl.r_31 (F := F) c i arg1 arg2 arg3 arg4 arg5 arg6 arg7 arg8 arg9 arg24 f0 f1 f2 f3 f4 f5 f6 f7 f8 fs0) = code3 i X (bx i X P) (bxTile X) := by
    delta body.sl.r_31 code3
    first | done | (simp only [e27, e28, e29, View.readAt_eq_ld, hf0, hf1, hf2, hf3, hf4, hf5, hf6, hf7, hf8] <;> rfl) | rfl
  have e33 : (body.sl.r_33 (F := F) c i arg1 arg2 arg3 arg4 arg5 arg6 arg7 arg8 arg9 arg24 f0 f1 f2 f3 f4 f5 f6 f7 f8 fs0) = k0_pay58 (norm2 i X (bx i X P) (bxTile X)) (amax2 i X (bx i X P) (bxTile X)) (zero2 i X (bx i X P) (bxTile X)) := by
    delta body.sl.r_33
    first | done | (simp only [e27, e28, e29, View.readAt_eq_ld, hf0, hf1, hf2, hf3, hf4, hf5, hf6, hf7, hf8] <;> rfl) | rfl
  have e50 : (body.sl.r_50 (F := F) c i arg1 arg2 arg3 arg4 arg5 arg6 arg7 arg8 arg9 arg10 arg11 arg24 f0 f1 f2 f3 f4 f5 f6 f7 f8 f9 f10 fs0) = scale4 i X (bx i X P) (bxTile X) := by
    delta body.sl.r_50 body.sl.r_49 body.sl.r_48 body.sl.r_47 body.sl.r_46 body.sl.r_45 body.sl.r_44 body.sl.r_43 body.sl.r_42 body.sl.r_41 body.sl.r_40 body.sl.r_39 body.sl.r_38 body.sl.r_37 body.sl.r_36 body.sl.r_35 body.sl.r_34 body.sl.r_32 scale4 max8 max7 max6 max5 max4 max3 max2 max1 max0 act0 act1 act2 act3 act4 act5 act6 act7 act8 actOf
    first | done | (simp only [e30, e31, e33, e27, e28, e29, View.readAt_eq_ld, hf0, hf1, hf2, hf3, hf4, hf5, hf6, hf7, hf8, hf9, hf10] <;> rfl) | rfl
  have eHS2_9 : (body.sl.HS2_9 (F := F) c i arg1 arg2 arg3 arg4 arg5 arg6 arg7 arg8 arg9 arg10 arg11 arg24 f0 f1 f2 f3 f4 f5 f6 f7 f8 f9 f10 fs0) = actStores i X (bx i X P) (bxTile X) := by
    delta body.sl.HS2_9 body.sl.r_49 body.sl.r_48 body.sl.r_47 body.sl.r_46 body.sl.r_45 body.sl.r_44 body.sl.r_43 body.sl.r_42 body.sl.r_41 body.sl.r_40 body.sl.r_39 body.sl.r_38 body.sl.r_37 body.sl.r_36 body.sl.r_35 body.sl.r_34 body.sl.r_32 actStores act0 act1 act2 act3 act4 act5 act6 act7 act8 actOf
    first | done | (simp only [e30, e31, e33, e27, e28, e29, View.readAt_eq_ld, hf0, hf1, hf2, hf3, hf4, hf5, hf6, hf7, hf8, hf9, hf10] <;> rfl) | rfl
  have ev829 : (body.sl.v829 (F := F) c i arg1 arg2 arg3 arg4 arg5 arg6 arg7 arg8 arg9 arg10 arg11 arg24 arg26 f0 f1 f2 f3 f4 f5 f6 f7 f8 f9 f10 fs0) = acts i X (bx i X P) (bxTile X) := by
    delta body.sl.v829
    rw [eHS2_9]; exact acts_read i X _ _ arg26.view
  have eH21_1 : (body.sl.H21_1 (F := F) c i arg1 arg2 arg3 arg4 arg5 arg6 arg7 arg8 arg9 arg10 arg11 arg24 arg26 f0 f1 f2 f3 f4 f5 f6 f7 f8 f9 f10 fs0) = [⟨Rect.unit (s := S256x4608) ![0, 0] S256x4608.size inb_S256x4608_S256x4608_0_0, code4 i X (bx i X P) (bxTile X) (acts i X (bx i X P) (bxTile X))⟩] := by
    delta body.sl.H21_1 code4
    first | done | (simp only [e50, ev829, View.readAt_eq_ld, hf0, hf1, hf2, hf3, hf4, hf5, hf6, hf7, hf8, hf9, hf10] <;> rfl) | rfl
  have ev862 : (body.sl.v862 (F := F) c i arg1 arg2 arg3 arg4 arg5 arg6 arg7 arg8 arg9 arg10 arg11 arg22 arg24 arg26 f0 f1 f2 f3 f4 f5 f6 f7 f8 f9 f10 fs0) = code4 i X (bx i X P) (bxTile X) (acts i X (bx i X P) (bxTile X)) := by
    delta body.sl.v862
    rw [eH21_1]; exact code4_read i X _ _ _ arg22.view
  have e51 : (body.sl.r_51 (F := F) c i arg1 arg2 arg3 arg4 arg5 arg6 arg7 arg8 arg9 arg10 arg11 arg12 arg22 arg24 arg26 f0 f1 f2 f3 f4 f5 f6 f7 f8 f9 f10 f11 fs0) = k0_pay95 (code4 i X (bx i X P) (bxTile X) (acts i X (bx i X P) (bxTile X))) (View.ld X.wdn (Rect.unit (s := S4608x1024) ![0, 0] S4608x1024.size inb_S4608x1024_S4608x1024_0_0)) := by
    delta body.sl.r_51
    first | done | (simp only [ev862, View.readAt_eq_ld, hf0, hf1, hf2, hf3, hf4, hf5, hf6, hf7, hf8, hf9, hf10, hf11] <;> rfl) | rfl
  have e52 : (body.sl.r_52 (F := F) c arg13 f12) = View.ld X.sdn (Rect.unit (s := S1x1024) ![0, 0] S1x1024.size inb_S1x1024_S1x1024_0_0) := by
    delta body.sl.r_52
    first | done | (simp only [View.readAt_eq_ld, hf12] <;> rfl) | rfl
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact hf11
  isplitl [H12]
  · iexists _; isplitr
    swap; · iexact H12
    ipureintro; exact hf12
  isplitl [H13]
  · iexists _; isplitr
    swap; · iexact H13
    ipureintro
    delta body.sl.H13_1; rw [e26, e50, e51, e52]; exact View.read_writes_full _ _ _ _ _
  isplitl [H14]
  · iexists _; isplitr
    swap; · iexact H14
    ipureintro
    by_cases h : k0_cond20 i = 1#1
    · rw [dif_pos h, if_pos h]
      refine Eq.trans (View.read_writes_full _ _ _ _ _) ?_
      refine congrArg (fun Z => stateOut Z) ?_
      unfold stateEnd state5 state4 state3 state2 state1 state0
      rw [← hB, ← eHS0_1, ← e19, ← e7, ← e8, ← e9, ← e14, ← e15, ← e21, ← hfs1]
      repeat refine copy_read i _ _ ?_
      exact stateStart_read i _ _
    · rw [dif_neg h, if_neg h]; exact hf14
  isplitl [H15]
  · iexists _; isplitr
    swap; · iexact H15
    ipureintro
    delta body.sl.H15_1; rw [e2]; exact View.read_writes_full _ _ _ _ _
  isplitl [H16]
  · iexists _; isplitr
    swap; · iexact H16
    ipureintro
    delta body.sl.H16_1; rw [e1]; exact View.read_writes_full _ _ _ _ _
  isplitl [H17]
  · iexists _; isplitr
    swap; · iexact H17
    ipureintro
    delta body.sl.H17_1; rw [e10, e20]; exact View.read_writes_full _ _ _ _ _
  isplitl [H18]
  · iexists _; isplitr
    swap; · iexact H18
    ipureintro
    delta body.sl.H18_1; rw [e24, e25]; exact View.read_writes_full _ _ _ _ _
  isplitl [H19]
  · iexists _; isplitr
    swap; · iexact H19
    ipureintro
    delta body.sl.H19_1; rw [e27, e28, e29]; exact View.read_writes_full _ _ _ _ _
  isplitl [H20]
  · iexists _; isplitr
    swap; · iexact H20
    ipureintro
    delta body.sl.H20_1; rw [e28, e29]; exact View.read_writes_full _ _ _ _ _
  isplitl [H21]
  · iexists _; isplitr
    swap; · iexact H21
    ipureintro
    rw [eH21_1]; exact View.read_writes_full _ _ _ _ _
  isplitl [H22]
  · iexists _; isplitr
    swap; · iexact H22
    ipureintro
    delta body.sl.H22_1; rw [e50]; exact View.read_writes_full _ _ _ _ _
  isplitl [HS0]
  · iexists _; isplitr
    swap; · iexact HS0
    ipureintro; delta body.sl.HS0_2 body.sl.v438; rw [eHS0_1, tail_read X arg24.view]; exact View.read_writes_junk_eq_canon _ _
  isplitl [HS1]
  · iexists _; isplitr
    swap; · iexact HS1
    ipureintro
    unfold stateEnd state5 state4 state3 state2 state1 state0
    rw [← hB, ← eHS0_1, ← e19, ← e7, ← e8, ← e9, ← e14, ← e15, ← e21, ← hfs1]
    repeat refine copy_read i _ _ ?_
    exact stateStart_read i _ _
  iexists _; iexists _; isplitr
  swap; · iexact HS2
  ipureintro; rfl
end Cert.KernelIdeal.Body

end
-- ==== Proof.KernelIdealFrame.lean ====
/- The whole pipeline's run: what each output block holds after each grid point, what the two carried scratch buffers hold
   between points, and the frame: every execution ends, with the arguments unchanged and every semaphore at zero. -/
module

public import proofs.«01_k».proof.Proof.KernelIdealBody
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at a grid point. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- Zeros: what stands for the convolution's buffer before the first point, where nothing is read of it. -/
def noBx : Vec F S264x1024 .f32 := fun _ => Scalar.ofBits .f32 0#32

/-- Before the first point and after it, the convolution's buffer as the point before left it. -/
def bxBefore (c : Dev nD) : (n : ℕ) → n ≤ cfg0.N → Vec F S264x1024 .f32
  | 0, _ => noBx
  | n + 1, h => bxEnd (blocks m c ⟨n, h⟩) (tail (blocks m c ⟨n, h⟩))

/-- The convolution's buffer at a point, its tile's input stored. -/
def bxAt (c : Dev nD) (t : Fin cfg0.N) : Vec F S264x1024 .f32 :=
  bx (grid0.coords t) (blocks m c t) (bxBefore m c t.val (Nat.le_of_lt t.isLt))

/-- The carried state before point `n`: the copies of the points before. -/
def stateBefore (c : Dev nD) : (n : ℕ) → n ≤ cfg0.N → Vec F S6x8x1024 .f32
  | 0, _ => k0_pay4
  | n + 1, h => stateEnd (grid0.coords ⟨n, h⟩) (blocks m c ⟨n, h⟩) (bxAt m c ⟨n, h⟩) (stateBefore c n (Nat.le_of_succ_le h))

/-- The carried state after a point. -/
def stateAt (c : Dev nD) (t : Fin cfg0.N) : Vec F S6x8x1024 .f32 := stateBefore m c (t.val + 1) t.isLt

/-- The first grid point is the first tile. -/
theorem isFirst_of : ∀ t : Fin cfg0.N, t.val = 0 → isFirst (grid0.coords t) := by decide +kernel

/-- Only the first is. -/
theorem not_isFirst_of : ∀ t : Fin cfg0.N, t.val ≠ 0 → ¬ isFirst (grid0.coords t) := by decide +kernel

/-- Where the state's result is not stored, the pipeline counts its window idle, -/
theorem idle14 : ∀ t : Fin cfg0.N, ¬ k0_cond20 (grid0.coords t) = 1#1 → cfg0.idle 14 (grid0.coords t) = true := by decide +kernel

/-- and writes nothing back; -/
theorem noFlush14 : ∀ t : Fin cfg0.N, ¬ k0_cond20 (grid0.coords t) = 1#1 → (cfg0.win 14).flush t = false := by decide +kernel

/-- where it is stored the window is live. -/
theorem live14 : ∀ t : Fin cfg0.N, k0_cond20 (grid0.coords t) = 1#1 → cfg0.idle 14 (grid0.coords t) = false := by decide +kernel

/-- At the first tile the buffer with the tile stored does not depend on what was there: every row is written. -/
theorem bx_first {i : grid0.Coords} (h : isFirst i) (X : Blocks F) (P P' : Vec F S264x1024 .f32) : bx i X P = bx i X P' := by
  unfold bx bxStart
  rw [if_pos h, if_pos h]
  funext y
  have h0 : (y 0).val < 264 := (y 0).isLt
  have h1 : (y 1).val < 1024 := (y 1).isLt
  unfold VecWindow.put
  split
  · rfl
  · rename_i hn
    rw [dif_pos, dif_pos]
    all_goals
      intro a
      fin_cases a
      · refine ⟨Nat.zero_le _, ?_⟩
        by_contra hc
        refine hn fun a => ?_
        fin_cases a
        · exact ⟨by simp at hc ⊢; omega, by simp; omega⟩
        · exact ⟨Nat.zero_le _, by simp; omega⟩
      · exact ⟨Nat.zero_le _, by simp; omega⟩

/-- The scratch memrefs. -/
abbrev scM0 : Memref sig .tc .vmem S264x1024 .f32 := Memref.whole cc0_scratch0
abbrev scM1 : Memref sig .tc .vmem S6x8x1024 .f32 := Memref.whole cc0_scratch1
abbrev scM2 : Memref sig .tc .vmem S256x4608 .f32 := Memref.whole cc0_scratch2

/-- The launch's invariant, its scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before point `n`: the launch's before the first, and afterwards the carried buffers at their contents. -/
def PhiS (c : Dev nD) : (n : ℕ) → n ≤ cfg0.N → sProp 𝕄
  | 0, _ => Pipeline.ΦA spec0 c
  | n + 1, hn => iprop(iprop(owns (c : Thread nD τ) scM0 fullShare (bxBefore m c (n + 1) hn) ∗ owns (c : Thread nD τ) scM1 fullShare (stateBefore m c (n + 1) hn) ∗ (∃ d, owns (c : Thread nD τ) scM2 fullShare d)) ∗ (∃ r, prngReg c r))

/-- After a point. -/
theorem PhiS_succ (c : Dev nD) (n : ℕ) (hn : n + 1 ≤ cfg0.N) :
    PhiS m c (n + 1) hn = iprop(iprop(owns (c : Thread nD τ) scM0 fullShare (bxBefore m c (n + 1) hn) ∗ owns (c : Thread nD τ) scM1 fullShare (stateBefore m c (n + 1) hn) ∗ (∃ d, owns (c : Thread nD τ) scM2 fullShare d)) ∗ (∃ r, prngReg c r)) := rfl

/-- Before any point the scratch buffers hold something from which the point's values follow. -/
theorem PhiS_in (c : Dev nD) (t : Fin cfg0.N) :
    PhiS m c t.val (Nat.le_of_lt t.isLt) ⊢ iprop(∃ P C, iprop(⌜bx (grid0.coords t) (blocks m c t) P = bxAt m c t ∧ stateEnd (grid0.coords t) (blocks m c t) (bxAt m c t) C = stateAt m c t⌝
      ∗ owns (c : Thread nD τ) scM0 fullShare P ∗ owns (c : Thread nD τ) scM1 fullShare C ∗ (∃ d, owns (c : Thread nD τ) scM2 fullShare d)) ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA_eq]
    iintro ⟨⟨⟨%P, H0⟩, ⟨%C, H1⟩, H2⟩, Hg⟩
    iexists P; iexists C
    isplitr [Hg]
    · isplitr
      · ipureintro
        refine ⟨bx_first (isFirst_of _ rfl) _ _ _, ?_⟩
        show _ = stateEnd _ _ _ _
        unfold stateEnd stateStart
        rw [if_pos (isFirst_of ⟨0, hn⟩ rfl), if_pos (isFirst_of ⟨0, hn⟩ rfl)]
      isplitl [H0]; · iexact H0
      isplitl [H1]; · iexact H1
      iexact H2
    iexact Hg
  | succ n =>
    rw [show PhiS m c (⟨n + 1, hn⟩ : Fin cfg0.N).val (Nat.le_of_lt hn) = _ from PhiS_succ m c n (Nat.le_of_lt hn)]
    iintro ⟨⟨H0, H1, H2⟩, Hg⟩
    iexists _; iexists _
    isplitr [Hg]
    · isplitr
      swap
      · isplitl [H0]; · iexact H0
        isplitl [H1]; · iexact H1
        iexact H2
      ipureintro
      exact ⟨rfl, rfl⟩
    iexact Hg

/-- The pipeline's proof data: the arrays as the region finds them, each input's buffer at its block and each output's at its value
    after each point, the invariant above, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out (grid0.coords t) (blocks m c t) (bxAt m c t) (bxTile (blocks m c t)) (code4 (grid0.coords t) (blocks m c t) (bxAt m c t) (bxTile (blocks m c t)) (acts (grid0.coords t) (blocks m c t) (bxAt m c t) (bxTile (blocks m c t))))
    | ⟨14, _⟩ => stateOut (stateAt m c t)
    | ⟨15, _⟩ => code1 (blocks m c t)
    | ⟨16, _⟩ => k0_pay10 (scale1 (blocks m c t))
    | ⟨17, _⟩ => code2 (grid0.coords t) (blocks m c t) (bxAt m c t) (bxTile (blocks m c t))
    | ⟨18, _⟩ => lanes2 (grid0.coords t) (blocks m c t) (bxAt m c t) (bxTile (blocks m c t))
    | ⟨19, _⟩ => code3 (grid0.coords t) (blocks m c t) (bxAt m c t) (bxTile (blocks m c t))
    | ⟨20, _⟩ => lanes3 (grid0.coords t) (blocks m c t) (bxAt m c t) (bxTile (blocks m c t))
    | ⟨21, _⟩ => (code4 (grid0.coords t) (blocks m c t) (bxAt m c t) (bxTile (blocks m c t)) (acts (grid0.coords t) (blocks m c t) (bxAt m c t) (bxTile (blocks m c t))))
    | ⟨22, _⟩ => lanes4 (grid0.coords t) (blocks m c t) (bxAt m c t) (bxTile (blocks m c t))
    | ⟨_ + 23, h⟩ => absurd h (Nat.not_lt.2 (Nat.le_add_left _ _))
  Φ t := PhiS m c t.val (Nat.le_of_lt_succ t.isLt)
  q _ := fullShare
  owed _ := 0

/-- Its arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = out (grid0.coords t) (blocks m c t) (bxAt m c t) (bxTile (blocks m c t)) (code4 (grid0.coords t) (blocks m c t) (bxAt m c t) (bxTile (blocks m c t)) (acts (grid0.coords t) (blocks m c t) (bxAt m c t) (bxTile (blocks m c t)))) := by dsimp only [dats]
theorem after_14 (c : Dev nD) (t : Fin cfg0.N) : (dats m 0 c).after 14 t = stateOut (stateAt m c t) := by dsimp only [dats]
theorem after_15 (c : Dev nD) (t : Fin cfg0.N) : (dats m 0 c).after 15 t = code1 (blocks m c t) := by dsimp only [dats]
theorem after_16 (c : Dev nD) (t : Fin cfg0.N) : (dats m 0 c).after 16 t = k0_pay10 (scale1 (blocks m c t)) := by dsimp only [dats]
theorem after_17 (c : Dev nD) (t : Fin cfg0.N) : (dats m 0 c).after 17 t = code2 (grid0.coords t) (blocks m c t) (bxAt m c t) (bxTile (blocks m c t)) := by dsimp only [dats]
theorem after_18 (c : Dev nD) (t : Fin cfg0.N) : (dats m 0 c).after 18 t = lanes2 (grid0.coords t) (blocks m c t) (bxAt m c t) (bxTile (blocks m c t)) := by dsimp only [dats]
theorem after_19 (c : Dev nD) (t : Fin cfg0.N) : (dats m 0 c).after 19 t = code3 (grid0.coords t) (blocks m c t) (bxAt m c t) (bxTile (blocks m c t)) := by dsimp only [dats]
theorem after_20 (c : Dev nD) (t : Fin cfg0.N) : (dats m 0 c).after 20 t = lanes3 (grid0.coords t) (blocks m c t) (bxAt m c t) (bxTile (blocks m c t)) := by dsimp only [dats]
theorem after_21 (c : Dev nD) (t : Fin cfg0.N) : (dats m 0 c).after 21 t = (code4 (grid0.coords t) (blocks m c t) (bxAt m c t) (bxTile (blocks m c t)) (acts (grid0.coords t) (blocks m c t) (bxAt m c t) (bxTile (blocks m c t)))) := by dsimp only [dats]
theorem after_22 (c : Dev nD) (t : Fin cfg0.N) : (dats m 0 c).after 22 t = lanes4 (grid0.coords t) (blocks m c t) (bxAt m c t) (bxTile (blocks m c t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (st0_11 t) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (st0_12 t) fullShare (iblk m c 12 t) := by
  unfold Dat.leavesExact; rw [show cfg0.idle 12 (grid0.coords t) = false from rfl, after_12]
theorem leaves_13 (c : Dev nD) (t : Fin cfg0.N) : (dats m 0 c).leavesExact 13 t = owns (c : Thread nD τ) (st0_13 t) fullShare (out (grid0.coords t) (blocks m c t) (bxAt m c t) (bxTile (blocks m c t)) (code4 (grid0.coords t) (blocks m c t) (bxAt m c t) (bxTile (blocks m c t)) (acts (grid0.coords t) (blocks m c t) (bxAt m c t) (bxTile (blocks m c t))))) := by
  unfold Dat.leavesExact; rw [show cfg0.idle 13 (grid0.coords t) = false from rfl, after_13]
theorem leaves_15 (c : Dev nD) (t : Fin cfg0.N) : (dats m 0 c).leavesExact 15 t = owns (c : Thread nD τ) (st0_15 t) fullShare (code1 (blocks m c t)) := by
  unfold Dat.leavesExact; rw [show cfg0.idle 15 (grid0.coords t) = false from rfl, after_15]
theorem leaves_16 (c : Dev nD) (t : Fin cfg0.N) : (dats m 0 c).leavesExact 16 t = owns (c : Thread nD τ) (st0_16 t) fullShare (k0_pay10 (scale1 (blocks m c t))) := by
  unfold Dat.leavesExact; rw [show cfg0.idle 16 (grid0.coords t) = false from rfl, after_16]
theorem leaves_17 (c : Dev nD) (t : Fin cfg0.N) : (dats m 0 c).leavesExact 17 t = owns (c : Thread nD τ) (st0_17 t) fullShare (code2 (grid0.coords t) (blocks m c t) (bxAt m c t) (bxTile (blocks m c t))) := by
  unfold Dat.leavesExact; rw [show cfg0.idle 17 (grid0.coords t) = false from rfl, after_17]
theorem leaves_18 (c : Dev nD) (t : Fin cfg0.N) : (dats m 0 c).leavesExact 18 t = owns (c : Thread nD τ) (st0_18 t) fullShare (lanes2 (grid0.coords t) (blocks m c t) (bxAt m c t) (bxTile (blocks m c t))) := by
  unfold Dat.leavesExact; rw [show cfg0.idle 18 (grid0.coords t) = false from rfl, after_18]
theorem leaves_19 (c : Dev nD) (t : Fin cfg0.N) : (dats m 0 c).leavesExact 19 t = owns (c : Thread nD τ) (st0_19 t) fullShare (code3 (grid0.coords t) (blocks m c t) (bxAt m c t) (bxTile (blocks m c t))) := by
  unfold Dat.leavesExact; rw [show cfg0.idle 19 (grid0.coords t) = false from rfl, after_19]
theorem leaves_20 (c : Dev nD) (t : Fin cfg0.N) : (dats m 0 c).leavesExact 20 t = owns (c : Thread nD τ) (st0_20 t) fullShare (lanes3 (grid0.coords t) (blocks m c t) (bxAt m c t) (bxTile (blocks m c t))) := by
  unfold Dat.leavesExact; rw [show cfg0.idle 20 (grid0.coords t) = false from rfl, after_20]
theorem leaves_21 (c : Dev nD) (t : Fin cfg0.N) : (dats m 0 c).leavesExact 21 t = owns (c : Thread nD τ) (st0_21 t) fullShare ((code4 (grid0.coords t) (blocks m c t) (bxAt m c t) (bxTile (blocks m c t)) (acts (grid0.coords t) (blocks m c t) (bxAt m c t) (bxTile (blocks m c t))))) := by
  unfold Dat.leavesExact; rw [show cfg0.idle 21 (grid0.coords t) = false from rfl, after_21]
theorem leaves_22 (c : Dev nD) (t : Fin cfg0.N) : (dats m 0 c).leavesExact 22 t = owns (c : Thread nD τ) (st0_22 t) fullShare (lanes4 (grid0.coords t) (blocks m c t) (bxAt m c t) (bxTile (blocks m c t))) := by
  unfold Dat.leavesExact; rw [show cfg0.idle 22 (grid0.coords t) = false from rfl, after_22]

set_option maxHeartbeats 4000000 in
/-- The body at any point: the inputs hold their blocks and the scratch buffers what `PhiS_in` says, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = PhiS m c (t.val + 1) t.isLt from rfl, PhiS_succ, PhiS_castSucc]
  rw [leaves_0, leaves_1, leaves_2, leaves_3, leaves_4, leaves_5, leaves_6, leaves_7, leaves_8, leaves_9, leaves_10, leaves_11, leaves_12, leaves_13, leaves_15, leaves_16, leaves_17, leaves_18, leaves_19, leaves_20, leaves_21, leaves_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  ihave HΦ' := PhiS_in m c t $$ HΦ
  icases HΦ' with ⟨%P, %C, ⟨%hPC, HS0, HS1, HS2⟩, Hg⟩
  iapply (body c (grid0.coords t) _ _ _ _ _ _ _ _ _ _ _ _ _ _ _ _ _ _ _ _ _ _ _ _ _ _ _ _ _ _ _ _ _ _ _ _ _ _ _ _ _ _ _ _ _ _ _ _ _ _ _ _ (blocks m c t) ((dats m 0 c).before 14 t d14) P C Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  rw [hPC.1, hPC.2]
  iintro ⟨H0, H1, H2, H3, H4, H5, H6, H7, H8, H9, H10, H11, H12, H13, H14, H15, H16, H17, H18, H19, H20, H21, H22, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · by_cases h : k0_cond20 (grid0.coords t) = 1#1
    · rw [if_pos h]
      unfold Dat.leavesExact
      rw [live14 t h, after_14]
      iexact H14
    · rw [if_neg h, Dat.leavesExact_idle (dats m 0 c) 14 t (idle14 t h) (noFlush14 t h)]
      iexists _; iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The table's row of the body. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]

/-- After the last point the invariant gives the launch's back: the carried contents are forgotten. -/
theorem hout (c : Dev nD) : (dats m 0 c).Φ (Fin.last cfg0.N) ⊢ Pipeline.ΦA spec0 c := by
  have e : (dats m 0 c).Φ (Fin.last cfg0.N) = PhiS m c (4 + 1) (by decide) := rfl
  rw [e, PhiS_succ, PhiA_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: every execution ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Body

end
-- ==== Proof.ReferenceIdealFrame.lean ====
/- The run of the reference: its one gridless region's body with the values it leaves, the host lines around it, and
   the frame of its arguments. The values are the payload functions of the printed body over the input arrays. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ReferenceIdeal.Body

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4].map StableHlo.seq)) :=
  Pipeline.hmain_around cfgs 0 defs₀ 𝒱₀ m main [hostOps0, hostOps0_1, hostOps0_2] [hostOps1, hostOps1_1, hostOps1_2, hostOps1_3, hostOps1_4] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
set_option maxHeartbeats 2016000 in
/-- And write no array of the pipeline (each writes only its own result buffer, which is no array). -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 3).trans (((dats 0 c).arrAt_in 3 rfl _).trans ((hA c 3).trans (V_main_arg3 m c))),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      ((h c).1 6).trans (((dats 0 c).arrAt_in 6 rfl _).trans ((hA c 6).trans (V_main_arg6 m c))),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      (((h c).2 main_arg12 (Pipeline.mem_restRefs_of main_arg12 (by decide) (by decide))).trans (W_main_arg12 m dats c))⟩) h

/-! ## The body's accesses -/

abbrev r0_0 : Rect S1280x1024 := Rect.unit (s := S1280x1024) ![0, 0] S1280x1024.size inb_S1280x1024_S1280x1024_0_0
abbrev r0_1 : Rect S1x1024 := Rect.unit (s := S1x1024) ![0, 0] S1x1024.size inb_S1x1024_S1x1024_0_0
abbrev r0_2 : Rect S1024x3072 := Rect.unit (s := S1024x3072) ![0, 0] S1024x3072.size inb_S1024x3072_S1024x3072_0_0
abbrev r0_3 : Rect S1x3072 := Rect.unit (s := S1x3072) ![0, 0] S1x3072.size inb_S1x3072_S1x3072_0_0
abbrev r0_4 : Rect S4x1024 := Rect.unit (s := S4x1024) ![0, 0] S4x1024.size inb_S4x1024_S4x1024_0_0
abbrev r0_5 : Rect S1280x1 := Rect.unit (s := S1280x1) ![0, 0] S1280x1.size inb_S1280x1_S1280x1_0_0
abbrev r0_6 : Rect S1024x1024 := Rect.unit (s := S1024x1024) ![0, 0] S1024x1024.size inb_S1024x1024_S1024x1024_0_0
abbrev r0_7 : Rect S1024x4608 := Rect.unit (s := S1024x4608) ![0, 0] S1024x4608.size inb_S1024x4608_S1024x4608_0_0
abbrev r0_8 : Rect S2x4608 := Rect.unit (s := S2x4608) ![0, 0] S1x4608.size inb_S2x4608_S1x4608_0_0
abbrev r0_9 : Rect S2x4608 := Rect.unit (s := S2x4608) ![1, 0] S1x4608.size inb_S2x4608_S1x4608_1_0
abbrev r0_10 : Rect S4608x1024 := Rect.unit (s := S4608x1024) ![0, 0] S4608x1024.size inb_S4608x1024_S4608x1024_0_0
abbrev r0_11 : Rect S1280x4608 := Rect.unit (s := S1280x4608) ![0, 0] S1280x4608.size inb_S1280x4608_S1280x4608_0_0

/-! ## What the body leaves in each output window's buffer -/

/-! ### Values of the body that the stores' payloads, spelt out, would write more than once

    Each is a vector the body binds (often a part call's result), stated over the input windows' blocks and
    numbered on from the skeleton's payload functions (`k0_pay32` …, after `k0_pay31`), so that
    `out0_W` and the values after it name it instead of spelling it out (`unfold_out out0_W` opens a canon
    with them, `unfold_payloads` opens them with the payloads); the comment after each is the printed function's
    name for the value (a count appended where that name is bound again). -/

def k0_pay32 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1024 .f32 :=
  k0_pay1 (View.ld x0 r0_0) -- `v1`
def k0_pay33 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x3072 .f32 :=
  k0_pay5 (View.ld x0 r0_0) (View.ld x2 r0_1) (View.ld x3 r0_2) -- `v38`
def k0_pay34 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x3072 .f32 :=
  k0_pay6 (View.ld x0 r0_0) (View.ld x2 r0_1) (View.ld x4 r0_3) -- `v41`
def k0_pay35 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1024 .f32 :=
  k0_pay8 (k0_pay33 x0 x1 x2 x3 x4 x5 x6 x7 x8 x9 x10 x11 x12 x13) (k0_pay34 x0 x1 x2 x3 x4 x5 x6 x7 x8 x9 x10 x11 x12 x13) -- `v44`
def k0_pay36 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1024 .f32 :=
  k0_pay9 (k0_pay33 x0 x1 x2 x3 x4 x5 x6 x7 x8 x9 x10 x11 x12 x13) (k0_pay34 x0 x1 x2 x3 x4 x5 x6 x7 x8 x9 x10 x11 x12 x13) -- `v46`
def k0_pay37 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1024 .f32 :=
  k0_pay12 (k0_pay33 x0 x1 x2 x3 x4 x5 x6 x7 x8 x9 x10 x11 x12 x13) (k0_pay34 x0 x1 x2 x3 x4 x5 x6 x7 x8 x9 x10 x11 x12 x13) (View.ld x5 r0_4) (View.ld x1 r0_5) -- `v81`
def k0_pay38 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1x1024 .f32 :=
  k0_pay13 (View.ld x5 r0_4) -- `v87`
def k0_pay39 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1024 .f32 :=
  k0_pay14 (View.ld x1 r0_5) -- `v88`
def k0_pay40 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1024 .f32 :=
  k0_pay18 (k0_pay32 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (View.ld x6 r0_6) (View.ld x7 r0_1) -- `v124`
def k0_pay41 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1x1024 .f32 :=
  k0_pay19 (View.ld x8 r0_1) -- `v126`
def k0_pay42 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1 .f32 :=
  k0_pay20 (k0_pay32 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (View.ld x6 r0_6) (View.ld x7 r0_1) -- `v131`
def k0_pay43 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x1 .f32 :=
  k0_pay21 (F := F) -- `v132`
def k0_pay44 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x4608 .f32 :=
  k0_pay25 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (View.ld x9 r0_7) (View.ld x11 r0_8) -- `v165`
def k0_pay45 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x4608 .f32 :=
  k0_pay26 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (View.ld x10 r0_7) (View.ld x11 r0_9) -- `v175`
def k0_pay46 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : FVec F S1280x4608 .f32 :=
  k0_pay27 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (View.ld x9 r0_7) (View.ld x11 r0_8) -- `v176`

/-- Window 14's staging buffer after the body, from the input windows' blocks: its 1 store as pieces, LAST
    FIRST (Lib/Pipeline/FrameBody.lean `View.canon`; the payloads are the skeleton's and the values stated above). -/
def out0_14 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1024 .bf16 :=
  View.canon [⟨r0_0, k0_pay31 (k0_pay40 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (View.ld x12 r0_10) (View.ld x13 r0_1)⟩]

/-- Its stores tile the buffer (checked by evaluation), so they cover it. -/
theorem cover0_14 (p0 : Vec F S1280x1024 .bf16) (y : S1280x1024.Idx) :
    ∃ pc ∈ ([⟨r0_0, p0⟩] : List (View.Piece (Elt F) S1280x1024 .bf16)), y ∈ pc.1.set :=
  View.cover_of_tiled [⟨r0_0, p0⟩] S1280x1024.size (by rfl) y

/-- Window 15's staging buffer after the body, from the input windows' blocks: its 1 store as pieces, LAST
    FIRST (Lib/Pipeline/FrameBody.lean `View.canon`; the payloads are the skeleton's and the values stated above). -/
def out0_15 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1024 .f32 :=
  View.canon [⟨r0_0, k0_pay36 x0 x1 x2 x3 x4 x5 x6 x7 x8 x9 x10 x11 x12 x13⟩]

/-- Its stores tile the buffer (checked by evaluation), so they cover it. -/
theorem cover0_15 (p0 : Vec F S1280x1024 .f32) (y : S1280x1024.Idx) :
    ∃ pc ∈ ([⟨r0_0, p0⟩] : List (View.Piece (Elt F) S1280x1024 .f32)), y ∈ pc.1.set :=
  View.cover_of_tiled [⟨r0_0, p0⟩] S1280x1024.size (by rfl) y

/-- Window 16's staging buffer after the body, from the input windows' blocks: its 1 store as pieces, LAST
    FIRST (Lib/Pipeline/FrameBody.lean `View.canon`; the payloads are the skeleton's and the values stated above). -/
def out0_16 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1024 .i8 :=
  View.canon [⟨r0_0, k0_pay4 (View.ld x0 r0_0) (View.ld x2 r0_1)⟩]

/-- Its stores tile the buffer (checked by evaluation), so they cover it. -/
theorem cover0_16 (p0 : Vec F S1280x1024 .i8) (y : S1280x1024.Idx) :
    ∃ pc ∈ ([⟨r0_0, p0⟩] : List (View.Piece (Elt F) S1280x1024 .i8)), y ∈ pc.1.set :=
  View.cover_of_tiled [⟨r0_0, p0⟩] S1280x1024.size (by rfl) y

/-- Window 17's staging buffer after the body, from the input windows' blocks: its 1 store as pieces, LAST
    FIRST (Lib/Pipeline/FrameBody.lean `View.canon`; the payloads are the skeleton's and the values stated above). -/
def out0_17 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1 .f32 :=
  View.canon [⟨r0_5, k0_pay3 (View.ld x0 r0_0) (View.ld x2 r0_1)⟩]

/-- Its stores tile the buffer (checked by evaluation), so they cover it. -/
theorem cover0_17 (p0 : Vec F S1280x1 .f32) (y : S1280x1.Idx) :
    ∃ pc ∈ ([⟨r0_5, p0⟩] : List (View.Piece (Elt F) S1280x1 .f32)), y ∈ pc.1.set :=
  View.cover_of_tiled [⟨r0_5, p0⟩] S1280x1.size (by rfl) y

/-- Window 18's staging buffer after the body, from the input windows' blocks: its 1 store as pieces, LAST
    FIRST (Lib/Pipeline/FrameBody.lean `View.canon`; the payloads are the skeleton's and the values stated above). -/
def out0_18 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1024 .i8 :=
  View.canon [⟨r0_0, k0_pay17 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13)⟩]

/-- Its stores tile the buffer (checked by evaluation), so they cover it. -/
theorem cover0_18 (p0 : Vec F S1280x1024 .i8) (y : S1280x1024.Idx) :
    ∃ pc ∈ ([⟨r0_0, p0⟩] : List (View.Piece (Elt F) S1280x1024 .i8)), y ∈ pc.1.set :=
  View.cover_of_tiled [⟨r0_0, p0⟩] S1280x1024.size (by rfl) y

/-- Window 19's staging buffer after the body, from the input windows' blocks: its 1 store as pieces, LAST
    FIRST (Lib/Pipeline/FrameBody.lean `View.canon`; the payloads are the skeleton's and the values stated above). -/
def out0_19 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1 .f32 :=
  View.canon [⟨r0_5, k0_pay16 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13)⟩]

/-- Its stores tile the buffer (checked by evaluation), so they cover it. -/
theorem cover0_19 (p0 : Vec F S1280x1 .f32) (y : S1280x1.Idx) :
    ∃ pc ∈ ([⟨r0_5, p0⟩] : List (View.Piece (Elt F) S1280x1 .f32)), y ∈ pc.1.set :=
  View.cover_of_tiled [⟨r0_5, p0⟩] S1280x1.size (by rfl) y

/-- Window 20's staging buffer after the body, from the input windows' blocks: its 1 store as pieces, LAST
    FIRST (Lib/Pipeline/FrameBody.lean `View.canon`; the payloads are the skeleton's and the values stated above). -/
def out0_20 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1024 .i8 :=
  View.canon [⟨r0_0, k0_pay24 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)⟩]

/-- Its stores tile the buffer (checked by evaluation), so they cover it. -/
theorem cover0_20 (p0 : Vec F S1280x1024 .i8) (y : S1280x1024.Idx) :
    ∃ pc ∈ ([⟨r0_0, p0⟩] : List (View.Piece (Elt F) S1280x1024 .i8)), y ∈ pc.1.set :=
  View.cover_of_tiled [⟨r0_0, p0⟩] S1280x1024.size (by rfl) y

/-- Window 21's staging buffer after the body, from the input windows' blocks: its 1 store as pieces, LAST
    FIRST (Lib/Pipeline/FrameBody.lean `View.canon`; the payloads are the skeleton's and the values stated above). -/
def out0_21 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1 .f32 :=
  View.canon [⟨r0_5, k0_pay23 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)⟩]

/-- Its stores tile the buffer (checked by evaluation), so they cover it. -/
theorem cover0_21 (p0 : Vec F S1280x1 .f32) (y : S1280x1.Idx) :
    ∃ pc ∈ ([⟨r0_5, p0⟩] : List (View.Piece (Elt F) S1280x1 .f32)), y ∈ pc.1.set :=
  View.cover_of_tiled [⟨r0_5, p0⟩] S1280x1.size (by rfl) y

/-- Window 22's staging buffer after the body, from the input windows' blocks: its 1 store as pieces, LAST
    FIRST (Lib/Pipeline/FrameBody.lean `View.canon`; the payloads are the skeleton's and the values stated above). -/
def out0_22 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x4608 .i8 :=
  View.canon [⟨r0_11, k0_pay30 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13)⟩]

/-- Its stores tile the buffer (checked by evaluation), so they cover it. -/
theorem cover0_22 (p0 : Vec F S1280x4608 .i8) (y : S1280x4608.Idx) :
    ∃ pc ∈ ([⟨r0_11, p0⟩] : List (View.Piece (Elt F) S1280x4608 .i8)), y ∈ pc.1.set :=
  View.cover_of_tiled [⟨r0_11, p0⟩] S1280x4608.size (by rfl) y

/-- Window 23's staging buffer after the body, from the input windows' blocks: its 1 store as pieces, LAST
    FIRST (Lib/Pipeline/FrameBody.lean `View.canon`; the payloads are the skeleton's and the values stated above). -/
def out0_23 (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) : Vec F S1280x1 .f32 :=
  View.canon [⟨r0_5, k0_pay29 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13)⟩]

/-- Its stores tile the buffer (checked by evaluation), so they cover it. -/
theorem cover0_23 (p0 : Vec F S1280x1 .f32) (y : S1280x1.Idx) :
    ∃ pc ∈ ([⟨r0_5, p0⟩] : List (View.Piece (Elt F) S1280x1 .f32)), y ∈ pc.1.set :=
  View.cover_of_tiled [⟨r0_5, p0⟩] S1280x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S1280x1024 .bf16) (harg0 : arg0.IsWhole) (arg1 : Memref sig .tc .vmem S1280x1 .i32) (harg1 : arg1.IsWhole) (arg2 : Memref sig .tc .vmem S1x1024 .f32) (harg2 : arg2.IsWhole) (arg3 : Memref sig .tc .vmem S1024x3072 .i8) (harg3 : arg3.IsWhole) (arg4 : Memref sig .tc .vmem S1x3072 .f32) (harg4 : arg4.IsWhole) (arg5 : Memref sig .tc .vmem S4x1024 .f32) (harg5 : arg5.IsWhole) (arg6 : Memref sig .tc .vmem S1024x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x4608 .i8) (harg9 : arg9.IsWhole) (arg10 : Memref sig .tc .vmem S1024x4608 .i8) (harg10 : arg10.IsWhole) (arg11 : Memref sig .tc .vmem S2x4608 .f32) (harg11 : arg11.IsWhole) (arg12 : Memref sig .tc .vmem S4608x1024 .i8) (harg12 : arg12.IsWhole) (arg13 : Memref sig .tc .vmem S1x1024 .f32) (harg13 : arg13.IsWhole) (arg14 : Memref sig .tc .vmem S1280x1024 .bf16) (harg14 : arg14.IsWhole) (arg15 : Memref sig .tc .vmem S1280x1024 .f32) (harg15 : arg15.IsWhole) (arg16 : Memref sig .tc .vmem S1280x1024 .i8) (harg16 : arg16.IsWhole) (arg17 : Memref sig .tc .vmem S1280x1 .f32) (harg17 : arg17.IsWhole) (arg18 : Memref sig .tc .vmem S1280x1024 .i8) (harg18 : arg18.IsWhole) (arg19 : Memref sig .tc .vmem S1280x1 .f32) (harg19 : arg19.IsWhole) (arg20 : Memref sig .tc .vmem S1280x1024 .i8) (harg20 : arg20.IsWhole) (arg21 : Memref sig .tc .vmem S1280x1 .f32) (harg21 : arg21.IsWhole) (arg22 : Memref sig .tc .vmem S1280x4608 .i8) (harg22 : arg22.IsWhole) (arg23 : Memref sig .tc .vmem S1280x1 .f32) (harg23 : arg23.IsWhole)
    (x0 : Vec F S1280x1024 .bf16) (x1 : Vec F S1280x1 .i32) (x2 : Vec F S1x1024 .f32) (x3 : Vec F S1024x3072 .i8) (x4 : Vec F S1x3072 .f32) (x5 : Vec F S4x1024 .f32) (x6 : Vec F S1024x1024 .i8) (x7 : Vec F S1x1024 .f32) (x8 : Vec F S1x1024 .f32) (x9 : Vec F S1024x4608 .i8) (x10 : Vec F S1024x4608 .i8) (x11 : Vec F S2x4608 .f32) (x12 : Vec F S4608x1024 .i8) (x13 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out0_14 x0 x1 x2 x3 x4 x5 x6 x7 x8 x9 x10 x11 x12 x13) ∗ owns (c : Thread nD τ) arg15 fullShare (out0_15 x0 x1 x2 x3 x4 x5 x6 x7 x8 x9 x10 x11 x12 x13) ∗ owns (c : Thread nD τ) arg16 fullShare (out0_16 x0 x1 x2 x3 x4 x5 x6 x7 x8 x9 x10 x11 x12 x13) ∗ owns (c : Thread nD τ) arg17 fullShare (out0_17 x0 x1 x2 x3 x4 x5 x6 x7 x8 x9 x10 x11 x12 x13) ∗ owns (c : Thread nD τ) arg18 fullShare (out0_18 x0 x1 x2 x3 x4 x5 x6 x7 x8 x9 x10 x11 x12 x13) ∗ owns (c : Thread nD τ) arg19 fullShare (out0_19 x0 x1 x2 x3 x4 x5 x6 x7 x8 x9 x10 x11 x12 x13) ∗ owns (c : Thread nD τ) arg20 fullShare (out0_20 x0 x1 x2 x3 x4 x5 x6 x7 x8 x9 x10 x11 x12 x13) ∗ owns (c : Thread nD τ) arg21 fullShare (out0_21 x0 x1 x2 x3 x4 x5 x6 x7 x8 x9 x10 x11 x12 x13) ∗ owns (c : Thread nD τ) arg22 fullShare (out0_22 x0 x1 x2 x3 x4 x5 x6 x7 x8 x9 x10 x11 x12 x13) ∗ owns (c : Thread nD τ) arg23 fullShare (out0_23 x0 x1 x2 x3 x4 x5 x6 x7 x8 x9 x10 x11 x12 x13)) -∗ K ⟨⟩))
      ⊢ wp frame (wpE (defs₀ (F := F)) Variants.none c none) E (cc0_reference_block arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_reference_block_eq_skeleton]; unfold cc0_reference_block_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.ReferenceIdeal.Body

end
-- ==== Proof.Spec.lean ====
/- The block's mathematics on one row of positions, over the extended reals: the norm, the symmetric 8-bit codes with their
   scale, a linear map on codes, the convolution's step, and the rows the block makes from them. Both programs' arrays are
   read through these functions, row by row. -/
module

public import Idealize.ShloMosaic.Lib.IdealHost

@[expose] public section

noncomputable section

namespace Cert.Spec

open Idealize.ShloMosaic
open scoped BigOperators

/-- An `f32` word as an extended real. -/
def lit (b : BitVec 32) : EReal := (FloatOps.ofBits (F := Ideal) .f32 b : Ideal .f32)

/-- The root mean square of a row of 1024, with the norm's constant under the root. -/
def root {n : ℕ} (v : Fin n → EReal) : EReal :=
  (FloatOps.sqrt (F := Ideal) (φ := .f32) (Ideal.div (∑ k, v k * v k) (lit 0x44800000#32) + lit 0x3727C5AC#32) : Ideal .f32)

/-- The norm of a row with its weights. -/
def norm {n : ℕ} (v w : Fin n → EReal) (k : Fin n) : EReal := Ideal.div (v k) (root v) * w k

/-- A row's greatest magnitude. -/
def amax {n : ℕ} (v : Fin n → EReal) : EReal :=
  Finset.univ.fold max (lit 0xFF800000#32) (fun k => max (v k) (-(v k)))

/-- The scale of a greatest magnitude: one for a row of zeros. -/
def scaleOf (a : EReal) : EReal :=
  (Scalar.select (FloatOps.cmpf (F := Ideal) (φ := .f32) .oeq a (lit 0x00000000#32)) (lit 0x3F800000#32) (Ideal.div a (lit 0x42FE0000#32)) : EReal)

/-- A row's scale. -/
def scale {n : ℕ} (v : Fin n → EReal) : EReal := scaleOf (amax v)

/-- A quotient's code: rounded to the nearest integer, ties to even, and clipped to [−127, 127]. -/
def quant (q : EReal) : BitVec 8 :=
  FloatOps.fptosi (F := Ideal) (φ := .f32) 8 (min (lit 0x42FE0000#32) (max (lit 0xC2FE0000#32) (FloatOps.roundeven (F := Ideal) (φ := .f32) q)))

/-- A row's codes. -/
def code {n : ℕ} (v : Fin n → EReal) (k : Fin n) : BitVec 8 := quant (Ideal.div (v k) (scale v))

/-- A code as an extended real. -/
def real (q : BitVec 8) : EReal := (FloatOps.sitofp (F := Ideal) .bf16 q : Ideal .bf16)

/-- One entry of a linear map on codes: the sum of products, times the two scales. -/
def lin {n m : ℕ} (q : Fin n → BitVec 8) (s : EReal) (W : Fin n → Fin m → BitVec 8) (S : Fin m → EReal) (j : Fin m) : EReal :=
  (∑ k, real (q k) * real (W k j)) * (s * S j)

/-- Whether a position is at least `j` from its sequence's start, as one or zero. -/
def live (p j : BitVec 32) : EReal := Scalar.select (IntOp.cmpi .sge p j) (lit 0x3F800000#32) (lit 0x00000000#32)

/-- The block's weights. -/
structure Weights where
  /-- the first norm's -/
  n1 : Fin 1024 → EReal
  /-- the input projection's codes -/
  win : Fin 1024 → Fin 3072 → BitVec 8
  /-- their scales -/
  sin : Fin 3072 → EReal
  /-- the convolution's taps -/
  taps : Fin 4 → Fin 1024 → EReal
  /-- the output projection's codes -/
  wout : Fin 1024 → Fin 1024 → BitVec 8
  /-- their scales -/
  sout : Fin 1024 → EReal
  /-- the second norm's -/
  n2 : Fin 1024 → EReal
  /-- the gate's codes -/
  wg : Fin 1024 → Fin 4608 → BitVec 8
  /-- their scales -/
  sg : Fin 4608 → EReal
  /-- the up projection's codes -/
  wu : Fin 1024 → Fin 4608 → BitVec 8
  /-- their scales -/
  su : Fin 4608 → EReal
  /-- the down projection's codes -/
  wdn : Fin 4608 → Fin 1024 → BitVec 8
  /-- their scales -/
  sdn : Fin 1024 → EReal

/-- Column `c` of the projection's middle third. -/
def mid (c : Fin 1024) : Fin 3072 := ⟨1024 + c.val, by omega⟩
/-- Column `c` of its first third. -/
def low (c : Fin 1024) : Fin 3072 := ⟨c.val, by omega⟩
/-- Column `c` of its last third. -/
def high (c : Fin 1024) : Fin 3072 := ⟨2048 + c.val, by omega⟩

namespace Weights

variable (W : Weights)

/-- The first norm of a row. -/
def norm1 (x : Fin 1024 → EReal) : Fin 1024 → EReal := norm x W.n1
/-- The input projection of a row. -/
def proj (x : Fin 1024 → EReal) : Fin 3072 → EReal := lin (code (W.norm1 x)) (scale (W.norm1 x)) W.win W.sin
/-- The gate on the convolution. -/
def gate (x : Fin 1024 → EReal) (c : Fin 1024) : EReal := W.proj x (mid c)
/-- The convolution's input. -/
def bx (x : Fin 1024 → EReal) (c : Fin 1024) : EReal := W.proj x (low c) * W.proj x (high c)
/-- The convolution at a position `p` from its sequence's start, of the input there and at the three positions before. -/
def conv (p : BitVec 32) (b0 b1 b2 b3 : Fin 1024 → EReal) (c : Fin 1024) : EReal :=
  W.taps 3 c * b0 c + live p 1#32 * W.taps 2 c * b1 c + live p 2#32 * W.taps 1 c * b2 c + live p 3#32 * W.taps 0 c * b3 c
/-- The gated convolution. -/
def mix (g v : Fin 1024 → EReal) (c : Fin 1024) : EReal := g c * v c
/-- The row after the convolution's branch, from the gated convolution. -/
def hid (x y : Fin 1024 → EReal) (c : Fin 1024) : EReal := x c + lin (code y) (scale y) W.wout W.sout c
/-- Its second norm. -/
def norm2 (h : Fin 1024 → EReal) : Fin 1024 → EReal := norm h W.n2
/-- The feed-forward activation from the second norm. -/
def act (v : Fin 1024 → EReal) (c : Fin 4608) : EReal :=
  lin (code v) (scale v) W.wg W.sg c * (FloatOps.logistic (F := Ideal) (φ := .f32) (lin (code v) (scale v) W.wg W.sg c) : Ideal .f32) * lin (code v) (scale v) W.wu W.su c
/-- The row's result. -/
def out (h : Fin 1024 → EReal) (a : Fin 4608 → EReal) (c : Fin 1024) : EReal := h c + lin (code a) (scale a) W.wdn W.sdn c

end Weights

/-- An entry of a linear map depends on its column alone. -/
theorem lin_col {n m m' : ℕ} (q : Fin n → BitVec 8) (s : EReal) (W : Fin n → Fin m → BitVec 8) (S : Fin m → EReal) (W' : Fin n → Fin m' → BitVec 8) (S' : Fin m' → EReal)
    (j : Fin m) (j' : Fin m') (hW : ∀ k, W k j = W' k j') (hS : S j = S' j') : lin q s W S j = lin q s W' S' j' := by
  unfold lin; rw [hS]; simp only [hW]

/-- The start of the sequence a position lies in: the greatest inner boundary not past it. -/
def start (t c1 c2 c3 c4 c5 : BitVec 32) : BitVec 32 :=
  IntOp.maxsi (IntOp.maxsi (IntOp.maxsi (IntOp.maxsi (IntOp.maxsi 0#32 (Scalar.select (IntOp.cmpi .sge t c1) c1 0#32)) (Scalar.select (IntOp.cmpi .sge t c2) c2 0#32))
    (Scalar.select (IntOp.cmpi .sge t c3) c3 0#32)) (Scalar.select (IntOp.cmpi .sge t c4) c4 0#32)) (Scalar.select (IntOp.cmpi .sge t c5) c5 0#32)

/-- A position's distance from its sequence's start. -/
def dist (t c1 c2 c3 c4 c5 : BitVec 32) : BitVec 32 := IntOp.subi t (start t c1 c2 c3 c4 c5)

theorem lit_zero : lit 0x00000000#32 = 0 := Ideal.ofBits_zero_f32
theorem lit_one : lit 0x3F800000#32 = 1 := Ideal.ofBits_one_f32

end Cert.Spec

end
-- ==== Proof.Seq.lean ====
/- The block's mathematics over all 1280 positions, from the rows of `Spec`: the convolution reads the rows one, two and three
   positions back, and where a position has no such row the mask is zero, so that what stands there does not matter. -/
module

public import proofs.«01_k».proof.Proof.Spec
public import proofs.«01_k».proof.Proof.Words

@[expose] public section

noncomputable section

namespace Cert.Spec

open Idealize.ShloMosaic Idealize.ShloMosaic.WordCmp
open scoped BigOperators

/-- The position `j` back, around the end. -/
def back (j : ℕ) (t : Fin 1280) : Fin 1280 := ⟨(t.val + (1280 - j)) % 1280, Nat.mod_lt _ (by omega)⟩

theorem back_of_le (j : ℕ) (t : Fin 1280) (h : j ≤ t.val) : (back j t).val = t.val - j := by
  have := t.isLt
  show (t.val + (1280 - j)) % 1280 = _
  rw [show t.val + (1280 - j) = (t.val - j) + 1280 by omega, Nat.add_mod_right, Nat.mod_eq_of_lt (by omega)]

theorem back_of_lt (j : ℕ) (t : Fin 1280) (h : t.val < j) : (back j t).val = t.val + (1280 - j) :=
  Nat.mod_eq_of_lt (by omega)

/-- The block's arguments: its weights, its rows and each position's distance from its sequence's start. -/
structure Args where
  /-- the weights -/
  W : Weights
  /-- the rows -/
  x : Fin 1280 → Fin 1024 → EReal
  /-- the distances -/
  pos : Fin 1280 → BitVec 32

namespace Args

variable (A : Args)

/-- The first norm at a position. -/
def norm1 (t : Fin 1280) : Fin 1024 → EReal := A.W.norm1 (A.x t)
/-- The convolution's input at a position. -/
def bx (t : Fin 1280) : Fin 1024 → EReal := A.W.bx (A.x t)
/-- The convolution at a position. -/
def conv (t : Fin 1280) : Fin 1024 → EReal := A.W.conv (A.pos t) (A.bx t) (A.bx (back 1 t)) (A.bx (back 2 t)) (A.bx (back 3 t))
/-- The gated convolution at a position. -/
def mix (t : Fin 1280) : Fin 1024 → EReal := Weights.mix (A.W.gate (A.x t)) (A.conv t)
/-- The row after the convolution's branch. -/
def hid (t : Fin 1280) : Fin 1024 → EReal := A.W.hid (A.x t) (A.mix t)
/-- Its second norm. -/
def norm2 (t : Fin 1280) : Fin 1024 → EReal := A.W.norm2 (A.hid t)
/-- The feed-forward activation. -/
def act (t : Fin 1280) : Fin 4608 → EReal := A.W.act (A.norm2 t)
/-- The result. -/
def out (t : Fin 1280) : Fin 1024 → EReal := A.W.out (A.hid t) (A.act t)
/-- One row of the carried state: of a sequence from `v'` to `v`, the convolution's input at its `k`-th of the last three
    positions, zero where the sequence is shorter. -/
def state (v v' k : BitVec 32) (c : Fin 1024) : EReal :=
  if v'.toInt ≤ (Words.idx v k).toInt then A.bx ⟨(Words.clip v k).toNat % 1280, Nat.mod_lt _ (by omega)⟩ c else 0

end Args

/-- A start between zero and the position stays so at the next boundary. -/
theorem start_step (t a c : BitVec 32) (ht : 0 ≤ t.toInt) (ha : 0 ≤ a.toInt ∧ a.toInt ≤ t.toInt) :
    0 ≤ (IntOp.maxsi a (Scalar.select (IntOp.cmpi .sge t c) c 0#32)).toInt ∧ (IntOp.maxsi a (Scalar.select (IntOp.cmpi .sge t c) c 0#32)).toInt ≤ t.toInt := by
  have key : ∀ d : BitVec 32, d.toInt ≤ t.toInt → 0 ≤ (IntOp.maxsi a d).toInt ∧ (IntOp.maxsi a d).toInt ≤ t.toInt := fun d hd => by
    unfold IntOp.maxsi
    simp only [BitVec.slt, BitVec.sle, decide_eq_true_eq]
    split <;> constructor <;> omega
  refine key _ ?_
  rw [cmpi_sge_eq]
  by_cases h : c.toInt ≤ t.toInt
  · simpa [Scalar.select, h] using h
  · simpa [Scalar.select, h] using ht

theorem start_bounds (t c1 c2 c3 c4 c5 : BitVec 32) (ht : 0 ≤ t.toInt) : 0 ≤ (start t c1 c2 c3 c4 c5).toInt ∧ (start t c1 c2 c3 c4 c5).toInt ≤ t.toInt :=
  start_step _ _ _ ht (start_step _ _ _ ht (start_step _ _ _ ht (start_step _ _ _ ht (start_step _ _ _ ht ⟨by decide, by simpa using ht⟩))))

/-- A position before `j` is less than `j` from its sequence's start. -/
theorem live_zero (t j : ℕ) (h : t < j) (hj : j ≤ 1280) (c1 c2 c3 c4 c5 : BitVec 32) :
    live (dist (BitVec.ofNat 32 t) c1 c2 c3 c4 c5) (BitVec.ofNat 32 j) = 0 := by
  have hj' : (BitVec.ofNat 32 j).toInt = j := by
    rw [BitVec.toInt_eq_toNat_of_lt] <;> rw [BitVec.toNat_ofNat] <;> omega
  have ht' : (BitVec.ofNat 32 t).toInt = t := by
    rw [BitVec.toInt_eq_toNat_of_lt] <;> rw [BitVec.toNat_ofNat] <;> omega
  have hb := start_bounds (BitVec.ofNat 32 t) c1 c2 c3 c4 c5 (by omega)
  have hd : (dist (BitVec.ofNat 32 t) c1 c2 c3 c4 c5).toInt = t - (start (BitVec.ofNat 32 t) c1 c2 c3 c4 c5).toInt := by
    show (BitVec.ofNat 32 t - start (BitVec.ofNat 32 t) c1 c2 c3 c4 c5).toInt = _
    rw [BitVec.toInt_sub, ht']
    apply Int.bmod_eq_of_le <;> omega
  unfold live
  rw [cmpi_sge_eq, hj', hd, decide_eq_false (by omega), lit_zero]
  rfl

/-- The convolution does not see a row the mask hides. -/
theorem conv_congr (W : Weights) (p : BitVec 32) (b0 b1 b2 b3 d1 d2 d3 : Fin 1024 → EReal) (c : Fin 1024)
    (h1 : live p 1#32 = 0 ∨ b1 c = d1 c) (h2 : live p 2#32 = 0 ∨ b2 c = d2 c) (h3 : live p 3#32 = 0 ∨ b3 c = d3 c) :
    W.conv p b0 b1 b2 b3 c = W.conv p b0 d1 d2 d3 c := by
  have e : ∀ (l a x y : EReal), l = 0 ∨ x = y → l * a * x = l * a * y := by
    rintro l a x y (rfl | rfl)
    · rw [zero_mul, zero_mul, zero_mul]
    · rfl
  unfold Weights.conv
  rw [e _ _ _ _ h1, e _ _ _ _ h2, e _ _ _ _ h3]

end Cert.Spec

end
-- ==== Proof.Inputs.lean ====
/- The block's arguments as arrays, and its ten results as arrays of the mathematics over all positions: the form in which the two
   programs are compared. -/
module

public import proofs.«01_k».proof.Proof.Seq

@[expose] public section

noncomputable section

namespace Cert.Spec

open Idealize.ShloMosaic Idealize.ShloMosaic.ValueIdx

/-- The thirteen arguments of one device. -/
structure Inputs where
  /-- the positions -/
  x : Vec Ideal ⟨2, ![1280, 1024]⟩ .bf16
  /-- the sequences' boundaries -/
  cu : Vec Ideal ⟨1, ![7]⟩ .i32
  /-- the first norm's weights -/
  n1 : Vec Ideal ⟨1, ![1024]⟩ .f32
  /-- the input projection's codes -/
  win : Vec Ideal ⟨2, ![1024, 3072]⟩ .i8
  /-- their scales -/
  sin : Vec Ideal ⟨1, ![3072]⟩ .f32
  /-- the convolution's taps -/
  taps : Vec Ideal ⟨2, ![1024, 4]⟩ .f32
  /-- the output projection's codes -/
  wout : Vec Ideal ⟨2, ![1024, 1024]⟩ .i8
  /-- their scales -/
  sout : Vec Ideal ⟨1, ![1024]⟩ .f32
  /-- the second norm's weights -/
  n2 : Vec Ideal ⟨1, ![1024]⟩ .f32
  /-- the gate and up projections' codes -/
  wgu : Vec Ideal ⟨3, ![1024, 2, 4608]⟩ .i8
  /-- their scales -/
  sgu : Vec Ideal ⟨2, ![2, 4608]⟩ .f32
  /-- the down projection's codes -/
  wdn : Vec Ideal ⟨2, ![4608, 1024]⟩ .i8
  /-- their scales -/
  sdn : Vec Ideal ⟨1, ![1024]⟩ .f32

namespace Inputs

variable (I : Inputs)

/-- The block over all positions. -/
def args : Args where
  W := { n1 := fun k => I.n1 (ix1 k)
         win := fun k j => I.win (ix2 k j)
         sin := fun j => I.sin (ix1 j)
         taps := fun a c => I.taps (ix2 c a)
         wout := fun k j => I.wout (ix2 k j)
         sout := fun j => I.sout (ix1 j)
         n2 := fun k => I.n2 (ix1 k)
         wg := fun k j => I.wgu (ix3 k 0 j)
         sg := fun j => I.sgu (ix2 0 j)
         wu := fun k j => I.wgu (ix3 k 1 j)
         su := fun j => I.sgu (ix2 1 j)
         wdn := fun k j => I.wdn (ix2 k j)
         sdn := fun j => I.sdn (ix1 j) }
  x := fun t k => I.x (ix2 t k)
  pos := fun t => dist (BitVec.ofNat 32 t.val) (I.cu (ix1 1)) (I.cu (ix1 2)) (I.cu (ix1 3)) (I.cu (ix1 4)) (I.cu (ix1 5))

/-- The block's result. -/
def out : Vec Ideal ⟨2, ![1280, 1024]⟩ .bf16 := fun i => I.args.out (i 0) (i 1)
/-- Each sequence's last three rows of the convolution's input. -/
def state : Vec Ideal ⟨3, ![6, 3, 1024]⟩ .bf16 := fun i =>
  I.args.state (I.cu (ix1 ⟨(i 0).val + 1, Nat.succ_lt_succ (i 0).isLt⟩)) (I.cu (ix1 ⟨(i 0).val, Nat.lt_succ_of_lt (i 0).isLt⟩)) (BitVec.ofNat 32 (i 1).val) (i 2)
/-- The first codes, -/
def code1 : Vec Ideal ⟨2, ![1280, 1024]⟩ .i8 := fun i => code (I.args.norm1 (i 0)) (i 1)
/-- their scales; -/
def scale1 (t : Fin 1280) : EReal := scale (I.args.norm1 t)
/-- the second codes, -/
def code2 : Vec Ideal ⟨2, ![1280, 1024]⟩ .i8 := fun i => code (I.args.mix (i 0)) (i 1)
/-- their scales; -/
def scale2 (t : Fin 1280) : EReal := scale (I.args.mix t)
/-- the third codes, -/
def code3 : Vec Ideal ⟨2, ![1280, 1024]⟩ .i8 := fun i => code (I.args.norm2 (i 0)) (i 1)
/-- their scales; -/
def scale3 (t : Fin 1280) : EReal := scale (I.args.norm2 t)
/-- the fourth codes, -/
def code4 : Vec Ideal ⟨2, ![1280, 4608]⟩ .i8 := fun i => code (I.args.act (i 0)) (i 1)
/-- their scales. -/
def scale4 (t : Fin 1280) : EReal := scale (I.args.act t)
/-- A number per position, as an array. -/
def row (f : Fin 1280 → EReal) : Vec Ideal ⟨1, ![1280]⟩ .f32 := fun i => f (i 0)

end Inputs

end Cert.Spec

end
-- ==== Proof.Rows.lean ====
/- Arrays of rows read at a row and a column: the sum and the greatest magnitude of a row, a column laid over rows, and the
   stages of the block that both programs share, as the functions of one row they are. -/
module

public import proofs.«01_k».proof.Proof.Spec
public import Idealize.ShloMosaic.Lib.ValueLayoutCasts
public import Idealize.ShloMosaic.Lib.MatmulPlain
public import Idealize.ShloMosaic.PureOps.Ideal.Laws
public import Idealize.ShloMosaic.Lib.Pipeline.ValueKit.Tiles

@[expose] public section

noncomputable section

namespace Cert.Rows

open Idealize.ShloMosaic Idealize.ShloMosaic.ValueIdx
open scoped BigOperators

variable {n m : ℕ}

/-- A column laid over the rows. -/
theorem colBroadcast {α : Type} (x : (⟨2, ![n, 1]⟩ : Shape).Idx → α) (h : (⟨2, ![n, 1]⟩ : Shape).Broadcasts ⟨2, ![n, m]⟩) (r : Fin n) (c : Fin m) :
    broadcastTo ⟨2, ![n, m]⟩ x h (ix2 r c) = x (ix2 r 0) := by
  refine broadcastTo_apply x h (ix2 r c) (ix2 r (0 : Fin 1)) fun ax => ?_
  match ax with
  | ⟨0, _⟩ =>
    show r.val = if n = 1 then 0 else r.val
    split
    · have := r.isLt; omega
    · rfl
  | ⟨1, _⟩ => rfl

/-- Coordinate `k` of row `r`. -/
theorem lift_row (h : (⟨2, ![n, m]⟩ : Shape).Reduces [1] ⟨1, ![n]⟩) (r : Fin n) (k : Fin m) : h.lift (ix1 r) k = ix2 r k := by
  funext d; fin_cases d <;> rfl

theorem rowSum (v : FVec Ideal ⟨2, ![n, m]⟩ .f32) (h : (⟨2, ![n, m]⟩ : Shape).Reduces [1] ⟨1, ![n]⟩) (hφ) (hacc)
    (hs : (⟨1, ![n]⟩ : Shape).ShapeCasts ⟨2, ![n, 1]⟩) (r : Fin n) (u : Fin 1) :
    shapeCast ⟨2, ![n, 1]⟩ (multiReduction .add [1] ⟨1, ![n]⟩ v 0x00000000#32 h hφ hacc) hs (ix2 r u) = ∑ k : Fin m, v (ix2 r k) := by
  rw [shapeCast_a_a1_apply, Ideal.multiReduction_add_single]
  exact Finset.sum_congr rfl fun k _ => congrArg v (lift_row h r k)

theorem rowMax (v : FVec Ideal ⟨2, ![n, m]⟩ .f32) (h : (⟨2, ![n, m]⟩ : Shape).Reduces [1] ⟨1, ![n]⟩) (hφ) (hacc)
    (hs : (⟨1, ![n]⟩ : Shape).ShapeCasts ⟨2, ![n, 1]⟩) (r : Fin n) (u : Fin 1) :
    shapeCast ⟨2, ![n, 1]⟩ (multiReduction .maximumf [1] ⟨1, ![n]⟩ (absf v) 0xFF800000#32 h hφ hacc) hs (ix2 r u) = Spec.amax (fun k => v (ix2 r k)) := by
  rw [shapeCast_a_a1_apply, Ideal.multiReduction_maximumf_single]
  unfold Spec.amax
  refine congrArg (Finset.univ.fold max _) (funext fun k => ?_)
  exact congrArg (absf v) (lift_row h r k)

/-- A row's scale, from its greatest magnitude. -/
theorem scale_apply (a : FVec Ideal ⟨2, ![n, 1]⟩ .f32) (r : Fin n) (u : Fin 1) :
    select (cmpf .oeq a (broadcast ⟨2, ![n, 1]⟩ (Scalar.ofBits .f32 0x00000000#32 : Ideal .f32))) (broadcast ⟨2, ![n, 1]⟩ (Scalar.ofBits .f32 0x3F800000#32 : Ideal .f32))
      (divf a (broadcast ⟨2, ![n, 1]⟩ (Scalar.ofBits .f32 0x42FE0000#32 : Ideal .f32))) (ix2 r u) = Spec.scaleOf (a (ix2 r u)) := rfl

/-- A row's codes, dividing by its scale. -/
theorem code_div (v : FVec Ideal ⟨2, ![n, m]⟩ .f32) (s : FVec Ideal ⟨2, ![n, 1]⟩ .f32) (h) (r : Fin n) (k : Fin m) :
    fptosi 8 (minimumf (broadcast ⟨2, ![n, m]⟩ (Scalar.ofBits .f32 0x42FE0000#32 : Ideal .f32)) (maximumf (broadcast ⟨2, ![n, m]⟩ (Scalar.ofBits .f32 0xC2FE0000#32 : Ideal .f32))
      (roundeven (divf v (broadcastTo ⟨2, ![n, m]⟩ s h))))) (ix2 r k) = Spec.quant (Ideal.div (v (ix2 r k)) (s (ix2 r 0))) := by
  rw [← colBroadcast s h r k]; rfl

/-- A row's codes, multiplying by its scale's inverse. -/
theorem code_mul (v : FVec Ideal ⟨2, ![n, m]⟩ .f32) (s : FVec Ideal ⟨2, ![n, 1]⟩ .f32) (h) (r : Fin n) (k : Fin m) (hs : s (ix2 r 0) ≠ (0 : EReal)) :
    fptosi 8 (minimumf (broadcast ⟨2, ![n, m]⟩ (Scalar.ofBits .f32 0x42FE0000#32 : Ideal .f32)) (maximumf (broadcast ⟨2, ![n, m]⟩ (Scalar.ofBits .f32 0xC2FE0000#32 : Ideal .f32))
      (roundeven (mulf v (broadcastTo ⟨2, ![n, m]⟩ (divf (broadcast ⟨2, ![n, 1]⟩ (Scalar.ofBits .f32 0x3F800000#32 : Ideal .f32)) s) h))))) (ix2 r k)
      = Spec.quant (Ideal.div (v (ix2 r k)) (s (ix2 r 0))) := by
  rw [← Ideal.mul_one_div hs]
  have e : broadcastTo ⟨2, ![n, m]⟩ (divf (broadcast ⟨2, ![n, 1]⟩ (Scalar.ofBits .f32 0x3F800000#32 : Ideal .f32)) s) h (ix2 r k) = Ideal.div 1 (s (ix2 r 0)) := by
    rw [colBroadcast, ← Ideal.ofBits_one_f32]; rfl
  rw [← e]; rfl

/-- One entry of a linear map on codes. -/
theorem lin_apply {M K N : ℕ} (d : DotDims ⟨2, ![M, K]⟩ ⟨2, ![K, N]⟩ ⟨2, ![M, N]⟩) (hd : d = DotDims.plain M K N) (q : IVec ⟨2, ![M, K]⟩ 8) (w : IVec ⟨2, ![K, N]⟩ 8)
    (s : FVec Ideal ⟨2, ![M, 1]⟩ .f32) (S : FVec Ideal ⟨2, ![1, N]⟩ .f32) (h h') (r : Fin M) (c : Fin N) :
    mulf (matmul d none (sitofp .bf16 q : FVec Ideal ⟨2, ![M, K]⟩ .bf16) (sitofp .bf16 w) (constant ⟨2, ![M, N]⟩ .f32 0x00000000#32))
        (mulf (broadcastTo ⟨2, ![M, N]⟩ s h) (broadcastTo ⟨2, ![M, N]⟩ S h')) (ix2 r c)
      = Spec.lin (fun k => q (ix2 r k)) (s (ix2 r 0)) (fun k j => w (ix2 k j)) (fun j => S (ix2 0 j)) c := by
  subst hd
  rw [mulf_apply, mulf_apply, colBroadcast, broadcastTo_1b_ab_apply, matmul, Ideal.matmul_plain_apply]
  unfold Spec.lin
  refine congrArg (· * _) ?_
  exact (congrArg (· + _) Ideal.ofBits_zero_f32).trans (zero_add _)

/-- A positive literal. -/
theorem lit_pos (b : BitVec 32) {r : ℝ} (h : Spec.lit b = (r : EReal)) (hr : 0 < r) : 0 < Spec.lit b := by
  rw [h]; exact_mod_cast hr

theorem lit_1024 : Spec.lit 0x44800000#32 = ((1024 : ℝ) : EReal) := by
  simp [Spec.lit, Ideal.ofBits, Ideal.ieee, -EReal.coe_mul]; norm_num

theorem lit_127 : Spec.lit 0x42FE0000#32 = ((127 : ℝ) : EReal) := by
  simp [Spec.lit, Ideal.ofBits, Ideal.ieee, -EReal.coe_mul]; norm_num

theorem lit_eps : 0 < Spec.lit 0x3727C5AC#32 :=
  lit_pos _ (r := 10995116 / 1099511627776) (by simp [Spec.lit, Ideal.ofBits, Ideal.ieee, -EReal.coe_mul]; norm_num) (by norm_num)

theorem lit_neg_top : Spec.lit 0xFF800000#32 = ⊥ := by
  simp [Spec.lit, Ideal.ofBits, Ideal.ieee]

/-- A quotient by a positive real. -/
theorem div_pos_real (x : EReal) {r : ℝ} (hr : 0 < r) : Ideal.div x (r : EReal) = x * ((r⁻¹ : ℝ) : EReal) := by
  have h0 : ((r : ℝ) : EReal) ≠ 0 := by exact_mod_cast hr.ne'
  unfold Ideal.div
  rw [if_neg h0]
  rfl

/-- The root of a positive extended real is positive. -/
theorem sqrt_pos (x : EReal) (h : 0 < x) : Ideal.sqrt x ≠ 0 := by
  induction x using EReal.rec with
  | bot => simp at h
  | top => simp
  | coe r =>
    have hr : 0 < r := by exact_mod_cast h
    rw [Ideal.sqrt_coe, if_neg (not_lt.mpr hr.le)]
    exact_mod_cast (Real.sqrt_pos.mpr hr).ne'

/-- A square is not negative. -/
theorem sq_nonneg (x : EReal) : 0 ≤ x * x := by
  rcases le_total 0 x with h | h
  · exact mul_nonneg h h
  · rw [← neg_mul_neg]; exact mul_nonneg (by simpa using h) (by simpa using h)

/-- The root is not zero. -/
theorem root_ne_zero (v : Fin n → EReal) : Spec.root v ≠ 0 := by
  unfold Spec.root
  refine sqrt_pos _ ?_
  rw [lit_1024, div_pos_real _ (by norm_num : (0 : ℝ) < 1024)]
  refine lt_of_lt_of_le lit_eps (le_add_of_nonneg_left (mul_nonneg (Finset.sum_nonneg fun k _ => sq_nonneg _) ?_))
  exact_mod_cast (by positivity : (0 : ℝ) ≤ (1024 : ℝ)⁻¹)

/-- A scale is not zero. -/
theorem scaleOf_ne_zero (a : EReal) : Spec.scaleOf a ≠ 0 := by
  unfold Spec.scaleOf
  by_cases h : a = 0
  · subst h
    have : FloatOps.cmpf (F := Ideal) (φ := .f32) .oeq (0 : EReal) (Spec.lit 0x00000000#32) = 1#1 := by
      rw [Spec.lit_zero]; show Ideal.cmp _ _ _ = _; simp [Ideal.cmp]
    rw [this, select_one, Spec.lit_one]; exact one_ne_zero
  · have : FloatOps.cmpf (F := Ideal) (φ := .f32) .oeq a (Spec.lit 0x00000000#32) = 0#1 := by
      rw [Spec.lit_zero]; show Ideal.cmp _ _ _ = _; simp [Ideal.cmp, h]
    rw [this, select_zero, lit_127, div_pos_real _ (by norm_num : (0 : ℝ) < 127)]
    refine mul_ne_zero h ?_
    exact_mod_cast (by positivity : (127 : ℝ)⁻¹ ≠ 0)

/-- The root mean square of a row. -/
theorem root_apply (v : FVec Ideal ⟨2, ![n, m]⟩ .f32) (h) (hφ) (hacc) (hs) (r : Fin n) (u : Fin 1) :
    sqrt (addf (divf (shapeCast ⟨2, ![n, 1]⟩ (multiReduction .add [1] ⟨1, ![n]⟩ (mulf v v) 0x00000000#32 h hφ hacc) hs)
        (broadcast ⟨2, ![n, 1]⟩ (Scalar.ofBits .f32 0x44800000#32 : Ideal .f32))) (broadcast ⟨2, ![n, 1]⟩ (Scalar.ofBits .f32 0x3727C5AC#32 : Ideal .f32))) (ix2 r u)
      = Spec.root (fun k => v (ix2 r k)) :=
  congrArg (fun z : EReal => (FloatOps.sqrt (F := Ideal) (φ := .f32) (Ideal.div z (Spec.lit 0x44800000#32) + Spec.lit 0x3727C5AC#32) : Ideal .f32)) (rowSum (mulf v v) h hφ hacc hs r u)

/-- The norm of a row, dividing by its root mean square. -/
theorem norm_div (v : FVec Ideal ⟨2, ![n, m]⟩ .f32) (w : FVec Ideal ⟨2, ![1, m]⟩ .f32) (R : FVec Ideal ⟨2, ![n, 1]⟩ .f32) (hb) (hb') (r : Fin n) (k : Fin m)
    (hR : R (ix2 r 0) = Spec.root (fun k => v (ix2 r k))) :
    mulf (divf v (broadcastTo ⟨2, ![n, m]⟩ R hb)) (broadcastTo ⟨2, ![n, m]⟩ w hb') (ix2 r k) = Spec.norm (fun k => v (ix2 r k)) (fun k => w (ix2 0 k)) k := by
  rw [mulf_apply, broadcastTo_1b_ab_apply, divf_apply, colBroadcast, hR]; rfl

/-- The norm of a row, multiplying by its root's inverse. -/
theorem norm_mul (v : FVec Ideal ⟨2, ![n, m]⟩ .f32) (w : FVec Ideal ⟨2, ![1, m]⟩ .f32) (R : FVec Ideal ⟨2, ![n, 1]⟩ .f32) (hb) (hb') (r : Fin n) (k : Fin m)
    (hR : R (ix2 r 0) = Spec.root (fun k => v (ix2 r k))) :
    mulf (mulf v (broadcastTo ⟨2, ![n, m]⟩ (divf (broadcast ⟨2, ![n, 1]⟩ (Scalar.ofBits .f32 0x3F800000#32 : Ideal .f32)) R) hb))
      (broadcastTo ⟨2, ![n, m]⟩ w hb') (ix2 r k) = Spec.norm (fun k => v (ix2 r k)) (fun k => w (ix2 0 k)) k := by
  rw [mulf_apply, broadcastTo_1b_ab_apply, mulf_apply, colBroadcast, divf_apply, hR]
  unfold Spec.norm
  rw [← Ideal.mul_one_div (x := v (ix2 r k)) (root_ne_zero _)]
  exact congrArg (fun z : EReal => v (ix2 r k) * Ideal.div z (Spec.root fun k => v (ix2 r k)) * w (ix2 0 k)) Ideal.ofBits_one_f32

/-- A column laid along lanes: the diagonal's sum over rows is the one element. -/
theorem diag (x : FVec Ideal ⟨2, ![n, 1]⟩ .f32) (e : IVec ⟨2, ![n, n]⟩ 1) (he : ∀ a b, e (ix2 a b) = if a = b then 1#1 else 0#1) (hb) (h) (hφ) (hacc) (l : Fin n) :
    multiReduction .add [0] ⟨1, ![n]⟩ (select e (broadcastTo ⟨2, ![n, n]⟩ x hb) (broadcast ⟨2, ![n, n]⟩ (Scalar.ofBits .f32 0x00000000#32 : Ideal .f32))) 0x00000000#32 h hφ hacc (ix1 l)
      = x (ix2 l 0) := by
  rw [Ideal.multiReduction_add_single]
  have hl : ∀ k : Fin n, h.lift (ix1 l) k = ix2 k l := fun k => by funext d; fin_cases d <;> rfl
  have : ∀ k : Fin n, select e (broadcastTo ⟨2, ![n, n]⟩ x hb) (broadcast ⟨2, ![n, n]⟩ (Scalar.ofBits .f32 0x00000000#32 : Ideal .f32)) (h.lift (ix1 l) k)
      = if k = l then (x (ix2 l 0) : EReal) else 0 := fun k => by
    rw [hl, select_apply, he]
    by_cases hk : k = l
    · subst hk; rw [if_pos rfl, if_pos rfl, select_one, colBroadcast]
    · rw [if_neg hk, if_neg hk, select_zero]; exact Ideal.ofBits_zero_f32
  exact (Finset.sum_congr rfl fun k _ => this k).trans ((Finset.sum_ite_eq' (Finset.univ : Finset (Fin n)) l fun _ => (x (ix2 l 0) : EReal)).trans (if_pos (Finset.mem_univ l)))

/-- The upper piece of two stacked blocks of rows. -/
theorem stack_top {α : Type} {p q t : ℕ} (x : (⟨2, ![p, m]⟩ : Shape).Idx → α) (y : (⟨2, ![q, m]⟩ : Shape).Idx → α) (h) (r : Fin t) (c : Fin m) (a : Fin p) (ha : a.val = r.val) :
    concatenate ⟨2, ![t, m]⟩ 0 [⟨⟨2, ![p, m]⟩, x⟩, ⟨⟨2, ![q, m]⟩, y⟩] h (ix2 r c) = x (ix2 a c) := by
  refine concatenate_pair_apply_left 0 x y h (ix2 r c) rfl (ix2 a c) fun b => ?_
  match b with
  | ⟨0, _⟩ => exact ha
  | ⟨1, _⟩ => rfl

/-- The lower piece of two stacked blocks of rows. -/
theorem stack_bot {α : Type} {p q t : ℕ} (x : (⟨2, ![p, m]⟩ : Shape).Idx → α) (y : (⟨2, ![q, m]⟩ : Shape).Idx → α) (h) (r : Fin t) (c : Fin m) (a : Fin q) (ha : a.val + p = r.val) :
    concatenate ⟨2, ![t, m]⟩ 0 [⟨⟨2, ![p, m]⟩, x⟩, ⟨⟨2, ![q, m]⟩, y⟩] h (ix2 r c) = y (ix2 a c) := by
  refine concatenate_pair_apply_right 0 x y h (ix2 r c) rfl rfl (ix2 a c) (fun b hb => ?_) ha
  match b, hb with
  | ⟨0, _⟩, hb => exact absurd rfl hb
  | ⟨1, _⟩, _ => rfl

/-- The whole of an array of rows, read as a load. -/
theorem ld_all {e : EltTy} {a b : ℕ} (x : (⟨2, ![a, b]⟩ : Shape).Idx → Elt Ideal e) (inb) :
    View.ld x (Rect.unit (s := ⟨2, ![a, b]⟩) ![0, 0] ![a, b] inb) = x :=
  View.ld_unit_zero (S := ⟨2, ![a, b]⟩) (by funext d; fin_cases d <;> rfl) inb x

/-- A block of an array of rows, read as a load. -/
theorem ld_block {e : EltTy} {a b p q : ℕ} (x : (⟨2, ![a, b]⟩ : Shape).Idx → Elt Ideal e) (o o' : ℕ) (inb) (r : Fin p) (c : Fin q) (r' : Fin a) (c' : Fin b)
    (hr : r'.val = o + r.val) (hc : c'.val = o' + c.val) :
    View.ld x (Rect.unit (s := ⟨2, ![a, b]⟩) ![o, o'] ![p, q] inb) (ix2 r c) = x (ix2 r' c') :=
  View.ld_unit_apply_of (S := ⟨2, ![a, b]⟩) x _ _ _ _ _ fun d => by
    match d with
    | ⟨0, _⟩ => exact hr
    | ⟨1, _⟩ => exact hc

end Cert.Rows

end
-- ==== Proof.TileRows.lean ====
/- The kernel's tile over the extended reals, first part: the normalised rows, their scales and codes, the input projection
   and the scales laid along lanes, each read at a row as the block's mathematics on that row. -/
module

public import proofs.«01_k».proof.Proof.Rows
public import proofs.«01_k».proof.Proof.KernelIdealValues

@[expose] public section

noncomputable section

namespace Cert.KernelIdeal.Body

open Cert.KernelIdeal Cert.KernelIdeal.Gen
open Idealize.ShloMosaic Idealize.ShloMosaic.ValueIdx Cert.Rows
open scoped BigOperators

/-- The weights among a grid point's blocks. -/
def weights (X : Blocks Ideal) : Spec.Weights where
  n1 := fun k => X.n1 (ix2 0 k)
  win := fun k j => X.win (ix2 k j)
  sin := fun j => X.sin (ix2 0 j)
  taps := fun a c => X.taps (ix2 a c)
  wout := fun k j => X.wout (ix2 k j)
  sout := fun j => X.sout (ix2 0 j)
  n2 := fun k => X.n2 (ix2 0 k)
  wg := fun k j => X.wgu (ix3 0 k j)
  sg := fun j => X.sgu (ix2 0 j)
  wu := fun k j => X.wgu (ix3 1 k j)
  su := fun j => X.sgu (ix2 1 j)
  wdn := fun k j => X.wdn (ix2 k j)
  sdn := fun j => X.sdn (ix2 0 j)

/-- Row `r` of the tile. -/
def xrow (X : Blocks Ideal) (r : Fin 256) : Fin 1024 → EReal := fun k => X.x (ix2 r k)

theorem dot_1024 : dot_S256x1024_S1024x1024_S256x1024_1_0_0_1_n_n = DotDims.plain 256 1024 1024 := rfl
theorem dot_512 : dot_S256x1024_S1024x512_S256x512_1_0_0_1_n_n = DotDims.plain 256 1024 512 := rfl
theorem dot_4608 : dot_S256x4608_S4608x1024_S256x1024_1_0_0_1_n_n = DotDims.plain 256 4608 1024 := rfl

theorem pay6_apply (v : Vec Ideal S256x1024 .bf16) (w : Vec Ideal S1x1024 .f32) (r : Fin 256) (k : Fin 1024) :
    k0_pay6 v w (ix2 r k) = Spec.norm (fun k => (v (ix2 r k) : EReal)) (fun k => w (ix2 0 k)) k :=
  (norm_mul (k0_pay5 v) (shapeCast S1x1024 w shapeCasts_S1x1024_S1x1024) _ _ _ r k (root_apply (k0_pay5 v) _ _ _ _ r 0)).trans (by
    rw [shapeCast_self]; rfl)

theorem pay7_apply (v : Vec Ideal S256x1024 .bf16) (w : Vec Ideal S1x1024 .f32) (r : Fin 256) (u : Fin 1) :
    k0_pay7 v w (ix2 r u) = Spec.scale (Spec.norm (fun k => (v (ix2 r k) : EReal)) (fun k => w (ix2 0 k))) :=
  (scale_apply _ r u).trans (congrArg Spec.scaleOf ((rowMax (k0_pay6 v w) _ _ _ _ r u).trans
    (congrArg Spec.amax (funext fun k => pay6_apply v w r k))))

theorem pay9_apply (v : Vec Ideal S256x1024 .bf16) (w : Vec Ideal S1x1024 .f32) (r : Fin 256) (k : Fin 1024) :
    k0_pay9 (k0_pay8 v w) (ix2 r k) = Spec.code (Spec.norm (fun k => (v (ix2 r k) : EReal)) (fun k => w (ix2 0 k))) k :=
  (code_mul (k0_pay6 v w) (k0_pay7 v w) _ r k (by rw [pay7_apply]; exact scaleOf_ne_zero _)).trans (by
    rw [pay7_apply, pay6_apply]; rfl)

variable (X : Blocks Ideal)

theorem xf_apply (r : Fin 256) (k : Fin 1024) : xf X (ix2 r k) = xrow X r k := by
  unfold xf; rw [ld_all]; rfl

theorem scale1_apply (r : Fin 256) (u : Fin 1) : scale1 X (ix2 r u) = Spec.scale ((weights X).norm1 (xrow X r)) := by
  unfold scale1; rw [ld_all, ld_all, pay7_apply]; rfl

theorem code1_apply (r : Fin 256) (k : Fin 1024) : code1 X (ix2 r k) = Spec.code ((weights X).norm1 (xrow X r)) k := by
  unfold code1 round1; rw [ld_all, ld_all, pay9_apply]; rfl

end Cert.KernelIdeal.Body

end
-- ==== Proof.TileProj.lean ====
/- The kernel's tile over the extended reals, second part: the input projection, the scales laid along lanes, the positions'
   distances and the convolution. -/
module

public import proofs.«01_k».proof.Proof.TileRows

@[expose] public section

noncomputable section

namespace Cert.KernelIdeal.Body

open Cert.KernelIdeal Cert.KernelIdeal.Gen
open Idealize.ShloMosaic Idealize.ShloMosaic.ValueIdx Cert.Rows
open scoped BigOperators

variable (i : grid0.Coords) (X : Blocks Ideal)

/-- One column block of the input projection. -/
theorem proj_apply (o : ℕ) (ho : o + 1024 ≤ 3072) (inb) (inb') (h) (h') (hc : S1x1024.ShapeCasts S1x1024) (r : Fin 256) (c : Fin 1024) :
    mulf (matmul dot_S256x1024_S1024x1024_S256x1024_1_0_0_1_n_n none (sitofp .bf16 (code1 X) : FVec Ideal S256x1024 .bf16)
        (sitofp .bf16 (View.ld X.win (Rect.unit (s := S1024x3072) ![0, o] S1024x1024.size inb) : IVec S1024x1024 8)) (constant S256x1024 .f32 0x00000000#32))
        (mulf (broadcastTo S256x1024 (scale1 X) h) (broadcastTo S256x1024 (shapeCast S1x1024 (View.ld X.sin (Rect.unit (s := S1x3072) ![0, o] S1x1024.size inb') : FVec Ideal S1x1024 .f32) hc) h')) (ix2 r c)
      = (weights X).proj (xrow X r) ⟨o + c.val, by omega⟩ := by
  rw [lin_apply _ dot_1024]
  unfold Spec.Weights.proj
  rw [scale1_apply]
  rw [show (fun k => code1 X (ix2 r k)) = Spec.code ((weights X).norm1 (xrow X r)) from funext fun k => code1_apply X r k]
  refine Spec.lin_col _ _ _ _ _ _ _ _ (fun k => ?_) ?_
  · exact ld_block (e := .i8) X.win 0 o inb k c k ⟨o + c.val, by omega⟩ (by simp) rfl
  · refine (congrFun (shapeCast_self (s := S1x1024) _ _) _).trans ?_
    exact ld_block (e := .f32) X.sin 0 o inb' 0 c 0 ⟨o + c.val, by omega⟩ rfl rfl

theorem gate_apply (r : Fin 256) (c : Fin 1024) : gate X (ix2 r c) = (weights X).gate (xrow X r) c :=
  proj_apply X 1024 (by omega) _ _ _ _ _ r c

theorem bxTile_apply (r : Fin 256) (c : Fin 1024) : bxTile X (ix2 r c) = (weights X).bx (xrow X r) c := by
  have e1 := proj_apply X 0 (by omega) inb_S1024x3072_S1024x1024_0_0 inb_S1x3072_S1x1024_0_0 broadcasts_S256x1_S256x1024 broadcasts_S1x1024_S256x1024 shapeCasts_S1x1024_S1x1024 r c
  have e2 := proj_apply X 2048 (by omega) inb_S1024x3072_S1024x1024_0_2048 inb_S1x3072_S1x1024_0_2048 broadcasts_S256x1_S256x1024 broadcasts_S1x1024_S256x1024 shapeCasts_S1x1024_S1x1024 r c
  unfold bxTile k0_pay14
  rw [shapeCast_self]
  refine (congrArg₂ (fun a b : EReal => a * b) e1 e2).trans ?_
  unfold Spec.Weights.bx Spec.low Spec.high
  simp only [Nat.zero_add]

/-- The diagonal of 128 by 128. -/
theorem eye_apply (a b : Fin 128) : (cmpi .eq (iota .tc S128x128 32 [0] iota_S128x128_d0_w32) (iota .tc S128x128 32 [1] iota_S128x128_d1_w32)) (ix2 a b) = if a = b then 1#1 else 0#1 := by
  show BitVec.ofBool (BitVec.ofNat 32 (0 * 128 + a.val) == BitVec.ofNat 32 (0 * 128 + b.val)) = _
  by_cases h : a = b
  · subst h; simp
  · have : BitVec.ofNat 32 (0 * 128 + a.val) ≠ BitVec.ofNat 32 (0 * 128 + b.val) := fun he => h (Fin.ext (by
      have := congrArg BitVec.toNat he
      simp only [BitVec.toNat_ofNat] at this
      have := a.isLt; have := b.isLt
      omega))
    rw [if_neg h, beq_eq_false_iff_ne.mpr this]; rfl

/-- A column of 256 laid along two rows of 128 lanes. -/
theorem lanes_apply (v : FVec Ideal S256x1 .f32) (u : Fin 1) (a : Fin 2) (l : Fin 128) :
    k0_pay94 v (ix3 u a l) = v (ix2 ⟨128 * a.val + l.val, by omega⟩ 0) := by
  unfold k0_pay94
  rw [shapeCast_ab_1ab_apply]
  match a with
  | ⟨0, _⟩ =>
    refine (stack_top (p := 1) (q := 1) (t := 2) (m := 128) _ _ concatenates_S1x128_S1x128_S2x128_d0 ⟨0, by omega⟩ l 0 rfl).trans ?_
    refine (shapeCast_a_1a_apply (a := 128) _ _ _ _).trans ?_
    refine (diag _ _ eye_apply _ _ _ _ l).trans ?_
    refine (congrFun (shapeCast_self (s := S128x1) _ _) _).trans ?_
    exact slice2_axis0_apply 0 v _ l 0 _ (by simp)
  | ⟨1, _⟩ =>
    refine (stack_bot (p := 1) (q := 1) (t := 2) (m := 128) _ _ concatenates_S1x128_S1x128_S2x128_d0 ⟨1, by omega⟩ l 0 rfl).trans ?_
    refine (shapeCast_a_1a_apply (a := 128) _ _ _ _).trans ?_
    refine (diag _ _ eye_apply _ _ _ _ l).trans ?_
    refine (congrFun (shapeCast_self (s := S128x1) _ _) _).trans ?_
    exact slice2_axis0_apply 128 v _ l 0 _ (by simp)

/-- The tile's positions' distances from their sequences' starts. -/
theorem pos_apply (r : Fin 256) (u : Fin 1) :
    pos i X (ix2 r u) = Spec.dist (IntOp.addi (t0 i) (BitVec.ofNat 32 (0 * 256 + r.val))) (cu1 X) (cu2 X) (cu3 X) (cu4 X) (cu5 X) := rfl

theorem conv_apply (B : Vec Ideal S264x1024 .f32) (T : Vec Ideal S256x1024 .f32) (r : Fin 256) (c : Fin 1024) :
    conv i X B T (ix2 r c) = (weights X).conv (pos i X (ix2 r 0)) (fun c => T (ix2 r c)) (fun c => B (ix2 ⟨7 + r.val, by omega⟩ c))
      (fun c => B (ix2 ⟨6 + r.val, by omega⟩ c)) (fun c => B (ix2 ⟨5 + r.val, by omega⟩ c)) c := by
  unfold Spec.Weights.conv
  have hb : ∀ (o : ℕ) (ho : o + 256 ≤ 264) (inb), View.ld B (Rect.unit (s := S264x1024) ![o, 0] S256x1024.size inb) (ix2 r c) = B (ix2 ⟨o + r.val, by omega⟩ c) :=
    fun o ho inb => ld_block (e := .f32) B o 0 inb r c _ c rfl (by simp)
  have ht : ∀ (o : ℕ) (o' : Fin 4) (ho : o'.val = o) (inb) (h), broadcastTo S256x1024 (shapeCast S1x1024 (View.ld X.taps (Rect.unit (s := S4x1024) ![o, 0] S1x1024.size inb) : FVec Ideal S1x1024 .f32) shapeCasts_S1x1024_S1x1024) h (ix2 r c)
      = (weights X).taps o' c := fun o o' ho inb h => by
    rw [broadcastTo_1b_ab_apply]
    refine (congrFun (shapeCast_self (s := S1x1024) _ _) _).trans ?_
    exact ld_block (e := .f32) X.taps o 0 inb 0 c o' c (by simp [ho]) (by simp)
  have hm : ∀ (k : BitVec 32) (h), broadcastTo S256x1024 (select (cmpi .sge (pos i X) (broadcast S256x1 k)) (broadcast S256x1 (Scalar.ofBits .f32 0x3F800000#32 : Ideal .f32)) (broadcast S256x1 (Scalar.ofBits .f32 0x00000000#32 : Ideal .f32))) h (ix2 r c)
      = Spec.live (pos i X (ix2 r 0)) k := fun k h => by rw [colBroadcast]; rfl
  dsimp only
  rw [← hb 7 (by omega) inb_S264x1024_S256x1024_7_0, ← hb 6 (by omega) inb_S264x1024_S256x1024_6_0, ← hb 5 (by omega) inb_S264x1024_S256x1024_5_0,
    ← ht 3 3 rfl inb_S4x1024_S1x1024_3_0 broadcasts_S1x1024_S256x1024, ← ht 2 2 rfl inb_S4x1024_S1x1024_2_0 broadcasts_S1x1024_S256x1024,
    ← ht 1 1 rfl inb_S4x1024_S1x1024_1_0 broadcasts_S1x1024_S256x1024, ← ht 0 0 rfl inb_S4x1024_S1x1024_0_0 broadcasts_S1x1024_S256x1024,
    ← hm 1#32 broadcasts_S256x1_S256x1024, ← hm 2#32 broadcasts_S256x1_S256x1024, ← hm 3#32 broadcasts_S256x1_S256x1024]
  rfl

end Cert.KernelIdeal.Body

end
-- ==== Proof.TileFfn.lean ====
/- The kernel's tile over the extended reals, third part: the gated convolution's codes, the row after the convolution's
   branch, its second norm and codes. -/
module

public import proofs.«01_k».proof.Proof.TileProj

@[expose] public section

noncomputable section

namespace Cert.KernelIdeal.Body

open Cert.KernelIdeal Cert.KernelIdeal.Gen
open Idealize.ShloMosaic Idealize.ShloMosaic.ValueIdx Cert.Rows
open scoped BigOperators

variable (i : grid0.Coords) (X : Blocks Ideal) (B : Vec Ideal S264x1024 .f32) (T : Vec Ideal S256x1024 .f32)

/-- Row `r` of the tile's gated convolution. -/
def mixRow (r : Fin 256) : Fin 1024 → EReal := Spec.Weights.mix ((weights X).gate (xrow X r)) (fun c => conv i X B T (ix2 r c))

/-- Row `r` of the tile after the convolution's branch. -/
def hidRow (r : Fin 256) : Fin 1024 → EReal := (weights X).hid (xrow X r) (mixRow i X B T r)

/-- Row `r` of the tile's activation. -/
def actRow (r : Fin 256) : Fin 4608 → EReal := (weights X).act ((weights X).norm2 (hidRow i X B T r))

theorem mix_apply (r : Fin 256) (c : Fin 1024) : k0_pay42 (gate X) (conv i X B T) (ix2 r c) = mixRow i X B T r c :=
  congrArg (fun a : EReal => a * conv i X B T (ix2 r c)) (gate_apply X r c)

theorem scale2_apply (r : Fin 256) (u : Fin 1) : scale2 i X B T (ix2 r u) = Spec.scale (mixRow i X B T r) :=
by
  have h := rowMax (k0_pay42 (gate X) (conv i X B T)) reduces_S256x1024_S256 (.inl rfl) rfl shapeCasts_S256_S256x1 r u
  rw [show (fun k => k0_pay42 (gate X) (conv i X B T) (ix2 r k)) = mixRow i X B T r from funext fun k => mix_apply i X B T r k] at h
  unfold Spec.scale
  rw [← h]
  exact scale_apply (shapeCast S256x1 (multiReduction .maximumf [1] S256 (absf (k0_pay42 (gate X) (conv i X B T))) 0xFF800000#32 reduces_S256x1024_S256 (.inl rfl) rfl) shapeCasts_S256_S256x1) r u

theorem code2_apply (r : Fin 256) (k : Fin 1024) : code2 i X B T (ix2 r k) = Spec.code (mixRow i X B T r) k :=
  (code_mul (k0_pay42 (gate X) (conv i X B T)) (scale2 i X B T) _ r k (by rw [scale2_apply]; exact scaleOf_ne_zero _)).trans (by
    rw [scale2_apply, mix_apply]; rfl)

theorem lanes2_apply (u : Fin 1) (a : Fin 2) (l : Fin 128) : lanes2 i X B T (ix3 u a l) = Spec.scale (mixRow i X B T ⟨128 * a.val + l.val, by omega⟩) :=
  (lanes_apply (scale2 i X B T) u a l).trans (scale2_apply i X B T _ 0)

theorem hid_apply (r : Fin 256) (c : Fin 1024) : hid i X B T (ix2 r c) = hidRow i X B T r c := by
  refine (congrArg₂ (fun a b : EReal => a + b) (xf_apply X r c) (lin_apply _ dot_1024 (code2 i X B T) _ (scale2 i X B T) _ _ _ r c)).trans ?_
  unfold hidRow Spec.Weights.hid
  rw [scale2_apply, show (fun k => code2 i X B T (ix2 r k)) = Spec.code (mixRow i X B T r) from funext fun k => code2_apply i X B T r k]
  refine congrArg (fun z : EReal => xrow X r c + z) (Spec.lin_col _ _ _ _ _ _ _ _ (fun k => ?_) ?_)
  · rw [ld_all]; rfl
  · refine (congrFun (shapeCast_self (s := S1x1024) _ _) _).trans ?_
    rw [ld_all]; rfl

theorem norm2_apply (r : Fin 256) (k : Fin 1024) : norm2 i X B T (ix2 r k) = (weights X).norm2 (hidRow i X B T r) k := by
  refine (norm_mul (hid i X B T) (shapeCast S1x1024 (View.ld X.n2 (Rect.unit (s := S1x1024) ![0, 0] S1x1024.size inb_S1x1024_S1x1024_0_0)) shapeCasts_S1x1024_S1x1024) _ _ _ r k
    (root_apply (hid i X B T) _ _ _ _ r 0)).trans ?_
  rw [show (fun k => hid i X B T (ix2 r k)) = hidRow i X B T r from funext fun k => hid_apply i X B T r k]
  refine congrArg (fun w => Spec.norm (hidRow i X B T r) w k) (funext fun k => ?_)
  refine (congrFun (shapeCast_self (s := S1x1024) _ _) _).trans ?_
  rw [ld_all]; rfl

theorem scale3_apply (r : Fin 256) (u : Fin 1) : scale3 i X B T (ix2 r u) = Spec.scale ((weights X).norm2 (hidRow i X B T r)) :=
by
  have h := rowMax (norm2 i X B T) reduces_S256x1024_S256 (.inl rfl) rfl shapeCasts_S256_S256x1 r u
  rw [show (fun k => norm2 i X B T (ix2 r k)) = (weights X).norm2 (hidRow i X B T r) from funext fun k => norm2_apply i X B T r k] at h
  refine (scale_apply (amax2 i X B T) r u).trans ?_
  unfold Spec.scale
  rw [← h]
  rfl

theorem code3_apply (r : Fin 256) (k : Fin 1024) : code3 i X B T (ix2 r k) = Spec.code ((weights X).norm2 (hidRow i X B T r)) k :=
  (code_mul (norm2 i X B T) (scale3 i X B T) _ r k (by rw [scale3_apply]; exact scaleOf_ne_zero _)).trans (by
    rw [scale3_apply, norm2_apply]; rfl)

theorem lanes3_apply (u : Fin 1) (a : Fin 2) (l : Fin 128) :
    lanes3 i X B T (ix3 u a l) = Spec.scale ((weights X).norm2 (hidRow i X B T ⟨128 * a.val + l.val, by omega⟩)) :=
  (lanes_apply (scale3 i X B T) u a l).trans (scale3_apply i X B T _ 0)

theorem lanes1_apply (u : Fin 1) (a : Fin 2) (l : Fin 128) :
    k0_pay10 (scale1 X) (ix3 u a l) = Spec.scale ((weights X).norm1 (xrow X ⟨128 * a.val + l.val, by omega⟩)) :=
  (lanes_apply (scale1 X) u a l).trans (scale1_apply X _ 0)

/-- A group's block of the gate's or up projection's codes, as a matrix. -/
theorem group_apply (x : Vec Ideal S2x1024x4608 .i8) (w o : ℕ) (a : Fin 2) (ha : a.val = w) (inb) (ho : o + 512 ≤ 4608) (k : Fin 1024) (j : Fin 512) :
    shapeCast S1024x512 (View.ld x (Rect.unit (s := S2x1024x4608) ![w, 0, o] S1x1024x512.size inb) : Vec Ideal S1x1024x512 .i8) shapeCasts_S1x1024x512_S1024x512 (ix2 k j)
      = x (ix3 a k ⟨o + j.val, by omega⟩) := by
  refine (shapeCast_1ab_ab_apply _ _ k j).trans ?_
  exact View.ld_unit_apply_of (S := S2x1024x4608) x _ _ _ _ _ fun d => by
    match d with
    | ⟨0, _⟩ => show a.val = w + 0; omega
    | ⟨1, _⟩ => show k.val = 0 + k.val; omega
    | ⟨2, _⟩ => rfl

/-- A group of the activation. -/
theorem actOf_apply (o : ℕ) (ho : o + 512 ≤ 4608) (i1 i2 i3 i4) (r : Fin 256) (j : Fin 512) :
    actOf i X B T (View.ld X.wgu (Rect.unit (s := S2x1024x4608) ![0, 0, o] S1x1024x512.size i1)) (View.ld X.sgu (Rect.unit (s := S2x4608) ![0, o] S1x512.size i2))
      (View.ld X.wgu (Rect.unit (s := S2x1024x4608) ![1, 0, o] S1x1024x512.size i3)) (View.ld X.sgu (Rect.unit (s := S2x4608) ![1, o] S1x512.size i4)) (ix2 r j)
      = actRow i X B T r ⟨o + j.val, by omega⟩ := by
  have hq : (fun k => code3 i X B T (ix2 r k)) = Spec.code ((weights X).norm2 (hidRow i X B T r)) := funext fun k => code3_apply i X B T r k
  have hg := lin_apply _ dot_512 (code3 i X B T) (k0_pay57 (View.ld X.wgu (Rect.unit (s := S2x1024x4608) ![0, 0, o] S1x1024x512.size i1)))
    (scale3 i X B T) (View.ld X.sgu (Rect.unit (s := S2x4608) ![0, o] S1x512.size i2)) broadcasts_S256x1_S256x512 broadcasts_S1x512_S256x512 r j
  have hu := lin_apply _ dot_512 (code3 i X B T) (k0_pay57 (View.ld X.wgu (Rect.unit (s := S2x1024x4608) ![1, 0, o] S1x1024x512.size i3)))
    (scale3 i X B T) (View.ld X.sgu (Rect.unit (s := S2x4608) ![1, o] S1x512.size i4)) broadcasts_S256x1_S256x512 broadcasts_S1x512_S256x512 r j
  rw [hq, scale3_apply] at hg hu
  have hg := hg.trans (Spec.lin_col _ _ _ _ (weights X).wg (weights X).sg j ⟨o + j.val, by omega⟩ (fun k => group_apply X.wgu 0 o 0 rfl i1 ho k j)
    (ld_block (e := .f32) X.sgu 0 o i2 0 j 0 _ rfl rfl))
  have hu := hu.trans (Spec.lin_col _ _ _ _ (weights X).wu (weights X).su j ⟨o + j.val, by omega⟩ (fun k => group_apply X.wgu 1 o 1 rfl i3 ho k j)
    (ld_block (e := .f32) X.sgu 1 o i4 0 j 1 _ rfl rfl))
  exact congrArg₂ (fun a b : EReal => a * (FloatOps.logistic (F := Ideal) (φ := .f32) a : Ideal .f32) * b) hg hu

end Cert.KernelIdeal.Body

end
-- ==== Proof.TileAct.lean ====
/- The kernel's tile over the extended reals, last part: the activation from its nine groups, its greatest magnitudes, scales
   and codes, and the tile's result. -/
module

public import proofs.«01_k».proof.Proof.TileFfn
public import Idealize.ShloMosaic.Lib.Pipeline.ValueKit.Tiles

@[expose] public section

noncomputable section

namespace Cert.Rows

open Idealize.ShloMosaic

variable {n : ℕ}

theorem le_amax (v : Fin n → EReal) (k : Fin n) : max (v k) (-(v k)) ≤ Spec.amax v :=
  (Finset.fold_max_le (Spec.amax v)).mp le_rfl |>.2 k (Finset.mem_univ k)

theorem amax_le (v : Fin n → EReal) (m : EReal) (h : ∀ k, max (v k) (-(v k)) ≤ m) : Spec.amax v ≤ m :=
  (Finset.fold_max_le m).mpr ⟨by rw [lit_neg_top]; exact bot_le, fun k _ => h k⟩

theorem abs_nonneg (x : EReal) : 0 ≤ max x (-x) := by
  rcases le_total 0 x with h | h
  · exact le_max_of_le_left h
  · exact le_max_of_le_right (by simpa using h)

/-- A greatest magnitude of a row's first `o` entries, zero for none. -/
def Upto (v : Fin n → EReal) (o : ℕ) (m : EReal) : Prop := m ≤ Spec.amax v ∧ ∀ k : Fin n, k.val < o → max (v k) (-(v k)) ≤ m

theorem upto_zero (v : Fin n → EReal) (hn : 0 < n) : Upto v 0 0 :=
  ⟨(abs_nonneg _).trans (le_amax v ⟨0, hn⟩), fun k hk => absurd hk (Nat.not_lt_zero _)⟩

theorem upto_step {p : ℕ} (v : Fin n → EReal) (o : ℕ) (m : EReal) (hm : Upto v o m) (w : Fin p → EReal) (ho : o + p ≤ n)
    (hw : ∀ j : Fin p, w j = v ⟨o + j.val, by omega⟩) : Upto v (o + p) (max m (Spec.amax w)) :=
  ⟨max_le hm.1 (amax_le w _ fun j => by rw [hw]; exact le_amax v _), fun k hk => by
    by_cases h : k.val < o
    · exact (hm.2 k h).trans (le_max_left _ _)
    · have e := hw ⟨k.val - o, by omega⟩
      have hk' : (⟨o + (k.val - o), by omega⟩ : Fin n) = k := Fin.ext (by show o + (k.val - o) = k.val; omega)
      rw [hk'] at e
      rw [← e]
      exact (le_amax w _).trans (le_max_right _ _)⟩

theorem upto_all (v : Fin n → EReal) (m : EReal) (hm : Upto v n m) : m = Spec.amax v :=
  le_antisymm hm.1 (amax_le v m fun k => hm.2 k k.isLt)

end Cert.Rows

namespace Cert.KernelIdeal.Body

open Cert.KernelIdeal Cert.KernelIdeal.Gen
open Idealize.ShloMosaic Idealize.ShloMosaic.ValueIdx Cert.Rows
open scoped BigOperators

variable (i : grid0.Coords) (X : Blocks Ideal) (B : Vec Ideal S264x1024 .f32) (T : Vec Ideal S256x1024 .f32)

/-- One group's store, at an entry it holds. -/
theorem group_at (r : Fin 256) (c : Fin 4608) (o : ℕ) (ho : o + 512 ≤ 4608) (w : FVec Ideal S256x512 .f32)
    (hw : ∀ (r : Fin 256) (j : Fin 512), w (ix2 r j) = actRow i X B T r ⟨o + j.val, by omega⟩) (h : S256x512.ShapeCasts S256x512) :
    View.TileAt (S := S256x4608) (e := .f32) (Val := Elt Ideal) (ix2 r c) ![0, o] S256x512.size (shapeCast S256x512 w h) (actRow i X B T r c) := by
  intro x hx
  have h0 : 0 + (x 0).val = r.val := (hx 0).symm
  have h1 : o + (x 1).val = c.val := (hx 1).symm
  refine (congrFun (shapeCast_self (s := S256x512) w h) x).trans ?_
  have ex : x = ix2 (x 0) (x 1) := by funext d; match d with
    | ⟨0, _⟩ => rfl
    | ⟨1, _⟩ => rfl
  rw [ex]
  refine (hw (x 0) (x 1)).trans ?_
  have e0 : (x 0 : Fin 256) = r := Fin.ext (by omega)
  have e1 : (⟨o + (x 1).val, by omega⟩ : Fin 4608) = c := Fin.ext h1
  rw [e0, e1]

theorem acts_apply (r : Fin 256) (c : Fin 4608) : acts i X B T (ix2 r c) = actRow i X B T r c := by
  refine (congrFun (ld_all (e := .f32) (View.canon (actStores i X B T)) inb_S256x4608_S256x4608_0_0) (ix2 r c)).trans ?_
  refine View.canon_eq_of_allAt _ _ _ (View.cover_of_tiled_head _ _ _ (by rfl) _) ?_
  refine View.allAt_cons_unit _ _ _ _ _ (group_at i X B T r c 4096 (by omega) _ (fun r j => actOf_apply i X B T 4096 (by omega) _ _ _ _ r j) _) ?_
  refine View.allAt_cons_unit _ _ _ _ _ (group_at i X B T r c 3584 (by omega) _ (fun r j => actOf_apply i X B T 3584 (by omega) _ _ _ _ r j) _) ?_
  refine View.allAt_cons_unit _ _ _ _ _ (group_at i X B T r c 3072 (by omega) _ (fun r j => actOf_apply i X B T 3072 (by omega) _ _ _ _ r j) _) ?_
  refine View.allAt_cons_unit _ _ _ _ _ (group_at i X B T r c 2560 (by omega) _ (fun r j => actOf_apply i X B T 2560 (by omega) _ _ _ _ r j) _) ?_
  refine View.allAt_cons_unit _ _ _ _ _ (group_at i X B T r c 2048 (by omega) _ (fun r j => actOf_apply i X B T 2048 (by omega) _ _ _ _ r j) _) ?_
  refine View.allAt_cons_unit _ _ _ _ _ (group_at i X B T r c 1536 (by omega) _ (fun r j => actOf_apply i X B T 1536 (by omega) _ _ _ _ r j) _) ?_
  refine View.allAt_cons_unit _ _ _ _ _ (group_at i X B T r c 1024 (by omega) _ (fun r j => actOf_apply i X B T 1024 (by omega) _ _ _ _ r j) _) ?_
  refine View.allAt_cons_unit _ _ _ _ _ (group_at i X B T r c 512 (by omega) _ (fun r j => actOf_apply i X B T 512 (by omega) _ _ _ _ r j) _) ?_
  refine View.allAt_cons_unit _ _ _ _ _ (group_at i X B T r c 0 (by omega) _ (fun r j => actOf_apply i X B T 0 (by omega) _ _ _ _ r j) _) ?_
  exact View.allAt_nil _ _

/-- One step of the running greatest magnitude. -/
theorem maxOf_upto (o : ℕ) (ho : o + 512 ≤ 4608) (a : FVec Ideal S256x1 .f32) (v : FVec Ideal S256x512 .f32) (r : Fin 256) (u : Fin 1)
    (hv : ∀ (r : Fin 256) (j : Fin 512), v (ix2 r j) = actRow i X B T r ⟨o + j.val, by omega⟩) (ha : Upto (actRow i X B T r) o (a (ix2 r u))) :
    Upto (actRow i X B T r) (o + 512) (maxOf a v (ix2 r u)) := by
  have e : maxOf a v (ix2 r u) = max (a (ix2 r u) : EReal) (Spec.amax (fun k => v (ix2 r k))) :=
    congrArg (fun z : EReal => max (a (ix2 r u) : EReal) z) (rowMax v reduces_S256x512_S256 (.inl rfl) rfl shapeCasts_S256_S256x1 r u)
  rw [e]
  exact upto_step _ o _ ha _ ho (hv r)

theorem max8_apply (r : Fin 256) (u : Fin 1) : max8 i X B T (ix2 r u) = Spec.amax (actRow i X B T r) := by
  have h : Upto (actRow i X B T r) 0 (k0_pay56 (F := Ideal) (ix2 r u)) := by
    rw [show k0_pay56 (F := Ideal) (ix2 r u) = (0 : EReal) from Spec.lit_zero]; exact upto_zero _ (by omega)
  have h := maxOf_upto i X B T 0 (by omega) _ (act0 i X B T) r u (fun r j => actOf_apply i X B T 0 (by omega) _ _ _ _ r j) h
  have h := maxOf_upto i X B T 512 (by omega) _ (act1 i X B T) r u (fun r j => actOf_apply i X B T 512 (by omega) _ _ _ _ r j) h
  have h := maxOf_upto i X B T 1024 (by omega) _ (act2 i X B T) r u (fun r j => actOf_apply i X B T 1024 (by omega) _ _ _ _ r j) h
  have h := maxOf_upto i X B T 1536 (by omega) _ (act3 i X B T) r u (fun r j => actOf_apply i X B T 1536 (by omega) _ _ _ _ r j) h
  have h := maxOf_upto i X B T 2048 (by omega) _ (act4 i X B T) r u (fun r j => actOf_apply i X B T 2048 (by omega) _ _ _ _ r j) h
  have h := maxOf_upto i X B T 2560 (by omega) _ (act5 i X B T) r u (fun r j => actOf_apply i X B T 2560 (by omega) _ _ _ _ r j) h
  have h := maxOf_upto i X B T 3072 (by omega) _ (act6 i X B T) r u (fun r j => actOf_apply i X B T 3072 (by omega) _ _ _ _ r j) h
  have h := maxOf_upto i X B T 3584 (by omega) _ (act7 i X B T) r u (fun r j => actOf_apply i X B T 3584 (by omega) _ _ _ _ r j) h
  have h := maxOf_upto i X B T 4096 (by omega) _ (act8 i X B T) r u (fun r j => actOf_apply i X B T 4096 (by omega) _ _ _ _ r j) h
  exact upto_all _ _ h

theorem scale4_apply (r : Fin 256) (u : Fin 1) : scale4 i X B T (ix2 r u) = Spec.scale (actRow i X B T r) := by
  unfold Spec.scale
  rw [← max8_apply i X B T r u]
  exact scale_apply (max8 i X B T) r u

theorem code4_apply (r : Fin 256) (k : Fin 4608) : code4 i X B T (acts i X B T) (ix2 r k) = Spec.code (actRow i X B T r) k :=
  (code_mul (acts i X B T) (scale4 i X B T) _ r k (by rw [scale4_apply]; exact scaleOf_ne_zero _)).trans (by
    rw [scale4_apply, acts_apply]; rfl)

theorem lanes4_apply (u : Fin 1) (a : Fin 2) (l : Fin 128) : lanes4 i X B T (ix3 u a l) = Spec.scale (actRow i X B T ⟨128 * a.val + l.val, by omega⟩) :=
  (lanes_apply (scale4 i X B T) u a l).trans (scale4_apply i X B T _ 0)

theorem out_apply (r : Fin 256) (c : Fin 1024) :
    out i X B T (code4 i X B T (acts i X B T)) (ix2 r c) = (weights X).out (hidRow i X B T r) (actRow i X B T r) c := by
  refine (congrArg₂ (fun a b : EReal => a + b) (hid_apply i X B T r c)
    (lin_apply _ dot_4608 (shapeCast S256x4608 (code4 i X B T (acts i X B T)) shapeCasts_S256x4608_S256x4608) _ (scale4 i X B T) _ _ _ r c)).trans ?_
  unfold Spec.Weights.out
  rw [scale4_apply, shapeCast_self, show (fun k => code4 i X B T (acts i X B T) (ix2 r k)) = Spec.code (actRow i X B T r) from funext fun k => code4_apply i X B T r k]
  refine congrArg (fun z : EReal => hidRow i X B T r c + z) (Spec.lin_col _ _ _ _ _ _ _ _ (fun k => ?_) ?_)
  · rw [ld_all]; rfl
  · refine (congrFun (shapeCast_self (s := S1x1024) _ _) _).trans ?_
    rw [ld_all]; rfl

end Cert.KernelIdeal.Body

end
-- ==== Proof.KernelArgs.lean ====
/- The kernel's blocks in terms of its arguments: each grid point's tile is 256 rows, and every other block is a whole argument,
   some reshaped or transposed before the launch. -/
module

public import proofs.«01_k».proof.Proof.Inputs
public import proofs.«01_k».proof.Proof.TileAct
public import proofs.«01_k».proof.Proof.KernelIdealFrame
public import Idealize.ShloMosaic.Lib.Pipeline.ValueKit

@[expose] public section

set_option maxRecDepth 16384

noncomputable section

namespace Cert.KernelIdeal.Body

open Cert.KernelIdeal Cert.KernelIdeal.Gen
open Idealize.ShloMosaic hiding ix1 ix2 ix3
open Idealize.ShloMosaic.TcCoe Idealize.ShloMosaic.ValueIdx Idealize.ShloMosaic.Tactic

variable (m : (ℓ : Loc nD τ sig) → Buf (Elt Ideal) ℓ) (c : Dev nD)

/-- The kernel's arguments. -/
def inputs : Spec.Inputs where
  x := m ((c : Thread nD τ).loc main_arg0)
  cu := m ((c : Thread nD τ).loc main_arg1)
  n1 := m ((c : Thread nD τ).loc main_arg2)
  win := m ((c : Thread nD τ).loc main_arg3)
  sin := m ((c : Thread nD τ).loc main_arg4)
  taps := m ((c : Thread nD τ).loc main_arg5)
  wout := m ((c : Thread nD τ).loc main_arg6)
  sout := m ((c : Thread nD τ).loc main_arg7)
  n2 := m ((c : Thread nD τ).loc main_arg8)
  wgu := m ((c : Thread nD τ).loc main_arg9)
  sgu := m ((c : Thread nD τ).loc main_arg10)
  wdn := m ((c : Thread nD τ).loc main_arg11)
  sdn := m ((c : Thread nD τ).loc main_arg12)

/-- The number of grid points. -/
theorem t_lt (t : Fin cfg0.N) : t.val < 5 := lt_of_lt_of_eq t.isLt (by decide +kernel)

theorem e0 : ∀ t : Fin cfg0.N, win0_0.index t = ![0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)

theorem V_v0 : V m c main_v0 = shapeCast S1x1024 (inputs m c).n1 (show (⟨1, ![1024]⟩ : Shape).ShapeCasts S1x1024 by decide) := by
  show StableHlo.after (List.flatten [hostOps0]) (fun b => m (c, b)) (Proc.devRef .tc main_v0) = _
  simp only [hostOps0, List.flatten_cons, List.flatten_nil, List.append_nil]
  after_results; try rfl
theorem V_v1 : V m c main_v1 = shapeCast S1x3072 (inputs m c).sin (show (⟨1, ![3072]⟩ : Shape).ShapeCasts S1x3072 by decide) := by
  show StableHlo.after (List.flatten [hostOps0]) (fun b => m (c, b)) (Proc.devRef .tc main_v1) = _
  simp only [hostOps0, List.flatten_cons, List.flatten_nil, List.append_nil]
  after_results; try rfl
theorem V_v3 : V m c main_v3 = shapeCast S1x1024 (inputs m c).sout (show (⟨1, ![1024]⟩ : Shape).ShapeCasts S1x1024 by decide) := by
  show StableHlo.after (List.flatten [hostOps0]) (fun b => m (c, b)) (Proc.devRef .tc main_v3) = _
  simp only [hostOps0, List.flatten_cons, List.flatten_nil, List.append_nil]
  after_results; try rfl
theorem V_v4 : V m c main_v4 = shapeCast S1x1024 (inputs m c).n2 (show (⟨1, ![1024]⟩ : Shape).ShapeCasts S1x1024 by decide) := by
  show StableHlo.after (List.flatten [hostOps0]) (fun b => m (c, b)) (Proc.devRef .tc main_v4) = _
  simp only [hostOps0, List.flatten_cons, List.flatten_nil, List.append_nil]
  after_results; try rfl
theorem V_v6 : V m c main_v6 = shapeCast S1x1024 (inputs m c).sdn (show (⟨1, ![1024]⟩ : Shape).ShapeCasts S1x1024 by decide) := by
  show StableHlo.after (List.flatten [hostOps0]) (fun b => m (c, b)) (Proc.devRef .tc main_v6) = _
  simp only [hostOps0, List.flatten_cons, List.flatten_nil, List.append_nil]
  after_results; try rfl
theorem V_v2 (a : Fin 4) (k : Fin 1024) : V m c main_v2 (ix2 a k) = m ((c : Thread nD τ).loc main_arg5) (ix2 k a) := by
  show StableHlo.after (List.flatten [hostOps0]) (fun b => m (c, b)) (Proc.devRef .tc main_v2) (ix2 a k) = _
  simp only [hostOps0, List.flatten_cons, List.flatten_nil, List.append_nil]
  after_results
  exact congrArg (m ((c : Thread nD τ).loc main_arg5)) (funext fun d => by fin_cases d <;> rfl)
theorem V_v5 (a : Fin 2) (k : Fin 1024) (j : Fin 4608) : V m c main_v5 (ix3 a k j) = m ((c : Thread nD τ).loc main_arg9) (ix3 k a j) := by
  show StableHlo.after (List.flatten [hostOps0]) (fun b => m (c, b)) (Proc.devRef .tc main_v5) (ix3 a k j) = _
  simp only [hostOps0, List.flatten_cons, List.flatten_nil, List.append_nil]
  after_results
  exact congrArg (m ((c : Thread nD τ).loc main_arg9)) (funext fun d => by fin_cases d <;> rfl)

variable (t : Fin cfg0.N)

theorem blk0 (a : Fin 7) : (blocks m c t).cu (ix1 a) = (inputs m c).cu (ix1 a) := by
  show V m c main_arg1 ((win0_0.blk t).view.emb (ix1 a)) = _
  rw [show (win0_0.blk t).view.emb (ix1 a) = ix1 a from by blk_ext [e0]]
  exact congrFun (V_main_arg1 m c) _

theorem blk1 (r : Fin 256) (k : Fin 1024) : (blocks m c t).x (ix2 r k) = (inputs m c).x (ix2 ⟨256 * t.val + r.val, by have := t_lt t; omega⟩ k) := by
  show V m c main_arg0 ((win0_1.blk t).view.emb (ix2 r k)) = _
  rw [show (win0_1.blk t).view.emb (ix2 r k) = ix2 ⟨256 * t.val + r.val, by have := t_lt t; omega⟩ k from by
    blk_ext [e1]; show t.val * 256 + r.val = 256 * t.val + r.val; omega]
  exact congrFun (V_main_arg0 m c) _

theorem blk2 (k : Fin 1024) : (blocks m c t).n1 (ix2 0 k) = (inputs m c).n1 (ix1 k) := by
  show V m c main_v0 ((win0_2.blk t).view.emb (ix2 0 k)) = _
  rw [show (win0_2.blk t).view.emb (ix2 0 k) = ix2 0 k from by blk_ext [e2]]
  exact (congrFun (V_v0 m c) _).trans (shapeCast_a_1a_apply _ _ 0 k)

theorem blk4 (k : Fin 3072) : (blocks m c t).sin (ix2 0 k) = (inputs m c).sin (ix1 k) := by
  show V m c main_v1 ((win0_4.blk t).view.emb (ix2 0 k)) = _
  rw [show (win0_4.blk t).view.emb (ix2 0 k) = ix2 0 k from by blk_ext [e4]]
  exact (congrFun (V_v1 m c) _).trans (shapeCast_a_1a_apply _ _ 0 k)

theorem blk7 (k : Fin 1024) : (blocks m c t).sout (ix2 0 k) = (inputs m c).sout (ix1 k) := by
  show V m c main_v3 ((win0_7.blk t).view.emb (ix2 0 k)) = _
  rw [show (win0_7.blk t).view.emb (ix2 0 k) = ix2 0 k from by blk_ext [e7]]
  exact (congrFun (V_v3 m c) _).trans (shapeCast_a_1a_apply _ _ 0 k)

theorem blk8 (k : Fin 1024) : (blocks m c t).n2 (ix2 0 k) = (inputs m c).n2 (ix1 k) := by
  show V m c main_v4 ((win0_8.blk t).view.emb (ix2 0 k)) = _
  rw [show (win0_8.blk t).view.emb (ix2 0 k) = ix2 0 k from by blk_ext [e8]]
  exact (congrFun (V_v4 m c) _).trans (shapeCast_a_1a_apply _ _ 0 k)

theorem blk12 (k : Fin 1024) : (blocks m c t).sdn (ix2 0 k) = (inputs m c).sdn (ix1 k) := by
  show V m c main_v6 ((win0_12.blk t).view.emb (ix2 0 k)) = _
  rw [show (win0_12.blk t).view.emb (ix2 0 k) = ix2 0 k from by blk_ext [e12]]
  exact (congrFun (V_v6 m c) _).trans (shapeCast_a_1a_apply _ _ 0 k)

theorem blk3 (k : Fin 1024) (j : Fin 3072) : (blocks m c t).win (ix2 k j) = (inputs m c).win (ix2 k j) := by
  show V m c main_arg3 ((win0_3.blk t).view.emb (ix2 k j)) = _
  rw [show (win0_3.blk t).view.emb (ix2 k j) = ix2 k j from by blk_ext [e3]]
  exact congrFun (V_main_arg3 m c) _

theorem blk6 (k : Fin 1024) (j : Fin 1024) : (blocks m c t).wout (ix2 k j) = (inputs m c).wout (ix2 k j) := by
  show V m c main_arg6 ((win0_6.blk t).view.emb (ix2 k j)) = _
  rw [show (win0_6.blk t).view.emb (ix2 k j) = ix2 k j from by blk_ext [e6]]
  exact congrFun (V_main_arg6 m c) _

theorem blk10 (k : Fin 2) (j : Fin 4608) : (blocks m c t).sgu (ix2 k j) = (inputs m c).sgu (ix2 k j) := by
  show V m c main_arg10 ((win0_10.blk t).view.emb (ix2 k j)) = _
  rw [show (win0_10.blk t).view.emb (ix2 k j) = ix2 k j from by blk_ext [e10]]
  exact congrFun (V_main_arg10 m c) _

theorem blk11 (k : Fin 4608) (j : Fin 1024) : (blocks m c t).wdn (ix2 k j) = (inputs m c).wdn (ix2 k j) := by
  show V m c main_arg11 ((win0_11.blk t).view.emb (ix2 k j)) = _
  rw [show (win0_11.blk t).view.emb (ix2 k j) = ix2 k j from by blk_ext [e11]]
  exact congrFun (V_main_arg11 m c) _

theorem blk5 (a : Fin 4) (k : Fin 1024) : (blocks m c t).taps (ix2 a k) = (inputs m c).taps (ix2 k a) := by
  show V m c main_v2 ((win0_5.blk t).view.emb (ix2 a k)) = _
  rw [show (win0_5.blk t).view.emb (ix2 a k) = ix2 a k from by blk_ext [e5]]
  exact V_v2 m c a k

theorem blk9 (a : Fin 2) (k : Fin 1024) (j : Fin 4608) : (blocks m c t).wgu (ix3 a k j) = (inputs m c).wgu (ix3 k a j) := by
  show V m c main_v5 ((win0_9.blk t).view.emb (ix3 a k j)) = _
  rw [show (win0_9.blk t).view.emb (ix3 a k j) = ix3 a k j from by blk_ext [e9]]
  exact V_v5 m c a k j

/-- Every grid point sees the same weights, -/
theorem weights_eq : weights (blocks m c t) = (inputs m c).args.W := by
  unfold weights
  simp only [blk2, blk3, blk4, blk5, blk6, blk7, blk8, blk9, blk10, blk11, blk12]
  rfl

/-- and its own 256 rows. -/
theorem xrow_eq (r : Fin 256) : xrow (blocks m c t) r = (inputs m c).args.x ⟨256 * t.val + r.val, by have := t_lt t; omega⟩ :=
  funext fun k => blk1 m c t r k

theorem cu0_eq : cu0 (blocks m c t) = (inputs m c).cu (ix1 0) :=
  (View.ld_unit_apply_of (S := S7) (blocks m c t).cu _ _ _ _ (ix1 0) (fun a => by fin_cases a; rfl)).trans (blk0 m c t 0)

theorem cu1_eq : cu1 (blocks m c t) = (inputs m c).cu (ix1 1) :=
  (View.ld_unit_apply_of (S := S7) (blocks m c t).cu _ _ _ _ (ix1 1) (fun a => by fin_cases a; rfl)).trans (blk0 m c t 1)

theorem cu2_eq : cu2 (blocks m c t) = (inputs m c).cu (ix1 2) :=
  (View.ld_unit_apply_of (S := S7) (blocks m c t).cu _ _ _ _ (ix1 2) (fun a => by fin_cases a; rfl)).trans (blk0 m c t 2)

theorem cu3_eq : cu3 (blocks m c t) = (inputs m c).cu (ix1 3) :=
  (View.ld_unit_apply_of (S := S7) (blocks m c t).cu _ _ _ _ (ix1 3) (fun a => by fin_cases a; rfl)).trans (blk0 m c t 3)

theorem cu4_eq : cu4 (blocks m c t) = (inputs m c).cu (ix1 4) :=
  (View.ld_unit_apply_of (S := S7) (blocks m c t).cu _ _ _ _ (ix1 4) (fun a => by fin_cases a; rfl)).trans (blk0 m c t 4)

theorem cu5_eq : cu5 (blocks m c t) = (inputs m c).cu (ix1 5) :=
  (View.ld_unit_apply_of (S := S7) (blocks m c t).cu _ _ _ _ (ix1 5) (fun a => by fin_cases a; rfl)).trans (blk0 m c t 5)

theorem cu6_eq : cu6 (blocks m c t) = (inputs m c).cu (ix1 6) :=
  (View.ld_unit_apply_of (S := S7) (blocks m c t).cu _ _ _ _ (ix1 6) (fun a => by fin_cases a; rfl)).trans (blk0 m c t 6)

end Cert.KernelIdeal.Body

end
-- ==== Proof.KernelSeq.lean ====
/- Each tile's rows are the rows of the mathematics over all positions: the convolution's buffer holds the tile's own rows and the
   last eight of the tile before, and at the first tile the mask hides what stands there instead. -/
module

public import proofs.«01_k».proof.Proof.KernelArgs

@[expose] public section

set_option maxRecDepth 16384

noncomputable section

namespace Cert.KernelIdeal.Body

open Cert.KernelIdeal Cert.KernelIdeal.Gen
open Idealize.ShloMosaic hiding ix1 ix2 ix3
open Idealize.ShloMosaic.TcCoe Idealize.ShloMosaic.ValueIdx Idealize.ShloMosaic.Tactic

/-- A grid point's coordinate is its number. -/
theorem coord : ∀ t : Fin cfg0.N, (grid0.coords t 0).val = t.val := (by decide +kernel : ∀ t : Fin grid0.N, _)

/-- A grid point's first position. -/
theorem t0_eq (t : Fin cfg0.N) : t0 (grid0.coords t) = BitVec.ofNat 32 (256 * t.val) := by
  unfold t0
  rw [coord, Nat.mul_comm, BitVec.ofNat_mul]
  rfl

/-- The buffer's rows from 8 on are the tile's, -/
theorem bx_row (i : grid0.Coords) (X : Blocks Ideal) (P : Vec Ideal S264x1024 .f32) (k : Fin 264) (r : Fin 256) (hk : k.val = 8 + r.val) (j : Fin 1024) :
    bx i X P (ix2 k j) = bxTile X (ix2 r j) := by
  unfold bx VecWindow.put
  have hr := r.isLt
  have hj := j.isLt
  rw [dif_pos (fun a => by
    fin_cases a
    · show 8 ≤ k.val ∧ k.val < 8 + 256; omega
    · show 0 ≤ j.val ∧ j.val < 0 + 1024; omega)]
  refine congrArg (bxTile X) (funext fun a => Fin.ext ?_)
  fin_cases a
  · show k.val - 8 = r.val; omega
  · show j.val - 0 = j.val; omega

/-- and the rows before are what it found. -/
theorem bx_head (i : grid0.Coords) (X : Blocks Ideal) (P : Vec Ideal S264x1024 .f32) (k : Fin 264) (hk : k.val < 8) (j : Fin 1024) :
    bx i X P (ix2 k j) = bxStart i P (ix2 k j) := by
  unfold bx VecWindow.put
  rw [dif_neg (fun h => absurd (show 8 ≤ k.val from (h 0).1) (by omega))]

/-- The tile's last rows. -/
theorem tail_apply (X : Blocks Ideal) (r : Fin 8) (j : Fin 1024) : tail X (ix2 r j) = bxTile X (ix2 ⟨248 + r.val, by omega⟩ j) := by
  show View.canon (bxStore X) _ = _
  rw [show (Rect.unit (s := S264x1024) ![256, 0] S8x1024.size inb_S264x1024_S8x1024_256_0).toLoadRect.idx (ix2 r j)
    = (Rect.unit (s := S264x1024) ![8, 0] S256x1024.size inb_S264x1024_S256x1024_8_0).emb (ix2 ⟨248 + r.val, by omega⟩ j) from funext fun a => Fin.ext (by
      fin_cases a
      · show 256 + 1 * r.val = 8 + 1 * (248 + r.val); omega
      · rfl)]
  exact View.canon_cons_emb _ _ _ _

/-- The buffer's first rows as a tile leaves it. -/
theorem bxEnd_head (X : Blocks Ideal) (W : Vec Ideal S8x1024 .f32) (k : Fin 264) (r : Fin 8) (hk : k.val = r.val) (j : Fin 1024) :
    bxEnd X W (ix2 k j) = W (ix2 r j) := by
  unfold bxEnd
  rw [show (ix2 k j : S264x1024.Idx) = (Rect.unit (s := S264x1024) ![0, 0] S8x1024.size inb_S264x1024_S8x1024_0_0).emb (ix2 r j) from funext fun a => Fin.ext (by
      fin_cases a
      · show k.val = 0 + 1 * r.val; omega
      · show j.val = 0 + 1 * j.val; omega)]
  refine (View.canon_cons_emb _ _ _ _).trans ?_
  exact congrFun (shapeCast_self (s := S8x1024) W shapeCasts_S8x1024_S8x1024) _

variable (m : (ℓ : Loc nD τ sig) → Buf (Elt Ideal) ℓ) (c : Dev nD) (t : Fin cfg0.N)

/-- The convolution's input at a tile's row. -/
theorem bxTile_eq (r : Fin 256) (j : Fin 1024) (s : Fin 1280) (hs : s.val = 256 * t.val + r.val) :
    bxTile (blocks m c t) (ix2 r j) = (inputs m c).args.bx s j := by
  rw [bxTile_apply, weights_eq, xrow_eq, show s = ⟨256 * t.val + r.val, by have := t_lt t; omega⟩ from Fin.ext hs]
  rfl

/-- What the convolution's buffer holds at a grid point, where there is such a position. -/
theorem bxAt_apply (k : Fin 264) (j : Fin 1024) (s : Fin 1280) (hs : s.val + 8 = 256 * t.val + k.val) :
    bxAt m c t (ix2 k j) = (inputs m c).args.bx s j := by
  have := t_lt t
  unfold bxAt
  by_cases hk : k.val < 8
  · rw [bx_head _ _ _ k hk]
    unfold bxStart
    obtain ⟨n, hn⟩ := t
    cases n with
    | zero => simp at hs; omega
    | succ n =>
      rw [if_neg (not_isFirst_of ⟨n + 1, hn⟩ (Nat.succ_ne_zero n))]
      show bxEnd (blocks m c ⟨n, _⟩) (tail (blocks m c ⟨n, _⟩)) (ix2 k j) = _
      rw [bxEnd_head _ _ k ⟨k.val, hk⟩ rfl, tail_apply]
      exact bxTile_eq m c _ _ _ _ (by simp at hs ⊢; omega)
  · rw [bx_row _ _ _ k ⟨k.val - 8, by omega⟩ (by simp; omega)]
    exact bxTile_eq m c t _ _ _ (by simp; omega)

variable (r : Fin 256) (s : Fin 1280) (hs : s.val = 256 * t.val + r.val)

include hs in
/-- Each position's distance from its sequence's start. -/
theorem pos_eq : pos (grid0.coords t) (blocks m c t) (ix2 r 0) = (inputs m c).args.pos s := by
  rw [pos_apply, cu1_eq, cu2_eq, cu3_eq, cu4_eq, cu5_eq, t0_eq]
  show Spec.dist _ _ _ _ _ _ = Spec.dist _ _ _ _ _ _
  rw [hs, Nat.zero_mul, Nat.zero_add, BitVec.ofNat_add]
  rfl

include hs in
/-- The convolution. -/
theorem conv_eq (j : Fin 1024) : conv (grid0.coords t) (blocks m c t) (bxAt m c t) (bxTile (blocks m c t)) (ix2 r j) = (inputs m c).args.conv s j := by
  have ht := t_lt t
  rw [conv_apply, weights_eq, pos_eq m c t r s hs, show (fun j => bxTile (blocks m c t) (ix2 r j)) = (inputs m c).args.bx s from funext fun j => bxTile_eq m c t r j s hs]
  have key : ∀ n : ℕ, n ≤ 8 → ∀ k : Fin 264, k.val + n = 8 + r.val → Spec.live ((inputs m c).args.pos s) (BitVec.ofNat 32 n) = 0 ∨ bxAt m c t (ix2 k j) = (inputs m c).args.bx (Spec.back n s) j := by
    intro n hn k hk
    by_cases h : s.val < n
    · exact .inl (Spec.live_zero s.val n h (by omega) _ _ _ _ _)
    · exact .inr (bxAt_apply m c t k j _ (by rw [Spec.back_of_le n s (by omega)]; omega))
  exact Spec.conv_congr _ _ _ _ _ _ _ _ _ j (key 1 (by omega) _ (by simp; omega)) (key 2 (by omega) _ (by simp; omega)) (key 3 (by omega) _ (by simp; omega))

include hs in
/-- The gated convolution. -/
theorem mixRow_eq : mixRow (grid0.coords t) (blocks m c t) (bxAt m c t) (bxTile (blocks m c t)) r = (inputs m c).args.mix s := by
  unfold mixRow Spec.Args.mix
  rw [weights_eq, xrow_eq, show s = ⟨256 * t.val + r.val, by have := t_lt t; omega⟩ from Fin.ext hs]
  exact congrArg (Spec.Weights.mix _) (funext fun j => conv_eq m c t r _ rfl j)

include hs in
/-- The row after the convolution's branch. -/
theorem hidRow_eq : hidRow (grid0.coords t) (blocks m c t) (bxAt m c t) (bxTile (blocks m c t)) r = (inputs m c).args.hid s := by
  unfold hidRow Spec.Args.hid
  rw [mixRow_eq m c t r s hs, weights_eq, xrow_eq, show s = ⟨256 * t.val + r.val, by have := t_lt t; omega⟩ from Fin.ext hs]

include hs in
/-- The activation. -/
theorem actRow_eq : actRow (grid0.coords t) (blocks m c t) (bxAt m c t) (bxTile (blocks m c t)) r = (inputs m c).args.act s := by
  unfold actRow Spec.Args.act Spec.Args.norm2
  rw [hidRow_eq m c t r s hs, weights_eq]

end Cert.KernelIdeal.Body

end
-- ==== Proof.KernelArrays.lean ====
/- The kernel's output arrays, except the carried state: each is written tile by tile, and each tile holds the rows of the
   mathematics over all positions. -/
module

public import proofs.«01_k».proof.Proof.KernelSeq

@[expose] public section

set_option maxRecDepth 16384

noncomputable section

namespace Cert.KernelIdeal.Body

open Cert.KernelIdeal Cert.KernelIdeal.Gen
open Idealize.ShloMosaic hiding ix1 ix2 ix3 eq_ix2 eq_ix3
open Idealize.ShloMosaic.TcCoe Idealize.ShloMosaic.ValueIdx Idealize.ShloMosaic.Tactic

theorem e13 : ∀ t : Fin cfg0.N, win0_13.index t = ![t.val, 0] := (by decide +kernel : ∀ t : Fin grid0.N, _)
theorem e15 : ∀ t : Fin cfg0.N, win0_15.index t = ![t.val, 0] := (by decide +kernel : ∀ t : Fin grid0.N, _)
theorem e17 : ∀ t : Fin cfg0.N, win0_17.index t = ![t.val, 0] := (by decide +kernel : ∀ t : Fin grid0.N, _)
theorem e19 : ∀ t : Fin cfg0.N, win0_19.index t = ![t.val, 0] := (by decide +kernel : ∀ t : Fin grid0.N, _)
theorem e21 : ∀ t : Fin cfg0.N, win0_21.index t = ![t.val, 0] := (by decide +kernel : ∀ t : Fin grid0.N, _)
theorem e16 : ∀ t : Fin cfg0.N, win0_16.index t = ![t.val, 0, 0] := (by decide +kernel : ∀ t : Fin grid0.N, _)
theorem e18 : ∀ t : Fin cfg0.N, win0_18.index t = ![t.val, 0, 0] := (by decide +kernel : ∀ t : Fin grid0.N, _)
theorem e20 : ∀ t : Fin cfg0.N, win0_20.index t = ![t.val, 0, 0] := (by decide +kernel : ∀ t : Fin grid0.N, _)
theorem e22 : ∀ t : Fin cfg0.N, win0_22.index t = ![t.val, 0, 0] := (by decide +kernel : ∀ t : Fin grid0.N, _)

variable (m : (ℓ : Loc nD τ sig) → Buf (Elt Ideal) ℓ) (c : Dev nD)

/-- Position `r` of a grid point's tile. -/
def at_ (t : Fin cfg0.N) (r : Fin 256) : Fin 1280 := ⟨256 * t.val + r.val, by have := t_lt t; omega⟩

/-- Five tiles of two lane rows of a number per position. -/
def lanes (f : Fin 1280 → EReal) : Vec Ideal S5x2x128 .f32 := fun i =>
  f ⟨256 * (i 0).val + (128 * (i 1).val + (i 2).val), by
    have h0 : (i 0).val < 5 := (i 0).isLt
    have h1 : (i 1).val < 2 := (i 1).isLt
    have h2 : (i 2).val < 128 := (i 2).isLt
    omega⟩

/-- In one row they are the positions in order. -/
theorem lanes_row (f : Fin 1280 → EReal) (h : S5x2x128.ShapeCasts S1280) : shapeCast S1280 (lanes f) h = Spec.Inputs.row f := by
  funext y
  have hy : (y 0).val < 1280 := (y 0).isLt
  refine (shapeCast_apply (lanes f) h y (ix3 (n0 := 5) (n1 := 2) (n2 := 128) ⟨(y 0).val / 256, by omega⟩ ⟨(y 0).val % 256 / 128, by omega⟩ ⟨(y 0).val % 128, by omega⟩) ?_).trans ?_
  · rw [Shape.rowMajor_val_three, Shape.rowMajor_val_one]
    show ((y 0).val / 256 * 2 + (y 0).val % 256 / 128) * 128 + (y 0).val % 128 = (y 0).val
    omega
  · refine congrArg f (Fin.ext ?_)
    show 256 * ((y 0).val / 256) + (128 * ((y 0).val % 256 / 128) + (y 0).val % 128) = (y 0).val
    omega

theorem arr13 : (dats m 0 c).arrAt 13 cfg0.N = (inputs m c).out := by
  refine (dats m 0 c).arrAt_eq_of_covers 13 _ (by decide +kernel) fun t hf y => ?_
  blk_simp
  rw [after_13]
  obtain ⟨r, k, rfl⟩ : ∃ (r : Fin 256) (k : Fin 1024), y = ix2 r k := ⟨y 0, y 1, eq_ix2 y⟩
  rw [show (win0_13.blk t).view.emb (ix2 r k) = ix2 (at_ t r) k from by
    blk_ext [e13]; show t.val * 256 + r.val = 256 * t.val + r.val; omega]
  exact (out_apply _ _ _ _ r k).trans (by rw [hidRow_eq m c t r (at_ t r) rfl, actRow_eq m c t r (at_ t r) rfl, weights_eq]; rfl)

theorem arr15 : (dats m 0 c).arrAt 15 cfg0.N = (inputs m c).code1 := by
  refine (dats m 0 c).arrAt_eq_of_covers 15 _ (by decide +kernel) fun t hf y => ?_
  blk_simp
  rw [after_15]
  obtain ⟨r, k, rfl⟩ : ∃ (r : Fin 256) (k : Fin 1024), y = ix2 r k := ⟨y 0, y 1, eq_ix2 y⟩
  rw [show (win0_15.blk t).view.emb (ix2 r k) = ix2 (at_ t r) k from by
    blk_ext [e15]; show t.val * 256 + r.val = 256 * t.val + r.val; omega]
  exact (code1_apply _ r k).trans (by rw [weights_eq, xrow_eq]; rfl)

theorem arr17 : (dats m 0 c).arrAt 17 cfg0.N = (inputs m c).code2 := by
  refine (dats m 0 c).arrAt_eq_of_covers 17 _ (by decide +kernel) fun t hf y => ?_
  blk_simp
  rw [after_17]
  obtain ⟨r, k, rfl⟩ : ∃ (r : Fin 256) (k : Fin 1024), y = ix2 r k := ⟨y 0, y 1, eq_ix2 y⟩
  rw [show (win0_17.blk t).view.emb (ix2 r k) = ix2 (at_ t r) k from by
    blk_ext [e17]; show t.val * 256 + r.val = 256 * t.val + r.val; omega]
  exact (code2_apply _ _ _ _ r k).trans (by rw [mixRow_eq m c t r (at_ t r) rfl]; rfl)

theorem arr19 : (dats m 0 c).arrAt 19 cfg0.N = (inputs m c).code3 := by
  refine (dats m 0 c).arrAt_eq_of_covers 19 _ (by decide +kernel) fun t hf y => ?_
  blk_simp
  rw [after_19]
  obtain ⟨r, k, rfl⟩ : ∃ (r : Fin 256) (k : Fin 1024), y = ix2 r k := ⟨y 0, y 1, eq_ix2 y⟩
  rw [show (win0_19.blk t).view.emb (ix2 r k) = ix2 (at_ t r) k from by
    blk_ext [e19]; show t.val * 256 + r.val = 256 * t.val + r.val; omega]
  exact (code3_apply _ _ _ _ r k).trans (by rw [hidRow_eq m c t r (at_ t r) rfl, weights_eq]; rfl)

theorem arr21 : (dats m 0 c).arrAt 21 cfg0.N = (inputs m c).code4 := by
  refine (dats m 0 c).arrAt_eq_of_covers 21 _ (by decide +kernel) fun t hf y => ?_
  blk_simp
  rw [after_21]
  obtain ⟨r, k, rfl⟩ : ∃ (r : Fin 256) (k : Fin 4608), y = ix2 r k := ⟨y 0, y 1, eq_ix2 y⟩
  rw [show (win0_21.blk t).view.emb (ix2 r k) = ix2 (at_ t r) k from by
    blk_ext [e21]; show t.val * 256 + r.val = 256 * t.val + r.val; omega]
  exact (code4_apply _ _ _ _ r k).trans (by rw [actRow_eq m c t r (at_ t r) rfl]; rfl)

theorem arr16 : (dats m 0 c).arrAt 16 cfg0.N = lanes (inputs m c).scale1 := by
  refine (dats m 0 c).arrAt_eq_of_covers 16 _ (by decide +kernel) fun t hf y => ?_
  blk_simp
  rw [after_16]
  obtain ⟨u, a, l, rfl⟩ : ∃ (u : Fin 1) (a : Fin 2) (l : Fin 128), y = ix3 u a l := ⟨y 0, y 1, y 2, eq_ix3 y⟩
  rw [show (win0_16.blk t).view.emb (ix3 u a l) = ix3 ⟨t.val, t_lt t⟩ a l from by
    blk_ext [e16]]
  exact (lanes1_apply _ u a l).trans (by rw [weights_eq, xrow_eq]; rfl)

theorem arr18 : (dats m 0 c).arrAt 18 cfg0.N = lanes (inputs m c).scale2 := by
  refine (dats m 0 c).arrAt_eq_of_covers 18 _ (by decide +kernel) fun t hf y => ?_
  blk_simp
  rw [after_18]
  obtain ⟨u, a, l, rfl⟩ : ∃ (u : Fin 1) (a : Fin 2) (l : Fin 128), y = ix3 u a l := ⟨y 0, y 1, y 2, eq_ix3 y⟩
  rw [show (win0_18.blk t).view.emb (ix3 u a l) = ix3 ⟨t.val, t_lt t⟩ a l from by
    blk_ext [e18]]
  exact (lanes2_apply _ _ _ _ u a l).trans (by rw [mixRow_eq m c t _ (at_ t ⟨128 * a.val + l.val, by omega⟩) rfl]; rfl)

theorem arr20 : (dats m 0 c).arrAt 20 cfg0.N = lanes (inputs m c).scale3 := by
  refine (dats m 0 c).arrAt_eq_of_covers 20 _ (by decide +kernel) fun t hf y => ?_
  blk_simp
  rw [after_20]
  obtain ⟨u, a, l, rfl⟩ : ∃ (u : Fin 1) (a : Fin 2) (l : Fin 128), y = ix3 u a l := ⟨y 0, y 1, y 2, eq_ix3 y⟩
  rw [show (win0_20.blk t).view.emb (ix3 u a l) = ix3 ⟨t.val, t_lt t⟩ a l from by
    blk_ext [e20]]
  exact (lanes3_apply _ _ _ _ u a l).trans (by rw [hidRow_eq m c t _ (at_ t ⟨128 * a.val + l.val, by omega⟩) rfl, weights_eq]; rfl)

theorem arr22 : (dats m 0 c).arrAt 22 cfg0.N = lanes (inputs m c).scale4 := by
  refine (dats m 0 c).arrAt_eq_of_covers 22 _ (by decide +kernel) fun t hf y => ?_
  blk_simp
  rw [after_22]
  obtain ⟨u, a, l, rfl⟩ : ∃ (u : Fin 1) (a : Fin 2) (l : Fin 128), y = ix3 u a l := ⟨y 0, y 1, y 2, eq_ix3 y⟩
  rw [show (win0_22.blk t).view.emb (ix3 u a l) = ix3 ⟨t.val, t_lt t⟩ a l from by
    blk_ext [e22]]
  exact (lanes4_apply _ _ _ _ u a l).trans (by rw [actRow_eq m c t _ (at_ t ⟨128 * a.val + l.val, by omega⟩) rfl]; rfl)

end Cert.KernelIdeal.Body

end
-- ==== Proof.Copy.lean ====
/- Which tile holds the row a sequence's copy reads: word arithmetic on the clipped position. -/
module

public import proofs.«01_k».proof.Proof.Words

@[expose] public section

namespace Cert.Words

open Idealize.ShloMosaic Idealize.ShloMosaic.WordCmp

/-- The clipped position is one of the 1280. -/
theorem clip_le (v k : BitVec 32) : (clip v k).toNat ≤ 1279 := by
  have h : 0 ≤ (clip v k).toInt ∧ (clip v k).toInt ≤ 1279 := by
    have e0 : (0#32 : BitVec 32).toInt = 0 := by decide
    have e1 : (1279#32 : BitVec 32).toInt = 1279 := by decide
    show 0 ≤ (IntOp.minsi 1279#32 (IntOp.maxsi 0#32 (idx v k))).toInt ∧ (IntOp.minsi 1279#32 (IntOp.maxsi 0#32 (idx v k))).toInt ≤ 1279
    unfold IntOp.minsi IntOp.maxsi
    simp only [BitVec.slt, BitVec.sle, decide_eq_true_eq]
    split <;> split <;> constructor <;> omega
  have h2 := (toInt_nonneg_iff_lt_half _).1 h.1
  have h3 := toInt_eq_toNat_of_lt_half h2
  omega

/-- It lies in tile `p` exactly when its relative position is less than 256, -/
theorem row_lt_iff (p : ℕ) (hp : p < 5) (v k : BitVec 32) :
    (row p v k).toNat < 256 ↔ 256 * p ≤ (clip v k).toNat ∧ (clip v k).toNat < 256 * (p + 1) := by
  have hc := clip_le v k
  have e : (row p v k).toNat = ((clip v k).toNat + (2 ^ 32 - 256 * p)) % 2 ^ 32 := by
    show (clip v k - BitVec.ofNat 32 p * 256#32).toNat = _
    rw [BitVec.toNat_sub, BitVec.toNat_mul, BitVec.toNat_ofNat, BitVec.toNat_ofNat]
    omega
  rw [e]
  omega

/-- and there the relative position is the difference. -/
theorem row_eq (p : ℕ) (hp : p < 5) (v k : BitVec 32) (h : (row p v k).toNat < 256) : 256 * p + (row p v k).toNat = (clip v k).toNat := by
  have hc := clip_le v k
  have e : (row p v k).toNat = ((clip v k).toNat + (2 ^ 32 - 256 * p)) % 2 ^ 32 := by
    show (clip v k - BitVec.ofNat 32 p * 256#32).toNat = _
    rw [BitVec.toNat_sub, BitVec.toNat_mul, BitVec.toNat_ofNat, BitVec.toNat_ofNat]
    omega
  omega

end Cert.Words
-- ==== Proof.KernelState.lean ====
/- The carried state: after the tiles before point `n` a row holds its position's convolution input if the position is one of
   those tiles', and zero otherwise; after the last tile it is the state of the mathematics. -/
module

public import proofs.«01_k».proof.Proof.KernelSeq
public import proofs.«01_k».proof.Proof.Copy

@[expose] public section

set_option maxRecDepth 16384

noncomputable section

namespace Cert.KernelIdeal.Body

open Cert.KernelIdeal Cert.KernelIdeal.Gen
open Idealize.ShloMosaic hiding ix1 ix2 ix3 eq_ix2 eq_ix3
open Idealize.ShloMosaic.TcCoe Idealize.ShloMosaic.ValueIdx Idealize.ShloMosaic.Tactic

/-- What a guarded copy leaves in its row: the buffer's row if the guard holds, what was there if not. -/
def pick (p : ℕ) (B : Vec Ideal S264x1024 .f32) (v v' k : BitVec 32) (old : EReal) (j : Fin 1024) : EReal :=
  if Cert.Words.cond p v v' k = 1#1 then B (ix2 ⟨Cert.Words.off p v k % 264, Nat.mod_lt _ (by omega)⟩ j) else old

theorem copy_same (i : grid0.Coords) (B : Vec Ideal S264x1024 .f32) (b k : ℕ) (v v' w : BitVec 32) (C : Vec Ideal S6x8x1024 .f32) (b' : Fin 6) (k' : Fin 8) (j : Fin 1024)
    (hb : b'.val = b) (hk : k'.val = k) : copy i B b k v v' w C (ix3 b' k' j) = pick (i 0).val B v v' w (C (ix3 b' k' j)) j := by
  unfold copy pick
  by_cases h : Cert.Words.cond (i 0).val v v' w = 1#1
  · rw [dif_pos h, if_pos h]
    unfold VecWindow.put
    rw [dif_pos (fun a => by
      fin_cases a
      · show b ≤ b'.val ∧ b'.val < b + 1; omega
      · show k ≤ k'.val ∧ k'.val < k + 1; omega
      · show 0 ≤ j.val ∧ j.val < 0 + 1024; omega)]
    refine (congrArg _ (eq_ix3 (n0 := 1) (n1 := 1) (n2 := 1024) _)).trans ((shapeCast_ab_1ab_apply (a := 1) (b := 1024) _ _ _ _ _).trans ?_)
    refine View.ld_unit_apply_of (S := S264x1024) B _ _ _ _ _ (fun a => ?_)
    have := Cert.Words.off_le h
    fin_cases a
    · show Cert.Words.off (i 0).val v w % 264 = Cert.Words.off (i 0).val v w + (k'.val - k); rw [Nat.mod_eq_of_lt (by omega)]; omega
    · show j.val = 0 + (j.val - 0); omega
  · rw [dif_neg h, if_neg h]

theorem copy_other (i : grid0.Coords) (B : Vec Ideal S264x1024 .f32) (b k : ℕ) (v v' w : BitVec 32) (C : Vec Ideal S6x8x1024 .f32) (b' : Fin 6) (k' : Fin 8) (j : Fin 1024)
    (hn : b'.val ≠ b ∨ k'.val ≠ k) : copy i B b k v v' w C (ix3 b' k' j) = C (ix3 b' k' j) := by
  unfold copy
  by_cases h : Cert.Words.cond (i 0).val v v' w = 1#1
  · rw [dif_pos h]
    unfold VecWindow.put
    rw [dif_neg (fun h => by
      have h0 : b ≤ b'.val ∧ b'.val < b + 1 := h 0
      have h1 : k ≤ k'.val ∧ k'.val < k + 1 := h 1
      omega)]
  · rw [dif_neg h]

/-- One sequence's three copies. -/
def copies (i : grid0.Coords) (B : Vec Ideal S264x1024 .f32) (b : ℕ) (v v' : BitVec 32) (C : Vec Ideal S6x8x1024 .f32) : Vec Ideal S6x8x1024 .f32 :=
  copy i B b 2 v v' 2#32 (copy i B b 1 v v' 1#32 (copy i B b 0 v v' 0#32 C))

theorem copies_same (i : grid0.Coords) (B : Vec Ideal S264x1024 .f32) (b : ℕ) (v v' : BitVec 32) (C : Vec Ideal S6x8x1024 .f32) (b' : Fin 6) (k : Fin 8) (hk : k.val < 3) (j : Fin 1024)
    (hb : b'.val = b) : copies i B b v v' C (ix3 b' k j) = pick (i 0).val B v v' (BitVec.ofNat 32 k.val) (C (ix3 b' k j)) j := by
  unfold copies
  obtain ⟨k, h8⟩ := k
  have h3 : k = 0 ∨ k = 1 ∨ k = 2 := by simp at hk; omega
  rcases h3 with rfl | rfl | rfl
  · rw [copy_other _ _ _ 2 _ _ _ _ _ _ _ (.inr (by simp)), copy_other _ _ _ 1 _ _ _ _ _ _ _ (.inr (by simp)), copy_same _ _ _ 0 _ _ _ _ _ _ _ hb rfl]
  · rw [copy_other _ _ _ 2 _ _ _ _ _ _ _ (.inr (by simp)), copy_same _ _ _ 1 _ _ _ _ _ _ _ hb rfl, copy_other _ _ _ 0 _ _ _ _ _ _ _ (.inr (by simp))]
  · rw [copy_same _ _ _ 2 _ _ _ _ _ _ _ hb rfl, copy_other _ _ _ 1 _ _ _ _ _ _ _ (.inr (by simp)), copy_other _ _ _ 0 _ _ _ _ _ _ _ (.inr (by simp))]

theorem copies_other (i : grid0.Coords) (B : Vec Ideal S264x1024 .f32) (b : ℕ) (v v' : BitVec 32) (C : Vec Ideal S6x8x1024 .f32) (b' : Fin 6) (k : Fin 8) (j : Fin 1024)
    (hb : b'.val ≠ b) : copies i B b v v' C (ix3 b' k j) = C (ix3 b' k j) := by
  unfold copies
  rw [copy_other _ _ _ 2 _ _ _ _ _ _ _ (.inl hb), copy_other _ _ _ 1 _ _ _ _ _ _ _ (.inl hb), copy_other _ _ _ 0 _ _ _ _ _ _ _ (.inl hb)]

/-- The boundaries in order. -/
def cus (X : Blocks Ideal) : Fin 7 → BitVec 32 := ![cu0 X, cu1 X, cu2 X, cu3 X, cu4 X, cu5 X, cu6 X]

/-- A tile's copies, at one row: the copy of that row alone. -/
theorem stateEnd_apply (i : grid0.Coords) (X : Blocks Ideal) (B : Vec Ideal S264x1024 .f32) (C : Vec Ideal S6x8x1024 .f32) (b : Fin 6) (k : Fin 8) (hk : k.val < 3) (j : Fin 1024) :
    stateEnd i X B C (ix3 b k j) = pick (i 0).val B (cus X ⟨b.val + 1, by omega⟩) (cus X ⟨b.val, by omega⟩) (BitVec.ofNat 32 k.val) (stateStart i C (ix3 b k j)) j := by
  show copies i B 5 (cu6 X) (cu5 X) (copies i B 4 (cu5 X) (cu4 X) (copies i B 3 (cu4 X) (cu3 X) (copies i B 2 (cu3 X) (cu2 X) (copies i B 1 (cu2 X) (cu1 X)
    (copies i B 0 (cu1 X) (cu0 X) (stateStart i C)))))) (ix3 b k j) = _
  obtain ⟨b, h6⟩ := b
  have h : b = 0 ∨ b = 1 ∨ b = 2 ∨ b = 3 ∨ b = 4 ∨ b = 5 := by omega
  rcases h with rfl | rfl | rfl | rfl | rfl | rfl
  · rw [copies_other _ _ 5 _ _ _ _ _ _ (by simp), copies_other _ _ 4 _ _ _ _ _ _ (by simp), copies_other _ _ 3 _ _ _ _ _ _ (by simp), copies_other _ _ 2 _ _ _ _ _ _ (by simp), copies_other _ _ 1 _ _ _ _ _ _ (by simp), copies_same _ _ 0 _ _ _ _ _ hk _ rfl]; rfl
  · rw [copies_other _ _ 5 _ _ _ _ _ _ (by simp), copies_other _ _ 4 _ _ _ _ _ _ (by simp), copies_other _ _ 3 _ _ _ _ _ _ (by simp), copies_other _ _ 2 _ _ _ _ _ _ (by simp), copies_same _ _ 1 _ _ _ _ _ hk _ rfl, copies_other _ _ 0 _ _ _ _ _ _ (by simp)]; rfl
  · rw [copies_other _ _ 5 _ _ _ _ _ _ (by simp), copies_other _ _ 4 _ _ _ _ _ _ (by simp), copies_other _ _ 3 _ _ _ _ _ _ (by simp), copies_same _ _ 2 _ _ _ _ _ hk _ rfl, copies_other _ _ 1 _ _ _ _ _ _ (by simp), copies_other _ _ 0 _ _ _ _ _ _ (by simp)]; rfl
  · rw [copies_other _ _ 5 _ _ _ _ _ _ (by simp), copies_other _ _ 4 _ _ _ _ _ _ (by simp), copies_same _ _ 3 _ _ _ _ _ hk _ rfl, copies_other _ _ 2 _ _ _ _ _ _ (by simp), copies_other _ _ 1 _ _ _ _ _ _ (by simp), copies_other _ _ 0 _ _ _ _ _ _ (by simp)]; rfl
  · rw [copies_other _ _ 5 _ _ _ _ _ _ (by simp), copies_same _ _ 4 _ _ _ _ _ hk _ rfl, copies_other _ _ 3 _ _ _ _ _ _ (by simp), copies_other _ _ 2 _ _ _ _ _ _ (by simp), copies_other _ _ 1 _ _ _ _ _ _ (by simp), copies_other _ _ 0 _ _ _ _ _ _ (by simp)]; rfl
  · rw [copies_same _ _ 5 _ _ _ _ _ hk _ rfl, copies_other _ _ 4 _ _ _ _ _ _ (by simp), copies_other _ _ 3 _ _ _ _ _ _ (by simp), copies_other _ _ 2 _ _ _ _ _ _ (by simp), copies_other _ _ 1 _ _ _ _ _ _ (by simp), copies_other _ _ 0 _ _ _ _ _ _ (by simp)]; rfl

variable (m : (ℓ : Loc nD τ sig) → Buf (Elt Ideal) ℓ) (c : Dev nD)

theorem cus_eq (t : Fin cfg0.N) (b : Fin 7) : cus (blocks m c t) b = (inputs m c).cu (ix1 b) := by
  fin_cases b
  · exact cu0_eq m c t
  · exact cu1_eq m c t
  · exact cu2_eq m c t
  · exact cu3_eq m c t
  · exact cu4_eq m c t
  · exact cu5_eq m c t
  · exact cu6_eq m c t

/-- The first tile's zeros are there already. -/
theorem stateStart_eq (n : ℕ) (hn : n < cfg0.N) : stateStart (grid0.coords ⟨n, hn⟩) (stateBefore m c n (Nat.le_of_lt hn)) = stateBefore m c n (Nat.le_of_lt hn) := by
  unfold stateStart
  cases n with
  | zero => exact ite_self _
  | succ n => exact if_neg (not_isFirst_of ⟨n + 1, hn⟩ (Nat.succ_ne_zero n))

/-- The carried state before point `n`. -/
theorem stateBefore_apply (n : ℕ) (hn : n ≤ cfg0.N) (b : Fin 6) (k : Fin 8) (hk : k.val < 3) (j : Fin 1024) (v v' w : BitVec 32)
    (hv : v = (inputs m c).cu (ix1 ⟨b.val + 1, by omega⟩)) (hv' : v' = (inputs m c).cu (ix1 ⟨b.val, by omega⟩)) (hw : w = BitVec.ofNat 32 k.val) :
    stateBefore m c n hn (ix3 b k j)
      = if v'.toInt ≤ (Cert.Words.idx v w).toInt ∧ (Cert.Words.clip v w).toNat < 256 * n then
          (inputs m c).args.bx ⟨(Cert.Words.clip v w).toNat % 1280, Nat.mod_lt _ (by omega)⟩ j else 0 := by
  induction n with
  | zero =>
    rw [if_neg (by omega)]
    exact Spec.lit_zero
  | succ n ih =>
    have h5 : n < 5 := t_lt ⟨n, hn⟩
    show stateEnd _ _ _ _ _ = _
    rw [stateEnd_apply _ _ _ _ b k hk, cus_eq, cus_eq, stateStart_eq, ih (Nat.le_of_lt hn) hv hv', ← hv, ← hv', ← hw, coord]
    unfold pick
    have hc := Cert.Words.clip_le v w
    have hr := Cert.Words.row_lt_iff n h5 v w
    by_cases h : Cert.Words.cond n v v' w = 1#1
    · rw [if_pos h]
      have h' := (Cert.Words.cond_iff n v v' w).1 h
      have he := Cert.Words.row_eq n h5 v w h'.2
      have ho := Cert.Words.off_eq h
      rw [if_pos ⟨h'.1, (hr.1 h'.2).2⟩]
      refine bxAt_apply m c ⟨n, hn⟩ _ j _ ?_
      show (Cert.Words.clip v w).toNat % 1280 + 8 = 256 * n + Cert.Words.off n v w % 264
      omega
    · rw [if_neg h]
      have h' := fun x => h ((Cert.Words.cond_iff n v v' w).2 x)
      by_cases hx : v'.toInt ≤ (Cert.Words.idx v w).toInt ∧ (Cert.Words.clip v w).toNat < 256 * n
      · rw [if_pos hx, if_pos ⟨hx.1, by omega⟩]
      · rw [if_neg hx, if_neg (fun hy => by
          by_cases h256 : (Cert.Words.clip v w).toNat < 256 * n
          · exact hx ⟨hy.1, h256⟩
          · exact h' ⟨hy.1, hr.2 ⟨by omega, hy.2⟩⟩)]

/-- The state's array. -/
theorem arr14 : (dats m 0 c).arrAt 14 cfg0.N = (inputs m c).state := by
  refine (dats m 0 c).arrAt_eq_of_after_last 14 ⟨4, by decide +kernel⟩ (by decide +kernel) _ fun y => ?_
  obtain ⟨b, k, j, rfl⟩ : ∃ (b : Fin 6) (k : Fin 3) (j : Fin 1024), y = ix3 b k j := ⟨y 0, y 1, y 2, eq_ix3 y⟩
  blk_simp
  show (dats m 0 c).after 14 ⟨4, by decide +kernel⟩ (ix3 b k j) = (inputs m c).state (ix3 b k j)
  rw [after_14]
  show View.ld (stateBefore m c 5 _) (Rect.unit (s := S6x8x1024) ![0, 0, 0] S6x3x1024.size inb_S6x8x1024_S6x3x1024_0_0_0) (ix3 b k j) = (inputs m c).state (ix3 b k j)
  refine (View.ld_unit_apply_of (S := S6x8x1024) (stateBefore m c 5 _) _ _ _ _ (ix3 b ⟨k.val, by omega⟩ j) (fun a => by
    fin_cases a
    · show b.val = 0 + b.val; omega
    · show k.val = 0 + k.val; omega
    · show j.val = 0 + j.val; omega)).trans ?_
  rw [stateBefore_apply m c 5 _ b ⟨k.val, by omega⟩ (by simp) j _ _ _ rfl rfl rfl]
  have hc := Cert.Words.clip_le ((inputs m c).cu (ix1 ⟨b.val + 1, by omega⟩)) (BitVec.ofNat 32 k.val)
  simp only [show (Cert.Words.clip ((inputs m c).cu (ix1 ⟨b.val + 1, by omega⟩)) (BitVec.ofNat 32 k.val)).toNat < 256 * 5 from by omega, and_true]
  rfl

end Cert.KernelIdeal.Body

end
-- ==== Proof.KernelResults.lean ====
/- The kernel's ten results. -/
module

public import proofs.«01_k».proof.Proof.KernelArrays
public import proofs.«01_k».proof.Proof.KernelState
public import Idealize.ShloMosaic.Lib.StableHlo.RunRead

@[expose] public section

set_option maxRecDepth 16384

noncomputable section

namespace Cert.KernelIdeal.Body

open Cert.KernelIdeal Cert.KernelIdeal.Gen
open Idealize.ShloMosaic hiding ix1 ix2 ix3 eq_ix2 eq_ix3
open Idealize.ShloMosaic.TcCoe Idealize.ShloMosaic.ValueIdx Idealize.ShloMosaic.Tactic
open Idealize.SL.Sem

variable (m : (ℓ : Loc nD τ sig) → Buf (Elt Ideal) ℓ) (ρ : Dev nD → PrngReg)

/-- What the operations after the call find. -/
abbrev atTail (c : Dev nD) : Valuation τ sig (Elt Ideal) :=
  Pipeline.withArrays (cfgs 0).spec c (V0 m c) fun w => (dats m 0 c).arrAt w (cfgs 0).N

theorem arrRef_inj : Function.Injective (Pipeline.arrRef spec0) := by decide

theorem tail_v8 (W : Valuation τ sig (Elt Ideal)) (f : Fin 1280 → EReal) (hf : W (Proc.devRef .tc main_v7_3) = lanes f) :
    StableHlo.after (List.flatten [hostOps1]) W (Proc.devRef .tc main_v8) = Spec.Inputs.row f := by
  simp only [hostOps1, List.flatten_cons, List.flatten_nil, List.append_nil]
  after_reads_simp
  rw [hf]
  exact lanes_row f _

theorem after_v8 (c : Dev nD) : Pipeline.afterTail₀ cfgs (dats m) 0 (V0 m) [hostOps1] c main_v8 = Spec.Inputs.row (inputs m c).scale1 :=
  tail_v8 (atTail m c) _ ((Pipeline.withArrays_arr spec0 arrRef_inj c (V0 m c) _ 16).trans (arr16 m c))

theorem tail_v9 (W : Valuation τ sig (Elt Ideal)) (f : Fin 1280 → EReal) (hf : W (Proc.devRef .tc main_v7_5) = lanes f) :
    StableHlo.after (List.flatten [hostOps1]) W (Proc.devRef .tc main_v9) = Spec.Inputs.row f := by
  simp only [hostOps1, List.flatten_cons, List.flatten_nil, List.append_nil]
  after_reads_simp
  rw [hf]
  exact lanes_row f _

theorem after_v9 (c : Dev nD) : Pipeline.afterTail₀ cfgs (dats m) 0 (V0 m) [hostOps1] c main_v9 = Spec.Inputs.row (inputs m c).scale2 :=
  tail_v9 (atTail m c) _ ((Pipeline.withArrays_arr spec0 arrRef_inj c (V0 m c) _ 18).trans (arr18 m c))

theorem tail_v10 (W : Valuation τ sig (Elt Ideal)) (f : Fin 1280 → EReal) (hf : W (Proc.devRef .tc main_v7_7) = lanes f) :
    StableHlo.after (List.flatten [hostOps1]) W (Proc.devRef .tc main_v10) = Spec.Inputs.row f := by
  simp only [hostOps1, List.flatten_cons, List.flatten_nil, List.append_nil]
  after_reads_simp
  rw [hf]
  exact lanes_row f _

theorem after_v10 (c : Dev nD) : Pipeline.afterTail₀ cfgs (dats m) 0 (V0 m) [hostOps1] c main_v10 = Spec.Inputs.row (inputs m c).scale3 :=
  tail_v10 (atTail m c) _ ((Pipeline.withArrays_arr spec0 arrRef_inj c (V0 m c) _ 20).trans (arr20 m c))

theorem tail_v11 (W : Valuation τ sig (Elt Ideal)) (f : Fin 1280 → EReal) (hf : W (Proc.devRef .tc main_v7_9) = lanes f) :
    StableHlo.after (List.flatten [hostOps1]) W (Proc.devRef .tc main_v11) = Spec.Inputs.row f := by
  simp only [hostOps1, List.flatten_cons, List.flatten_nil, List.append_nil]
  after_reads_simp
  rw [hf]
  exact lanes_row f _

theorem after_v11 (c : Dev nD) : Pipeline.afterTail₀ cfgs (dats m) 0 (V0 m) [hostOps1] c main_v11 = Spec.Inputs.row (inputs m c).scale4 :=
  tail_v11 (atTail m c) _ ((Pipeline.withArrays_arr spec0 arrRef_inj c (V0 m c) _ 22).trans (arr22 m c))

/-- The ten results are the mathematics' of the arguments. -/
theorem values : θ_run defs (onTc (τ := τ) (main (F := Ideal))) ⟨m, fun _ => 0, ρ⟩ (fun r => ∀ c : Dev nD,
      r.2.mem ((c.tc : Thread nD τ).loc main_v7_0) = (inputs m c).out
      ∧ r.2.mem ((c.tc : Thread nD τ).loc main_v7_1) = (inputs m c).state
      ∧ r.2.mem ((c.tc : Thread nD τ).loc main_v7_2) = (inputs m c).code1
      ∧ r.2.mem ((c.tc : Thread nD τ).loc main_v8) = Spec.Inputs.row (inputs m c).scale1
      ∧ r.2.mem ((c.tc : Thread nD τ).loc main_v7_4) = (inputs m c).code2
      ∧ r.2.mem ((c.tc : Thread nD τ).loc main_v9) = Spec.Inputs.row (inputs m c).scale2
      ∧ r.2.mem ((c.tc : Thread nD τ).loc main_v7_6) = (inputs m c).code3
      ∧ r.2.mem ((c.tc : Thread nD τ).loc main_v10) = Spec.Inputs.row (inputs m c).scale3
      ∧ r.2.mem ((c.tc : Thread nD τ).loc main_v7_8) = (inputs m c).code4
      ∧ r.2.mem ((c.tc : Thread nD τ).loc main_v11) = Spec.Inputs.row (inputs m c).scale4) :=
  (θ_run defs _ _).mono (fun _ h c => ⟨((h c).1 13).trans (arr13 m c),
      ((h c).1 14).trans (arr14 m c),
      ((h c).1 15).trans (arr15 m c),
      ((h c).2 main_v8 (Pipeline.mem_restRefs_of main_v8 (by decide) (by decide))).trans (after_v8 m c),
      ((h c).1 17).trans (arr17 m c),
      ((h c).2 main_v9 (Pipeline.mem_restRefs_of main_v9 (by decide) (by decide))).trans (after_v9 m c),
      ((h c).1 19).trans (arr19 m c),
      ((h c).2 main_v10 (Pipeline.mem_restRefs_of main_v10 (by decide) (by decide))).trans (after_v10 m c),
      ((h c).1 21).trans (arr21 m c),
      ((h c).2 main_v11 (Pipeline.mem_restRefs_of main_v11 (by decide) (by decide))).trans (after_v11 m c)⟩) (run_main m ρ)

end Cert.KernelIdeal.Body

end
-- ==== Proof.HostWords.lean ====
/- The reference's host words: a position's sequence start as a maximum over the inner boundaries, and a row read through a list
   of positions. -/
module

public import proofs.«01_k».proof.Proof.Copy
public import proofs.«01_k».proof.Proof.Inputs
public import proofs.«01_k».proof.Proof.ReferenceIdealFrame

@[expose] public section

set_option maxRecDepth 16384

noncomputable section

namespace Cert.ReferenceIdeal.Body

open Cert.ReferenceIdeal Cert.ReferenceIdeal.Gen
open Idealize.ShloMosaic Idealize.ShloMosaic.ValueIdx Idealize.ShloMosaic.WordCmp

/-- A signed maximum is the greater number. -/
theorem toInt_max (a b : BitVec 32) : (IntOp.maxsi a b).toInt = max a.toInt b.toInt := by
  unfold IntOp.maxsi
  simp only [BitVec.slt, BitVec.sle, decide_eq_true_eq]
  split <;> omega

/-- A maximum over five from the least word is the nested one. -/
theorem fold_five (f : Fin 5 → BitVec 32) :
    IntOp.maxsi 0#32 ((Finset.univ : Finset (Fin 5)).fold IntOp.maxsi 2147483648#32 f)
      = IntOp.maxsi (IntOp.maxsi (IntOp.maxsi (IntOp.maxsi (IntOp.maxsi 0#32 (f 0)) (f 1)) (f 2)) (f 3)) (f 4) := by
  have e : (Finset.univ : Finset (Fin 5)).fold IntOp.maxsi 2147483648#32 f
      = IntOp.maxsi (f 0) (IntOp.maxsi (f 1) (IntOp.maxsi (f 2) (IntOp.maxsi (f 3) (IntOp.maxsi (f 4) 2147483648#32)))) := rfl
  rw [e]
  apply BitVec.eq_of_toInt_eq
  simp only [toInt_max]
  have e0 : (0#32 : BitVec 32).toInt = 0 := by decide
  have e1 : (2147483648#32 : BitVec 32).toInt = -2147483648 := by decide
  rw [e0, e1]
  omega

/-- The rows of an array read through a list of positions. -/
theorem gather_rows (x : Vec Ideal S1280x1024 .f32) (idx : Vec Ideal S6x3x1 .i32) (b : Fin 6) (k : Fin 3) (j : Fin 1024) :
    Host.gather gather_S1280x1024_S6x3x1_S6x3x1024_2_0_n_n_0_2_11024 x idx (ix3 b k j)
      = x (ix2 ⟨min (idx (ix3 b k 0)).toInt.toNat (1280 - 1), by omega⟩ j) := by
  unfold Host.gather
  refine congrArg x (funext fun a => Fin.ext ?_)
  match a with
  | ⟨0, _⟩ =>
    show GatherDims.start gather_S1280x1024_S6x3x1_S6x3x1024_2_0_n_n_0_2_11024 (ix3 b k j) idx 0
      + GatherDims.batchCoord gather_S1280x1024_S6x3x1_S6x3x1024_2_0_n_n_0_2_11024 (ix3 b k j) 0
      + GatherDims.offCoord gather_S1280x1024_S6x3x1_S6x3x1024_2_0_n_n_0_2_11024 (ix3 b k j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1280x1024_S6x3x1_S6x3x1024_2_0_n_n_0_2_11024.startIndexMap from List.mem_singleton.mpr rfl)]
    have hsi : gather_S1280x1024_S6x3x1_S6x3x1024_2_0_n_n_0_2_11024.siIdx (ix3 b k j)
        ⟨List.idxOf (0 : Fin 2) gather_S1280x1024_S6x3x1_S6x3x1024_2_0_n_n_0_2_11024.startIndexMap,
          List.idxOf_lt_length_iff.2 (List.mem_singleton.mpr rfl)⟩ = ix3 b k 0 := by
      funext d
      refine Fin.ext ?_
      match d with
      | ⟨0, _⟩ => rfl
      | ⟨1, _⟩ => rfl
      | ⟨2, _⟩ => rfl
    rw [hsi]
    rfl
  | ⟨1, _⟩ =>
    show GatherDims.start gather_S1280x1024_S6x3x1_S6x3x1024_2_0_n_n_0_2_11024 (ix3 b k j) idx 1
      + GatherDims.batchCoord gather_S1280x1024_S6x3x1_S6x3x1024_2_0_n_n_0_2_11024 (ix3 b k j) 1
      + GatherDims.offCoord gather_S1280x1024_S6x3x1_S6x3x1024_2_0_n_n_0_2_11024 (ix3 b k j) 1 = _
    rw [GatherDims.batchCoord_eq_zero _ _ _ List.not_mem_nil, Nat.add_zero]
    unfold GatherDims.start GatherDims.offCoord
    rw [dif_neg (show ¬ (1 : Fin 2) ∈ gather_S1280x1024_S6x3x1_S6x3x1024_2_0_n_n_0_2_11024.startIndexMap by decide),
      dif_pos (show (1 : Fin 2) ∈ gather_S1280x1024_S6x3x1_S6x3x1024_2_0_n_n_0_2_11024.sKept by decide), Nat.zero_add]
    rfl

/-- The clipped position is not negative, so the host's wrap leaves it, and within the rows. -/
theorem clip_wrap (v k : BitVec 32) :
    Scalar.select (IntOp.cmpi .slt (Words.clip v k) 0#32) (IntOp.addi (Words.clip v k) 1280#32) (Words.clip v k) = Words.clip v k := by
  have h := Words.clip_le v k
  have h2 : 0 ≤ (Words.clip v k).toInt := by
    have := toInt_eq_toNat_of_lt_half (x := Words.clip v k) (by omega)
    omega
  unfold Scalar.select
  rw [if_neg]
  intro e
  have e0 : (0#32 : BitVec 32).toInt = 0 := by decide
  rw [cmpi_slt_eq] at e
  have := (ofBool_decide_eq_one_iff _).1 e
  omega

theorem clip_toInt (v k : BitVec 32) : (Words.clip v k).toInt.toNat = (Words.clip v k).toNat := by
  have h := Words.clip_le v k
  have := toInt_eq_toNat_of_lt_half (x := Words.clip v k) (by omega)
  omega

end Cert.ReferenceIdeal.Body

end
-- ==== Proof.RefRows.lean ====
/- The reference's block over the extended reals, first part: the first norm, its scales and codes, the input projection,
   the convolution and its gate, each read at a row as the block's mathematics on all positions. -/
module

public import proofs.«01_k».proof.Proof.Rows
public import proofs.«01_k».proof.Proof.Seq
public import proofs.«01_k».proof.Proof.ReferenceIdealFrame

@[expose] public section

noncomputable section

namespace Cert.ReferenceIdeal.Body

open Cert.ReferenceIdeal Cert.ReferenceIdeal.Gen
open Idealize.ShloMosaic Idealize.ShloMosaic.ValueIdx Cert.Rows
open scoped BigOperators

variable (x0 : Vec Ideal S1280x1024 .bf16) (x1 : Vec Ideal S1280x1 .i32) (x2 : Vec Ideal S1x1024 .f32) (x3 : Vec Ideal S1024x3072 .i8) (x4 : Vec Ideal S1x3072 .f32) (x5 : Vec Ideal S4x1024 .f32) (x6 : Vec Ideal S1024x1024 .i8) (x7 : Vec Ideal S1x1024 .f32) (x8 : Vec Ideal S1x1024 .f32) (x9 : Vec Ideal S1024x4608 .i8) (x10 : Vec Ideal S1024x4608 .i8) (x11 : Vec Ideal S2x4608 .f32) (x12 : Vec Ideal S4608x1024 .i8) (x13 : Vec Ideal S1x1024 .f32)

/-- The block's arguments among the reference's blocks. -/
def args (x0 : Vec Ideal S1280x1024 .bf16) (x1 : Vec Ideal S1280x1 .i32) (x2 : Vec Ideal S1x1024 .f32) (x3 : Vec Ideal S1024x3072 .i8) (x4 : Vec Ideal S1x3072 .f32) (x5 : Vec Ideal S4x1024 .f32) (x6 : Vec Ideal S1024x1024 .i8) (x7 : Vec Ideal S1x1024 .f32) (x8 : Vec Ideal S1x1024 .f32) (x9 : Vec Ideal S1024x4608 .i8) (x10 : Vec Ideal S1024x4608 .i8) (x11 : Vec Ideal S2x4608 .f32) (x12 : Vec Ideal S4608x1024 .i8) (x13 : Vec Ideal S1x1024 .f32) : Spec.Args where
  W :=
    { n1 := fun k => x2 (ix2 0 k)
      win := fun k j => x3 (ix2 k j)
      sin := fun j => x4 (ix2 0 j)
      taps := fun a c => x5 (ix2 a c)
      wout := fun k j => x6 (ix2 k j)
      sout := fun j => x7 (ix2 0 j)
      n2 := fun k => x8 (ix2 0 k)
      wg := fun k j => x9 (ix2 k j)
      sg := fun j => x11 (ix2 0 j)
      wu := fun k j => x10 (ix2 k j)
      su := fun j => x11 (ix2 1 j)
      wdn := fun k j => x12 (ix2 k j)
      sdn := fun j => x13 (ix2 0 j) }
  x := fun t k => x0 (ix2 t k)
  pos := fun t => x1 (ix2 t 0)

theorem dot_in : dot_S1280x1024_S1024x3072_S1280x3072_1_0_0_1_n_n = DotDims.plain 1280 1024 3072 := rfl
theorem dot_out : dot_S1280x1024_S1024x1024_S1280x1024_1_0_0_1_n_n = DotDims.plain 1280 1024 1024 := rfl
theorem dot_up : dot_S1280x1024_S1024x4608_S1280x4608_1_0_0_1_n_n = DotDims.plain 1280 1024 4608 := rfl
theorem dot_down : dot_S1280x4608_S4608x1024_S1280x1024_1_0_0_1_n_n = DotDims.plain 1280 4608 1024 := rfl

theorem pay2_apply (v : Vec Ideal S1280x1024 .bf16) (w : Vec Ideal S1x1024 .f32) (r : Fin 1280) (k : Fin 1024) :
    k0_pay2 v w (ix2 r k) = Spec.norm (fun k => (v (ix2 r k) : EReal)) (fun k => w (ix2 0 k)) k :=
  (norm_div (k0_pay1 v) (shapeCast S1x1024 w shapeCasts_S1x1024_S1x1024) _ _ _ r k (root_apply (k0_pay1 v) _ _ _ _ r 0)).trans (by
    rw [shapeCast_self]; rfl)

theorem pay3_apply (v : Vec Ideal S1280x1024 .bf16) (w : Vec Ideal S1x1024 .f32) (r : Fin 1280) (u : Fin 1) :
    k0_pay3 v w (ix2 r u) = Spec.scale (Spec.norm (fun k => (v (ix2 r k) : EReal)) (fun k => w (ix2 0 k))) :=
  (scale_apply _ r u).trans (congrArg Spec.scaleOf ((rowMax (k0_pay2 v w) _ _ _ _ r u).trans
    (congrArg Spec.amax (funext fun k => pay2_apply v w r k))))

theorem pay4_apply (v : Vec Ideal S1280x1024 .bf16) (w : Vec Ideal S1x1024 .f32) (r : Fin 1280) (k : Fin 1024) :
    k0_pay4 v w (ix2 r k) = Spec.code (Spec.norm (fun k => (v (ix2 r k) : EReal)) (fun k => w (ix2 0 k))) k :=
  (code_div (k0_pay2 v w) (k0_pay3 v w) _ r k).trans (by
    rw [pay3_apply, pay2_apply]; rfl)

theorem xf_apply (r : Fin 1280) (c : Fin 1024) : (k0_pay32 x0 x1 x2 x3 x4 x5 x6 x7 x8 x9 x10 x11 x12 x13) (ix2 r c) = (args x0 x1 x2 x3 x4 x5 x6 x7 x8 x9 x10 x11 x12 x13).x r c :=
  congrFun (ld_all (e := .bf16) x0 inb_S1280x1024_S1280x1024_0_0) (ix2 r c)

theorem scale1_apply (r : Fin 1280) (u : Fin 1) : k0_pay3 (View.ld x0 r0_0) (View.ld x2 r0_1) (ix2 r u) = Spec.scale ((args x0 x1 x2 x3 x4 x5 x6 x7 x8 x9 x10 x11 x12 x13).norm1 r) := by
  rw [pay3_apply, show View.ld x0 r0_0 = x0 from ld_all (e := .bf16) x0 _, show View.ld x2 r0_1 = x2 from ld_all (e := .f32) x2 _]
  rfl

theorem code1_apply (r : Fin 1280) (k : Fin 1024) : k0_pay4 (View.ld x0 r0_0) (View.ld x2 r0_1) (ix2 r k) = Spec.code ((args x0 x1 x2 x3 x4 x5 x6 x7 x8 x9 x10 x11 x12 x13).norm1 r) k := by
  rw [pay4_apply, show View.ld x0 r0_0 = x0 from ld_all (e := .bf16) x0 _, show View.ld x2 r0_1 = x2 from ld_all (e := .f32) x2 _]
  rfl

theorem proj_apply (r : Fin 1280) (j : Fin 3072) : k0_pay7 (k0_pay33 x0 x1 x2 x3 x4 x5 x6 x7 x8 x9 x10 x11 x12 x13) (k0_pay34 x0 x1 x2 x3 x4 x5 x6 x7 x8 x9 x10 x11 x12 x13) (ix2 r j) = (args x0 x1 x2 x3 x4 x5 x6 x7 x8 x9 x10 x11 x12 x13).W.proj ((args x0 x1 x2 x3 x4 x5 x6 x7 x8 x9 x10 x11 x12 x13).x r) j := by
  refine (lin_apply _ dot_in (k0_pay4 (View.ld x0 r0_0) (View.ld x2 r0_1)) (View.ld x3 r0_2) (k0_pay3 (View.ld x0 r0_0) (View.ld x2 r0_1))
    (shapeCast S1x3072 (View.ld x4 r0_3) shapeCasts_S1x3072_S1x3072) _ _ r j).trans ?_
  rw [scale1_apply x0 x1 x2 x3 x4 x5 x6 x7 x8 x9 x10 x11 x12 x13, show (fun k => k0_pay4 (View.ld x0 r0_0) (View.ld x2 r0_1) (ix2 r k)) = Spec.code ((args x0 x1 x2 x3 x4 x5 x6 x7 x8 x9 x10 x11 x12 x13).norm1 r) from funext fun k => code1_apply x0 x1 x2 x3 x4 x5 x6 x7 x8 x9 x10 x11 x12 x13 r k]
  refine Spec.lin_col _ _ _ _ _ _ _ _ (fun k => ?_) ?_
  · exact congrFun (ld_all (e := .i8) x3 _) (ix2 k j)
  · refine (congrFun (shapeCast_self (s := S1x3072) _ _) _).trans ?_
    exact congrFun (ld_all (e := .f32) x4 _) (ix2 0 j)

theorem gate_apply (r : Fin 1280) (c : Fin 1024) : (k0_pay35 x0 x1 x2 x3 x4 x5 x6 x7 x8 x9 x10 x11 x12 x13) (ix2 r c) = (args x0 x1 x2 x3 x4 x5 x6 x7 x8 x9 x10 x11 x12 x13).W.gate ((args x0 x1 x2 x3 x4 x5 x6 x7 x8 x9 x10 x11 x12 x13).x r) c :=
  (slice2_axis1_apply 1024 (k0_pay7 (k0_pay33 x0 x1 x2 x3 x4 x5 x6 x7 x8 x9 x10 x11 x12 x13) (k0_pay34 x0 x1 x2 x3 x4 x5 x6 x7 x8 x9 x10 x11 x12 x13)) slices_S1280x3072_o0_1024_S1280x1024 r c (Spec.mid c) rfl).trans (proj_apply x0 x1 x2 x3 x4 x5 x6 x7 x8 x9 x10 x11 x12 x13 r _)

theorem bx_apply (r : Fin 1280) (c : Fin 1024) : (k0_pay36 x0 x1 x2 x3 x4 x5 x6 x7 x8 x9 x10 x11 x12 x13) (ix2 r c) = (args x0 x1 x2 x3 x4 x5 x6 x7 x8 x9 x10 x11 x12 x13).bx r c :=
  congrArg₂ (fun a b : EReal => a * b)
    ((slice2_axis1_apply 0 (k0_pay7 (k0_pay33 x0 x1 x2 x3 x4 x5 x6 x7 x8 x9 x10 x11 x12 x13) (k0_pay34 x0 x1 x2 x3 x4 x5 x6 x7 x8 x9 x10 x11 x12 x13)) slices_S1280x3072_o0_0_S1280x1024 r c (Spec.low c) (by simp [Spec.low])).trans (proj_apply x0 x1 x2 x3 x4 x5 x6 x7 x8 x9 x10 x11 x12 x13 r _))
    ((slice2_axis1_apply 2048 (k0_pay7 (k0_pay33 x0 x1 x2 x3 x4 x5 x6 x7 x8 x9 x10 x11 x12 x13) (k0_pay34 x0 x1 x2 x3 x4 x5 x6 x7 x8 x9 x10 x11 x12 x13)) slices_S1280x3072_o0_2048_S1280x1024 r c (Spec.high c) rfl).trans (proj_apply x0 x1 x2 x3 x4 x5 x6 x7 x8 x9 x10 x11 x12 x13 r _))

/-- An array of 1280 rows rolled by `j` of them. -/
theorem roll_apply (j n : ℕ) (hjn : j + n = 1280) (v : FVec Ideal S1280x1024 .f32) (h1 h2 h3) (r : Fin 1280) (c : Fin 1024) :
    concatenate S1280x1024 0 [⟨(⟨2, ![j, 1024]⟩ : Shape), extractStridedSlice (⟨2, ![j, 1024]⟩ : Shape) ![n, 0] v h1⟩,
      ⟨(⟨2, ![n, 1024]⟩ : Shape), extractStridedSlice (⟨2, ![n, 1024]⟩ : Shape) ![0, 0] v h2⟩] h3 (ix2 r c) = v (ix2 (Spec.back j r) c) := by
  by_cases h : r.val < j
  · refine (stack_top (p := j) (q := n) (t := 1280) (m := 1024) _ _ h3 r c ⟨r.val, h⟩ rfl).trans ?_
    exact slice2_axis0_apply n v _ ⟨r.val, h⟩ c _ (by rw [Spec.back_of_lt j r h]; show r.val + (1280 - j) = n + r.val; omega)
  · have hr := r.isLt
    refine (stack_bot (p := j) (q := n) (t := 1280) (m := 1024) _ _ h3 r c ⟨r.val - j, by omega⟩ (by show r.val - j + j = r.val; omega)).trans ?_
    exact slice2_axis0_apply 0 v _ ⟨r.val - j, by omega⟩ c _ (by rw [Spec.back_of_le j r (by omega)]; simp)

theorem taps_apply (o : ℕ) (o' : Fin 4) (ho : o'.val = o) (h) (hb) (r : Fin 1280) (c : Fin 1024) :
    broadcastTo S1280x1024 (extractStridedSlice S1x1024 ![o, 0] (k0_pay10 (View.ld x5 r0_4)) h) hb (ix2 r c) = (args x0 x1 x2 x3 x4 x5 x6 x7 x8 x9 x10 x11 x12 x13).W.taps o' c := by
  rw [broadcastTo_1b_ab_apply]
  refine (slice2_axis0_apply o (k0_pay10 (View.ld x5 r0_4)) h 0 c o' (by simp [ho])).trans ?_
  refine (congrFun (shapeCast_self (s := S4x1024) (View.ld x5 r0_4) shapeCasts_S4x1024_S4x1024) _).trans ?_
  exact congrFun (ld_all (e := .f32) x5 _) (ix2 o' c)

theorem live_apply (k : BitVec 32) (hb) (r : Fin 1280) (c : Fin 1024) :
    broadcastTo S1280x1024 (select (cmpi .sge (k0_pay11 (View.ld x1 r0_5)) (broadcast S1280x1 k)) (broadcast S1280x1 (Scalar.ofBits .f32 0x3F800000#32 : Ideal .f32)) (broadcast S1280x1 (Scalar.ofBits .f32 0x00000000#32 : Ideal .f32))) hb (ix2 r c)
      = Spec.live ((args x0 x1 x2 x3 x4 x5 x6 x7 x8 x9 x10 x11 x12 x13).pos r) k := by
  rw [colBroadcast]
  have e : k0_pay11 (F := Ideal) (View.ld x1 r0_5) (ix2 r 0) = x1 (ix2 r 0) :=
    (congrFun (shapeCast_self (s := S1280x1) (View.ld x1 r0_5) shapeCasts_S1280x1_S1280x1) _).trans (congrFun (ld_all (e := .i32) x1 _) (ix2 r 0))
  show Scalar.select (IntOp.cmpi .sge (k0_pay11 (F := Ideal) (View.ld x1 r0_5) (ix2 r 0)) k) _ _ = _
  rw [e]; rfl

theorem mix_apply (r : Fin 1280) (c : Fin 1024) : k0_pay15 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix2 r c) = (args x0 x1 x2 x3 x4 x5 x6 x7 x8 x9 x10 x11 x12 x13).mix r c := by
  have ht := taps_apply x0 x1 x2 x3 x4 x5 x6 x7 x8 x9 x10 x11 x12 x13
  have hl := live_apply x0 x1 x2 x3 x4 x5 x6 x7 x8 x9 x10 x11 x12 x13
  have hr : ∀ (j n : ℕ) (hjn : j + n = 1280) (h1 h2 h3), concatenate S1280x1024 0 [⟨(⟨2, ![j, 1024]⟩ : Shape), extractStridedSlice (⟨2, ![j, 1024]⟩ : Shape) ![n, 0] (k0_pay36 x0 x1 x2 x3 x4 x5 x6 x7 x8 x9 x10 x11 x12 x13) h1⟩,
      ⟨(⟨2, ![n, 1024]⟩ : Shape), extractStridedSlice (⟨2, ![n, 1024]⟩ : Shape) ![0, 0] (k0_pay36 x0 x1 x2 x3 x4 x5 x6 x7 x8 x9 x10 x11 x12 x13) h2⟩] h3 (ix2 r c) = (args x0 x1 x2 x3 x4 x5 x6 x7 x8 x9 x10 x11 x12 x13).bx (Spec.back j r) c :=
    fun j n hjn h1 h2 h3 => (roll_apply j n hjn (k0_pay36 x0 x1 x2 x3 x4 x5 x6 x7 x8 x9 x10 x11 x12 x13) h1 h2 h3 r c).trans (bx_apply x0 x1 x2 x3 x4 x5 x6 x7 x8 x9 x10 x11 x12 x13 _ c)
  unfold Spec.Args.mix Spec.Weights.mix Spec.Args.conv Spec.Weights.conv
  rw [← gate_apply x0 x1 x2 x3 x4 x5 x6 x7 x8 x9 x10 x11 x12 x13 r c, ← bx_apply x0 x1 x2 x3 x4 x5 x6 x7 x8 x9 x10 x11 x12 x13 r c, ← hr 1 1279 rfl slices_S1280x1024_o1279_0_S1x1024 slices_S1280x1024_o0_0_S1279x1024 concatenates_S1x1024_S1279x1024_S1280x1024_d0,
    ← hr 2 1278 rfl slices_S1280x1024_o1278_0_S2x1024 slices_S1280x1024_o0_0_S1278x1024 concatenates_S2x1024_S1278x1024_S1280x1024_d0,
    ← hr 3 1277 rfl slices_S1280x1024_o1277_0_S3x1024 slices_S1280x1024_o0_0_S1277x1024 concatenates_S3x1024_S1277x1024_S1280x1024_d0,
    ← ht 3 3 rfl slices_S4x1024_o3_0_S1x1024 broadcasts_S1x1024_S1280x1024 r c, ← ht 2 2 rfl slices_S4x1024_o2_0_S1x1024 broadcasts_S1x1024_S1280x1024 r c,
    ← ht 1 1 rfl slices_S4x1024_o1_0_S1x1024 broadcasts_S1x1024_S1280x1024 r c, ← ht 0 0 rfl slices_S4x1024_o0_0_S1x1024 broadcasts_S1x1024_S1280x1024 r c,
    ← hl 1#32 broadcasts_S1280x1_S1280x1024 r c, ← hl 2#32 broadcasts_S1280x1_S1280x1024 r c, ← hl 3#32 broadcasts_S1280x1_S1280x1024 r c]
  rfl

theorem scale2_apply (r : Fin 1280) (u : Fin 1) : k0_pay16 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix2 r u) = Spec.scale ((args x0 x1 x2 x3 x4 x5 x6 x7 x8 x9 x10 x11 x12 x13).mix r) := by
  have h := rowMax (k0_pay15 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13)) reduces_S1280x1024_S1280 (.inl rfl) rfl shapeCasts_S1280_S1280x1 r u
  rw [show (fun k => k0_pay15 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix2 r k)) = (args x0 x1 x2 x3 x4 x5 x6 x7 x8 x9 x10 x11 x12 x13).mix r from funext fun k => mix_apply x0 x1 x2 x3 x4 x5 x6 x7 x8 x9 x10 x11 x12 x13 r k] at h
  unfold Spec.scale
  rw [← h]
  exact scale_apply (shapeCast S1280x1 (multiReduction .maximumf [1] S1280 (absf (k0_pay15 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13))) 0xFF800000#32 reduces_S1280x1024_S1280 (.inl rfl) rfl) shapeCasts_S1280_S1280x1) r u

theorem code2_apply (r : Fin 1280) (k : Fin 1024) : k0_pay17 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix2 r k) = Spec.code ((args x0 x1 x2 x3 x4 x5 x6 x7 x8 x9 x10 x11 x12 x13).mix r) k :=
  (code_div (k0_pay15 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13)) (k0_pay16 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13)) _ r k).trans (by
    rw [scale2_apply, mix_apply]; rfl)

end Cert.ReferenceIdeal.Body

end
-- ==== Proof.RefFfn.lean ====
/- The reference's block over the extended reals, second part: the row after the convolution's branch, its norm, the
   feed-forward network and the result. -/
module

public import proofs.«01_k».proof.Proof.RefRows

@[expose] public section

noncomputable section

namespace Cert.ReferenceIdeal.Body

open Cert.ReferenceIdeal Cert.ReferenceIdeal.Gen
open Idealize.ShloMosaic Idealize.ShloMosaic.ValueIdx Cert.Rows
open scoped BigOperators

variable (x0 : Vec Ideal S1280x1024 .bf16) (x1 : Vec Ideal S1280x1 .i32) (x2 : Vec Ideal S1x1024 .f32) (x3 : Vec Ideal S1024x3072 .i8) (x4 : Vec Ideal S1x3072 .f32) (x5 : Vec Ideal S4x1024 .f32) (x6 : Vec Ideal S1024x1024 .i8) (x7 : Vec Ideal S1x1024 .f32) (x8 : Vec Ideal S1x1024 .f32) (x9 : Vec Ideal S1024x4608 .i8) (x10 : Vec Ideal S1024x4608 .i8) (x11 : Vec Ideal S2x4608 .f32) (x12 : Vec Ideal S4608x1024 .i8) (x13 : Vec Ideal S1x1024 .f32)

theorem hid_apply (r : Fin 1280) (c : Fin 1024) : (k0_pay40 x0 x1 x2 x3 x4 x5 x6 x7 x8 x9 x10 x11 x12 x13) (ix2 r c) = (args x0 x1 x2 x3 x4 x5 x6 x7 x8 x9 x10 x11 x12 x13).hid r c := by
  refine (congrArg₂ (fun a b : EReal => a + b) (xf_apply x0 x1 x2 x3 x4 x5 x6 x7 x8 x9 x10 x11 x12 x13 r c) (lin_apply _ dot_out (k0_pay17 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13)) (View.ld x6 r0_6) (k0_pay16 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13))
    (shapeCast S1x1024 (View.ld x7 r0_1) shapeCasts_S1x1024_S1x1024) broadcasts_S1280x1_S1280x1024 broadcasts_S1x1024_S1280x1024 r c)).trans ?_
  unfold Spec.Args.hid Spec.Weights.hid
  rw [scale2_apply, show (fun k => k0_pay17 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13) (k0_pay39 x0 x1 x2 x3 x4 x5 x6 x7 x8 x9 x10 x11 x12 x13) (ix2 r k)) = Spec.code ((args x0 x1 x2 x3 x4 x5 x6 x7 x8 x9 x10 x11 x12 x13).mix r) from funext fun k => code2_apply x0 x1 x2 x3 x4 x5 x6 x7 x8 x9 x10 x11 x12 x13 r k]
  refine congrArg (fun z : EReal => (args x0 x1 x2 x3 x4 x5 x6 x7 x8 x9 x10 x11 x12 x13).x r c + z) (Spec.lin_col _ _ _ _ _ _ _ _ (fun k => ?_) ?_)
  · exact congrFun (ld_all (e := .i8) x6 _) (ix2 k c)
  · refine (congrFun (shapeCast_self (s := S1x1024) _ _) _).trans ?_
    exact congrFun (ld_all (e := .f32) x7 _) (ix2 0 c)

theorem norm2_apply (r : Fin 1280) (k : Fin 1024) : k0_pay22 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix2 r k) = (args x0 x1 x2 x3 x4 x5 x6 x7 x8 x9 x10 x11 x12 x13).norm2 r k := by
  refine (norm_div (k0_pay40 x0 x1 x2 x3 x4 x5 x6 x7 x8 x9 x10 x11 x12 x13) (shapeCast S1x1024 (View.ld x8 r0_1) shapeCasts_S1x1024_S1x1024) _ _ _ r k (root_apply (k0_pay40 x0 x1 x2 x3 x4 x5 x6 x7 x8 x9 x10 x11 x12 x13) _ _ _ _ r 0)).trans ?_
  rw [show (fun k => (k0_pay40 x0 x1 x2 x3 x4 x5 x6 x7 x8 x9 x10 x11 x12 x13) (ix2 r k)) = (args x0 x1 x2 x3 x4 x5 x6 x7 x8 x9 x10 x11 x12 x13).hid r from funext fun k => hid_apply x0 x1 x2 x3 x4 x5 x6 x7 x8 x9 x10 x11 x12 x13 r k]
  refine congrArg (fun w => Spec.norm ((args x0 x1 x2 x3 x4 x5 x6 x7 x8 x9 x10 x11 x12 x13).hid r) w k) (funext fun k => ?_)
  refine (congrFun (shapeCast_self (s := S1x1024) _ _) _).trans ?_
  exact congrFun (ld_all (e := .f32) x8 _) (ix2 0 k)

theorem scale3_apply (r : Fin 1280) (u : Fin 1) : k0_pay23 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix2 r u) = Spec.scale ((args x0 x1 x2 x3 x4 x5 x6 x7 x8 x9 x10 x11 x12 x13).norm2 r) := by
  have h := rowMax (k0_pay22 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)) reduces_S1280x1024_S1280 (.inl rfl) rfl shapeCasts_S1280_S1280x1 r u
  rw [show (fun k => k0_pay22 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix2 r k)) = (args x0 x1 x2 x3 x4 x5 x6 x7 x8 x9 x10 x11 x12 x13).norm2 r from funext fun k => norm2_apply x0 x1 x2 x3 x4 x5 x6 x7 x8 x9 x10 x11 x12 x13 r k] at h
  unfold Spec.scale
  rw [← h]
  exact scale_apply (shapeCast S1280x1 (multiReduction .maximumf [1] S1280 (absf (k0_pay22 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13))) 0xFF800000#32 reduces_S1280x1024_S1280 (.inl rfl) rfl) shapeCasts_S1280_S1280x1) r u

theorem code3_apply (r : Fin 1280) (k : Fin 1024) : k0_pay24 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix2 r k) = Spec.code ((args x0 x1 x2 x3 x4 x5 x6 x7 x8 x9 x10 x11 x12 x13).norm2 r) k :=
  (code_div (k0_pay22 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)) (k0_pay23 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)) _ r k).trans (by
    rw [scale3_apply, norm2_apply]; rfl)

theorem g_apply (r : Fin 1280) (j : Fin 4608) : (k0_pay44 x0 x1 x2 x3 x4 x5 x6 x7 x8 x9 x10 x11 x12 x13) (ix2 r j) = Spec.lin (Spec.code ((args x0 x1 x2 x3 x4 x5 x6 x7 x8 x9 x10 x11 x12 x13).norm2 r)) (Spec.scale ((args x0 x1 x2 x3 x4 x5 x6 x7 x8 x9 x10 x11 x12 x13).norm2 r)) (args x0 x1 x2 x3 x4 x5 x6 x7 x8 x9 x10 x11 x12 x13).W.wg (args x0 x1 x2 x3 x4 x5 x6 x7 x8 x9 x10 x11 x12 x13).W.sg j := by
  refine (lin_apply _ dot_up (k0_pay24 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)) (shapeCast S1024x4608 (View.ld x9 r0_7) shapeCasts_S1024x4608_S1024x4608) (k0_pay23 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13))
    (View.ld x11 r0_8) broadcasts_S1280x1_S1280x4608 broadcasts_S1x4608_S1280x4608 r j).trans ?_
  rw [scale3_apply, show (fun k => k0_pay24 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix2 r k)) = Spec.code ((args x0 x1 x2 x3 x4 x5 x6 x7 x8 x9 x10 x11 x12 x13).norm2 r) from funext fun k => code3_apply x0 x1 x2 x3 x4 x5 x6 x7 x8 x9 x10 x11 x12 x13 r k]
  refine Spec.lin_col _ _ _ _ _ _ _ _ (fun k => ?_) ?_
  · refine (congrFun (shapeCast_self (s := S1024x4608) _ _) _).trans ?_
    exact congrFun (ld_all (e := .i8) x9 _) (ix2 k j)
  · exact ld_block (e := .f32) x11 0 0 _ 0 j 0 j rfl (by simp)

theorem u_apply (r : Fin 1280) (j : Fin 4608) : (k0_pay45 x0 x1 x2 x3 x4 x5 x6 x7 x8 x9 x10 x11 x12 x13) (ix2 r j) = Spec.lin (Spec.code ((args x0 x1 x2 x3 x4 x5 x6 x7 x8 x9 x10 x11 x12 x13).norm2 r)) (Spec.scale ((args x0 x1 x2 x3 x4 x5 x6 x7 x8 x9 x10 x11 x12 x13).norm2 r)) (args x0 x1 x2 x3 x4 x5 x6 x7 x8 x9 x10 x11 x12 x13).W.wu (args x0 x1 x2 x3 x4 x5 x6 x7 x8 x9 x10 x11 x12 x13).W.su j := by
  refine (lin_apply _ dot_up (k0_pay24 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13)) (shapeCast S1024x4608 (View.ld x10 r0_7) shapeCasts_S1024x4608_S1024x4608) (k0_pay23 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13))
    (View.ld x11 r0_9) broadcasts_S1280x1_S1280x4608 broadcasts_S1x4608_S1280x4608 r j).trans ?_
  rw [scale3_apply, show (fun k => k0_pay24 (k0_pay40 x0 x1 x2 x3 x4 x5 x6 x7 x8 x9 x10 x11 x12 x13) (k0_pay41 x0 x1 x2 x3 x4 x5 x6 x7 x8 x9 x10 x11 x12 x13) (k0_pay42 x0 x1 x2 x3 x4 x5 x6 x7 x8 x9 x10 x11 x12 x13) (k0_pay43 x0 x1 x2 x3 x4 x5 x6 x7 x8 x9 x10 x11 x12 x13) (ix2 r k)) = Spec.code ((args x0 x1 x2 x3 x4 x5 x6 x7 x8 x9 x10 x11 x12 x13).norm2 r) from funext fun k => code3_apply x0 x1 x2 x3 x4 x5 x6 x7 x8 x9 x10 x11 x12 x13 r k]
  refine Spec.lin_col _ _ _ _ _ _ _ _ (fun k => ?_) ?_
  · refine (congrFun (shapeCast_self (s := S1024x4608) _ _) _).trans ?_
    exact congrFun (ld_all (e := .i8) x10 _) (ix2 k j)
  · exact ld_block (e := .f32) x11 1 0 _ 0 j 1 j rfl (by simp)

theorem act_apply (r : Fin 1280) (j : Fin 4608) : k0_pay28 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (ix2 r j) = (args x0 x1 x2 x3 x4 x5 x6 x7 x8 x9 x10 x11 x12 x13).act r j := by
  unfold Spec.Args.act Spec.Weights.act
  rw [← g_apply x0 x1 x2 x3 x4 x5 x6 x7 x8 x9 x10 x11 x12 x13 r j, ← u_apply x0 x1 x2 x3 x4 x5 x6 x7 x8 x9 x10 x11 x12 x13 r j]
  rfl

theorem scale4_apply (r : Fin 1280) (u : Fin 1) : k0_pay29 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (ix2 r u) = Spec.scale ((args x0 x1 x2 x3 x4 x5 x6 x7 x8 x9 x10 x11 x12 x13).act r) := by
  have h := rowMax (k0_pay28 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13)) reduces_S1280x4608_S1280 (.inl rfl) rfl shapeCasts_S1280_S1280x1 r u
  rw [show (fun k => k0_pay28 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (ix2 r k)) = (args x0 x1 x2 x3 x4 x5 x6 x7 x8 x9 x10 x11 x12 x13).act r from funext fun k => act_apply x0 x1 x2 x3 x4 x5 x6 x7 x8 x9 x10 x11 x12 x13 r k] at h
  unfold Spec.scale
  rw [← h]
  exact scale_apply (shapeCast S1280x1 (multiReduction .maximumf [1] S1280 (absf (k0_pay28 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13))) 0xFF800000#32 reduces_S1280x4608_S1280 (.inl rfl) rfl) shapeCasts_S1280_S1280x1) r u

theorem code4_apply (r : Fin 1280) (k : Fin 4608) : k0_pay30 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (ix2 r k) = Spec.code ((args x0 x1 x2 x3 x4 x5 x6 x7 x8 x9 x10 x11 x12 x13).act r) k :=
  (code_div (k0_pay28 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13)) (k0_pay29 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13)) _ r k).trans (by
    rw [scale4_apply, act_apply]; rfl)

theorem out_apply (r : Fin 1280) (c : Fin 1024) : k0_pay31 (k0_pay40 x0 x1 x2 x3 x4 x5 x6 x7 x8 x9 x10 x11 x12 x13) (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (View.ld x12 r0_10) (View.ld x13 r0_1) (ix2 r c) = (args x0 x1 x2 x3 x4 x5 x6 x7 x8 x9 x10 x11 x12 x13).out r c := by
  refine (congrArg₂ (fun a b : EReal => a + b) (hid_apply x0 x1 x2 x3 x4 x5 x6 x7 x8 x9 x10 x11 x12 x13 r c) (lin_apply _ dot_down (k0_pay30 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13)) (View.ld x12 r0_10) (k0_pay29 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13))
    (shapeCast S1x1024 (View.ld x13 r0_1) shapeCasts_S1x1024_S1x1024) broadcasts_S1280x1_S1280x1024 broadcasts_S1x1024_S1280x1024 r c)).trans ?_
  unfold Spec.Args.out Spec.Weights.out
  rw [scale4_apply, show (fun k => k0_pay30 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (ix2 r k)) = Spec.code ((args x0 x1 x2 x3 x4 x5 x6 x7 x8 x9 x10 x11 x12 x13).act r) from funext fun k => code4_apply x0 x1 x2 x3 x4 x5 x6 x7 x8 x9 x10 x11 x12 x13 r k]
  refine congrArg (fun z : EReal => (args x0 x1 x2 x3 x4 x5 x6 x7 x8 x9 x10 x11 x12 x13).hid r c + z) (Spec.lin_col _ _ _ _ _ _ _ _ (fun k => ?_) ?_)
  · exact congrFun (ld_all (e := .i8) x12 _) (ix2 k c)
  · refine (congrFun (shapeCast_self (s := S1x1024) _ _) _).trans ?_
    exact congrFun (ld_all (e := .f32) x13 _) (ix2 0 c)

end Cert.ReferenceIdeal.Body

end
-- ==== Proof.RefArgs.lean ====
/- The reference's blocks in terms of its arguments: every block is a whole argument, some reshaped, transposed or cut before the
   call, and each position's distance from its sequence's start is computed before it. -/
module

public import proofs.«01_k».proof.Proof.HostWords
public import proofs.«01_k».proof.Proof.RefFfn
public import Idealize.ShloMosaic.Lib.Pipeline.ValueKit
public import Idealize.ShloMosaic.Lib.StableHlo.RunRead

@[expose] public section

set_option maxRecDepth 16384

noncomputable section

namespace Cert.ReferenceIdeal.Body

open Cert.ReferenceIdeal Cert.ReferenceIdeal.Gen
open Idealize.ShloMosaic hiding ix1 ix2 ix3 eq_ix2 eq_ix3
open Idealize.ShloMosaic.TcCoe Idealize.ShloMosaic.ValueIdx Idealize.ShloMosaic.Tactic

theorem z0 (t : Fin cfg0.N) : ∀ a, win0_0.index t a = 0 := fun _ => rfl
theorem z1 (t : Fin cfg0.N) : ∀ a, win0_1.index t a = 0 := fun _ => rfl
theorem z2 (t : Fin cfg0.N) : ∀ a, win0_2.index t a = 0 := fun _ => rfl
theorem z3 (t : Fin cfg0.N) : ∀ a, win0_3.index t a = 0 := fun _ => rfl
theorem z4 (t : Fin cfg0.N) : ∀ a, win0_4.index t a = 0 := fun _ => rfl
theorem z5 (t : Fin cfg0.N) : ∀ a, win0_5.index t a = 0 := fun _ => rfl
theorem z6 (t : Fin cfg0.N) : ∀ a, win0_6.index t a = 0 := fun _ => rfl
theorem z7 (t : Fin cfg0.N) : ∀ a, win0_7.index t a = 0 := fun _ => rfl
theorem z8 (t : Fin cfg0.N) : ∀ a, win0_8.index t a = 0 := fun _ => rfl
theorem z9 (t : Fin cfg0.N) : ∀ a, win0_9.index t a = 0 := fun _ => rfl
theorem z10 (t : Fin cfg0.N) : ∀ a, win0_10.index t a = 0 := fun _ => rfl
theorem z11 (t : Fin cfg0.N) : ∀ a, win0_11.index t a = 0 := fun _ => rfl
theorem z12 (t : Fin cfg0.N) : ∀ a, win0_12.index t a = 0 := fun _ => rfl
theorem z13 (t : Fin cfg0.N) : ∀ a, win0_13.index t a = 0 := fun _ => rfl

variable (m : (ℓ : Loc nD τ sig) → Buf (Elt Ideal) ℓ) (c : Dev nD)

/-- The reference's arguments. -/
def inputs : Spec.Inputs where
  x := m ((c : Thread nD τ).loc main_arg0)
  cu := m ((c : Thread nD τ).loc main_arg1)
  n1 := m ((c : Thread nD τ).loc main_arg2)
  win := m ((c : Thread nD τ).loc main_arg3)
  sin := m ((c : Thread nD τ).loc main_arg4)
  taps := m ((c : Thread nD τ).loc main_arg5)
  wout := m ((c : Thread nD τ).loc main_arg6)
  sout := m ((c : Thread nD τ).loc main_arg7)
  n2 := m ((c : Thread nD τ).loc main_arg8)
  wgu := m ((c : Thread nD τ).loc main_arg9)
  sgu := m ((c : Thread nD τ).loc main_arg10)
  wdn := m ((c : Thread nD τ).loc main_arg11)
  sdn := m ((c : Thread nD τ).loc main_arg12)

theorem V_main_v13 (k : Fin 1024) : V m c main_v13 (ix2 0 k) = m ((c : Thread nD τ).loc main_arg2) (ix1 k) := by
  show StableHlo.after (List.flatten [hostOps0, hostOps0_1, hostOps0_2]) (fun b => m (c, b)) (Proc.devRef .tc main_v13) (ix2 0 k) = _
  simp only [hostOps0, hostOps0_1, hostOps0_2, List.flatten_cons, List.flatten_nil, List.append_nil, List.cons_append, List.nil_append]
  after_reads_simp
  exact congrArg (m ((c : Thread nD τ).loc main_arg2)) (funext fun d => by fin_cases d; rfl)
theorem V_main_v14 (k : Fin 3072) : V m c main_v14 (ix2 0 k) = m ((c : Thread nD τ).loc main_arg4) (ix1 k) := by
  show StableHlo.after (List.flatten [hostOps0, hostOps0_1, hostOps0_2]) (fun b => m (c, b)) (Proc.devRef .tc main_v14) (ix2 0 k) = _
  simp only [hostOps0, hostOps0_1, hostOps0_2, List.flatten_cons, List.flatten_nil, List.append_nil, List.cons_append, List.nil_append]
  after_reads_simp
  exact congrArg (m ((c : Thread nD τ).loc main_arg4)) (funext fun d => by fin_cases d; rfl)
theorem V_main_v16 (k : Fin 1024) : V m c main_v16 (ix2 0 k) = m ((c : Thread nD τ).loc main_arg7) (ix1 k) := by
  show StableHlo.after (List.flatten [hostOps0, hostOps0_1, hostOps0_2]) (fun b => m (c, b)) (Proc.devRef .tc main_v16) (ix2 0 k) = _
  simp only [hostOps0, hostOps0_1, hostOps0_2, List.flatten_cons, List.flatten_nil, List.append_nil, List.cons_append, List.nil_append]
  after_reads_simp
  exact congrArg (m ((c : Thread nD τ).loc main_arg7)) (funext fun d => by fin_cases d; rfl)
theorem V_main_v17 (k : Fin 1024) : V m c main_v17 (ix2 0 k) = m ((c : Thread nD τ).loc main_arg8) (ix1 k) := by
  show StableHlo.after (List.flatten [hostOps0, hostOps0_1, hostOps0_2]) (fun b => m (c, b)) (Proc.devRef .tc main_v17) (ix2 0 k) = _
  simp only [hostOps0, hostOps0_1, hostOps0_2, List.flatten_cons, List.flatten_nil, List.append_nil, List.cons_append, List.nil_append]
  after_reads_simp
  exact congrArg (m ((c : Thread nD τ).loc main_arg8)) (funext fun d => by fin_cases d; rfl)
theorem V_main_v22 (k : Fin 1024) : V m c main_v22 (ix2 0 k) = m ((c : Thread nD τ).loc main_arg12) (ix1 k) := by
  show StableHlo.after (List.flatten [hostOps0, hostOps0_1, hostOps0_2]) (fun b => m (c, b)) (Proc.devRef .tc main_v22) (ix2 0 k) = _
  simp only [hostOps0, hostOps0_1, hostOps0_2, List.flatten_cons, List.flatten_nil, List.append_nil, List.cons_append, List.nil_append]
  after_reads_simp
  exact congrArg (m ((c : Thread nD τ).loc main_arg12)) (funext fun d => by fin_cases d; rfl)
theorem V_main_v15 (a : Fin 4) (k : Fin 1024) : V m c main_v15 (ix2 a k) = m ((c : Thread nD τ).loc main_arg5) (ix2 k a) := by
  show StableHlo.after (List.flatten [hostOps0, hostOps0_1, hostOps0_2]) (fun b => m (c, b)) (Proc.devRef .tc main_v15) (ix2 a k) = _
  simp only [hostOps0, hostOps0_1, hostOps0_2, List.flatten_cons, List.flatten_nil, List.append_nil, List.cons_append, List.nil_append]
  after_reads_simp
  exact congrArg (m ((c : Thread nD τ).loc main_arg5)) (funext fun d => by fin_cases d <;> rfl)
theorem V_main_v19 (k : Fin 1024) (j : Fin 4608) : V m c main_v19 (ix2 k j) = m ((c : Thread nD τ).loc main_arg9) (ix3 k 0 j) := by
  show StableHlo.after (List.flatten [hostOps0, hostOps0_1, hostOps0_2]) (fun b => m (c, b)) (Proc.devRef .tc main_v19) (ix2 k j) = _
  simp only [hostOps0, hostOps0_1, hostOps0_2, List.flatten_cons, List.flatten_nil, List.append_nil, List.cons_append, List.nil_append]
  after_reads_simp
  refine (shapeCast_apply _ shapeCasts_S1024x1x4608_S1024x4608 (ix2 k j) (ix3 (n0 := 1024) (n1 := 1) (n2 := 4608) k 0 j) ?_).trans ?_
  · rw [Shape.rowMajor_val_two, Shape.rowMajor_val_three]
    show (k.val * 1 + 0) * 4608 + j.val = k.val * 4608 + j.val
    omega
  · exact extractStridedSlice_apply _ _ _ _ (ix3 k 0 j) (fun a => by fin_cases a <;> first | rfl | exact (Nat.zero_add _).symm)
theorem V_main_v21 (k : Fin 1024) (j : Fin 4608) : V m c main_v21 (ix2 k j) = m ((c : Thread nD τ).loc main_arg9) (ix3 k 1 j) := by
  show StableHlo.after (List.flatten [hostOps0, hostOps0_1, hostOps0_2]) (fun b => m (c, b)) (Proc.devRef .tc main_v21) (ix2 k j) = _
  simp only [hostOps0, hostOps0_1, hostOps0_2, List.flatten_cons, List.flatten_nil, List.append_nil, List.cons_append, List.nil_append]
  after_reads_simp
  refine (shapeCast_apply _ shapeCasts_S1024x1x4608_S1024x4608 (ix2 k j) (ix3 (n0 := 1024) (n1 := 1) (n2 := 4608) k 0 j) ?_).trans ?_
  · rw [Shape.rowMajor_val_two, Shape.rowMajor_val_three]
    show (k.val * 1 + 0) * 4608 + j.val = k.val * 4608 + j.val
    omega
  · exact extractStridedSlice_apply _ _ _ _ (ix3 k 1 j) (fun a => by fin_cases a <;> first | rfl | exact (Nat.zero_add _).symm)

/-- A position's start as a maximum over the inner boundaries. -/
theorem start_eq (t : BitVec 32) (cu : Vec Ideal S7 .i32) (g : Fin 5 → BitVec 32)
    (hg : ∀ a : Fin 5, g a = Scalar.select (IntOp.cmpi .sge t (cu (ix1 (⟨a.val + 1, by omega⟩ : Fin 7)))) (cu (ix1 (⟨a.val + 1, by omega⟩ : Fin 7))) 0#32) :
    IntOp.maxsi 0#32 ((Finset.univ : Finset (Fin 5)).fold IntOp.maxsi 2147483648#32 g)
      = Spec.start t (cu (ix1 1)) (cu (ix1 2)) (cu (ix1 3)) (cu (ix1 4)) (cu (ix1 5)) := by
  rw [fold_five, hg, hg, hg, hg, hg]
  rfl

/-- Each position's distance from its sequence's start. -/
theorem V_main_v12 (t : Fin 1280) : V m c main_v12 (ix2 t 0) = (inputs m c).args.pos t := by
  show StableHlo.after (List.flatten [hostOps0, hostOps0_1, hostOps0_2]) (fun b => m (c, b)) (Proc.devRef .tc main_v12) (ix2 t 0) = _
  simp only [hostOps0, hostOps0_1, hostOps0_2, List.flatten_cons, List.flatten_nil, List.append_nil, List.cons_append, List.nil_append]
  after_reads_simp
  show IntOp.subi (BitVec.ofNat 32 t.val) (IntOp.maxsi 0#32 (Host.reduce IntOp.maxsi _ _ reducesTo_S1280x5_S1280_d1 h_S_ _)) = _
  rw [Host.reduce_eq_fold_single IntOp.maxsi _ _ reducesTo_S1280x5_S1280_d1 (by decide) h_S_]
  refine congrArg (IntOp.subi (BitVec.ofNat 32 t.val)) (start_eq (BitVec.ofNat 32 t.val) (inputs m c).cu _ fun a => ?_)
  refine congrArg₂ (fun u w : BitVec 32 => Scalar.select (IntOp.cmpi .sge u w) w 0#32) ?_ ?_
  · rfl
  · refine congrArg (m ((c : Thread nD τ).loc main_arg1)) (funext fun d => ?_)
    fin_cases d
    refine Fin.ext ?_
    show 1 + _ = _
    exact Nat.add_comm _ _

variable (t : Fin cfg0.N)

theorem blk0 (r : Fin 1280) (k : Fin 1024) : iblk m c 0 t (ix2 r k) = (inputs m c).x (ix2 r k) := by
  show V m c main_arg0 ((win0_0.blk t).view.emb (ix2 r k)) = _
  rw [show (win0_0.blk t).view.emb (ix2 r k) = ix2 r k from by blk_ext [z0]]
  exact congrFun (V_main_arg0 m c) _

theorem blk1 (r : Fin 1280) : iblk m c 1 t (ix2 r 0) = (inputs m c).args.pos r := by
  show V m c main_v12 ((win0_1.blk t).view.emb (ix2 r 0)) = _
  rw [show (win0_1.blk t).view.emb (ix2 r 0) = ix2 r 0 from by blk_ext [z1]]
  exact V_main_v12 m c r

theorem blk2 (k : Fin 1024) : iblk m c 2 t (ix2 0 k) = (inputs m c).n1 (ix1 k) := by
  show V m c main_v13 ((win0_2.blk t).view.emb (ix2 0 k)) = _
  rw [show (win0_2.blk t).view.emb (ix2 0 k) = ix2 0 k from by blk_ext [z2]]
  exact V_main_v13 m c k

theorem blk4 (k : Fin 3072) : iblk m c 4 t (ix2 0 k) = (inputs m c).sin (ix1 k) := by
  show V m c main_v14 ((win0_4.blk t).view.emb (ix2 0 k)) = _
  rw [show (win0_4.blk t).view.emb (ix2 0 k) = ix2 0 k from by blk_ext [z4]]
  exact V_main_v14 m c k

theorem blk7 (k : Fin 1024) : iblk m c 7 t (ix2 0 k) = (inputs m c).sout (ix1 k) := by
  show V m c main_v16 ((win0_7.blk t).view.emb (ix2 0 k)) = _
  rw [show (win0_7.blk t).view.emb (ix2 0 k) = ix2 0 k from by blk_ext [z7]]
  exact V_main_v16 m c k

theorem blk8 (k : Fin 1024) : iblk m c 8 t (ix2 0 k) = (inputs m c).n2 (ix1 k) := by
  show V m c main_v17 ((win0_8.blk t).view.emb (ix2 0 k)) = _
  rw [show (win0_8.blk t).view.emb (ix2 0 k) = ix2 0 k from by blk_ext [z8]]
  exact V_main_v17 m c k

theorem blk13 (k : Fin 1024) : iblk m c 13 t (ix2 0 k) = (inputs m c).sdn (ix1 k) := by
  show V m c main_v22 ((win0_13.blk t).view.emb (ix2 0 k)) = _
  rw [show (win0_13.blk t).view.emb (ix2 0 k) = ix2 0 k from by blk_ext [z13]]
  exact V_main_v22 m c k

theorem blk3 (k : Fin 1024) (j : Fin 3072) : iblk m c 3 t (ix2 k j) = (inputs m c).win (ix2 k j) := by
  show V m c main_arg3 ((win0_3.blk t).view.emb (ix2 k j)) = _
  rw [show (win0_3.blk t).view.emb (ix2 k j) = ix2 k j from by blk_ext [z3]]
  exact congrFun (V_main_arg3 m c) _

theorem blk6 (k : Fin 1024) (j : Fin 1024) : iblk m c 6 t (ix2 k j) = (inputs m c).wout (ix2 k j) := by
  show V m c main_arg6 ((win0_6.blk t).view.emb (ix2 k j)) = _
  rw [show (win0_6.blk t).view.emb (ix2 k j) = ix2 k j from by blk_ext [z6]]
  exact congrFun (V_main_arg6 m c) _

theorem blk11 (k : Fin 2) (j : Fin 4608) : iblk m c 11 t (ix2 k j) = (inputs m c).sgu (ix2 k j) := by
  show V m c main_arg10 ((win0_11.blk t).view.emb (ix2 k j)) = _
  rw [show (win0_11.blk t).view.emb (ix2 k j) = ix2 k j from by blk_ext [z11]]
  exact congrFun (V_main_arg10 m c) _

theorem blk12 (k : Fin 4608) (j : Fin 1024) : iblk m c 12 t (ix2 k j) = (inputs m c).wdn (ix2 k j) := by
  show V m c main_arg11 ((win0_12.blk t).view.emb (ix2 k j)) = _
  rw [show (win0_12.blk t).view.emb (ix2 k j) = ix2 k j from by blk_ext [z12]]
  exact congrFun (V_main_arg11 m c) _

theorem blk5 (a : Fin 4) (k : Fin 1024) : iblk m c 5 t (ix2 a k) = (inputs m c).taps (ix2 k a) := by
  show V m c main_v15 ((win0_5.blk t).view.emb (ix2 a k)) = _
  rw [show (win0_5.blk t).view.emb (ix2 a k) = ix2 a k from by blk_ext [z5]]
  exact V_main_v15 m c a k

theorem blk9 (k : Fin 1024) (j : Fin 4608) : iblk m c 9 t (ix2 k j) = (inputs m c).wgu (ix3 k 0 j) := by
  show V m c main_v19 ((win0_9.blk t).view.emb (ix2 k j)) = _
  rw [show (win0_9.blk t).view.emb (ix2 k j) = ix2 k j from by blk_ext [z9]]
  exact V_main_v19 m c k j

theorem blk10 (k : Fin 1024) (j : Fin 4608) : iblk m c 10 t (ix2 k j) = (inputs m c).wgu (ix3 k 1 j) := by
  show V m c main_v21 ((win0_10.blk t).view.emb (ix2 k j)) = _
  rw [show (win0_10.blk t).view.emb (ix2 k j) = ix2 k j from by blk_ext [z10]]
  exact V_main_v21 m c k j

/-- The call's blocks hold the block's arguments. -/
theorem args_eq : args (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = (inputs m c).args := by
  unfold args
  simp only [blk0, blk1, blk2, blk3, blk4, blk5, blk6, blk7, blk8, blk9, blk10, blk11, blk12, blk13]
  rfl

end Cert.ReferenceIdeal.Body

end
-- ==== Proof.RefArrays.lean ====
/- The reference call's output arrays: each is one whole block, of the mathematics over all positions. -/
module

public import proofs.«01_k».proof.Proof.RefArgs

@[expose] public section

set_option maxRecDepth 16384

noncomputable section

namespace Cert.ReferenceIdeal.Body

open Cert.ReferenceIdeal Cert.ReferenceIdeal.Gen
open Idealize.ShloMosaic hiding ix1 ix2 ix3 eq_ix2 eq_ix3
open Idealize.ShloMosaic.TcCoe Idealize.ShloMosaic.ValueIdx Idealize.ShloMosaic.Tactic

theorem z14 (t : Fin cfg0.N) : ∀ a, win0_14.index t a = 0 := fun _ => rfl
theorem z15 (t : Fin cfg0.N) : ∀ a, win0_15.index t a = 0 := fun _ => rfl
theorem z16 (t : Fin cfg0.N) : ∀ a, win0_16.index t a = 0 := fun _ => rfl
theorem z17 (t : Fin cfg0.N) : ∀ a, win0_17.index t a = 0 := fun _ => rfl
theorem z18 (t : Fin cfg0.N) : ∀ a, win0_18.index t a = 0 := fun _ => rfl
theorem z19 (t : Fin cfg0.N) : ∀ a, win0_19.index t a = 0 := fun _ => rfl
theorem z20 (t : Fin cfg0.N) : ∀ a, win0_20.index t a = 0 := fun _ => rfl
theorem z21 (t : Fin cfg0.N) : ∀ a, win0_21.index t a = 0 := fun _ => rfl
theorem z22 (t : Fin cfg0.N) : ∀ a, win0_22.index t a = 0 := fun _ => rfl
theorem z23 (t : Fin cfg0.N) : ∀ a, win0_23.index t a = 0 := fun _ => rfl

variable (m : (ℓ : Loc nD τ sig) → Buf (Elt Ideal) ℓ) (c : Dev nD)

theorem two_zero : (![0, 0] : Fin 2 → ℕ) = fun _ => 0 := funext fun a => by fin_cases a <;> rfl

/-- A number per position, as a column. -/
def column (f : Fin 1280 → EReal) : Vec Ideal S1280x1 .f32 := fun i => f (i 0)

/-- The convolution's input, as an array. -/
def bxArr (I : Spec.Inputs) : Vec Ideal S1280x1024 .f32 := fun i => I.args.bx (i 0) (i 1)

/-- A column in one row is the positions in order. -/
theorem column_row (f : Fin 1280 → EReal) (h : S1280x1.ShapeCasts S1280) : shapeCast S1280 (column f) h = Spec.Inputs.row f := by
  funext y
  refine (shapeCast_apply (column f) h y (ix2 (n0 := 1280) (n1 := 1) (y 0) 0) ?_).trans rfl
  rw [Shape.rowMajor_val_two, Shape.rowMajor_val_one]
  show (y 0).val * 1 + 0 = (y 0).val
  omega

theorem arr14 : (dats m 0 c).arrAt 14 cfg0.N = (inputs m c).out := by
  refine (dats m 0 c).arrAt_eq_of_covers 14 _ (by decide +kernel) fun t hf y => ?_
  blk_simp
  rw [after0_14]
  obtain ⟨r, k, rfl⟩ : ∃ (r : Fin 1280) (k : Fin 1024), y = ix2 r k := ⟨y 0, y 1, eq_ix2 y⟩
  rw [show (win0_14.blk t).view.emb (ix2 r k) = ix2 r k from by blk_ext [z14]]
  unfold out0_14
  refine (congrFun (View.canon_cons_unit_zero (S := S1280x1024) two_zero inb_S1280x1024_S1280x1024_0_0 _ []) _).trans ?_
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr15 : (dats m 0 c).arrAt 15 cfg0.N = bxArr (inputs m c) := by
  refine (dats m 0 c).arrAt_eq_of_covers 15 _ (by decide +kernel) fun t hf y => ?_
  blk_simp
  rw [after0_15]
  obtain ⟨r, k, rfl⟩ : ∃ (r : Fin 1280) (k : Fin 1024), y = ix2 r k := ⟨y 0, y 1, eq_ix2 y⟩
  rw [show (win0_15.blk t).view.emb (ix2 r k) = ix2 r k from by blk_ext [z15]]
  unfold out0_15
  refine (congrFun (View.canon_cons_unit_zero (S := S1280x1024) two_zero inb_S1280x1024_S1280x1024_0_0 _ []) _).trans ?_
  refine (bx_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr16 : (dats m 0 c).arrAt 16 cfg0.N = (inputs m c).code1 := by
  refine (dats m 0 c).arrAt_eq_of_covers 16 _ (by decide +kernel) fun t hf y => ?_
  blk_simp
  rw [after0_16]
  obtain ⟨r, k, rfl⟩ : ∃ (r : Fin 1280) (k : Fin 1024), y = ix2 r k := ⟨y 0, y 1, eq_ix2 y⟩
  rw [show (win0_16.blk t).view.emb (ix2 r k) = ix2 r k from by blk_ext [z16]]
  unfold out0_16
  refine (congrFun (View.canon_cons_unit_zero (S := S1280x1024) two_zero inb_S1280x1024_S1280x1024_0_0 _ []) _).trans ?_
  refine (code1_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr17 : (dats m 0 c).arrAt 17 cfg0.N = column (inputs m c).scale1 := by
  refine (dats m 0 c).arrAt_eq_of_covers 17 _ (by decide +kernel) fun t hf y => ?_
  blk_simp
  rw [after0_17]
  obtain ⟨r, k, rfl⟩ : ∃ (r : Fin 1280) (k : Fin 1), y = ix2 r k := ⟨y 0, y 1, eq_ix2 y⟩
  rw [show (win0_17.blk t).view.emb (ix2 r k) = ix2 r k from by blk_ext [z17]]
  unfold out0_17
  refine (congrFun (View.canon_cons_unit_zero (S := S1280x1) two_zero inb_S1280x1_S1280x1_0_0 _ []) _).trans ?_
  refine (scale1_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr18 : (dats m 0 c).arrAt 18 cfg0.N = (inputs m c).code2 := by
  refine (dats m 0 c).arrAt_eq_of_covers 18 _ (by decide +kernel) fun t hf y => ?_
  blk_simp
  rw [after0_18]
  obtain ⟨r, k, rfl⟩ : ∃ (r : Fin 1280) (k : Fin 1024), y = ix2 r k := ⟨y 0, y 1, eq_ix2 y⟩
  rw [show (win0_18.blk t).view.emb (ix2 r k) = ix2 r k from by blk_ext [z18]]
  unfold out0_18
  refine (congrFun (View.canon_cons_unit_zero (S := S1280x1024) two_zero inb_S1280x1024_S1280x1024_0_0 _ []) _).trans ?_
  refine (code2_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr19 : (dats m 0 c).arrAt 19 cfg0.N = column (inputs m c).scale2 := by
  refine (dats m 0 c).arrAt_eq_of_covers 19 _ (by decide +kernel) fun t hf y => ?_
  blk_simp
  rw [after0_19]
  obtain ⟨r, k, rfl⟩ : ∃ (r : Fin 1280) (k : Fin 1), y = ix2 r k := ⟨y 0, y 1, eq_ix2 y⟩
  rw [show (win0_19.blk t).view.emb (ix2 r k) = ix2 r k from by blk_ext [z19]]
  unfold out0_19
  refine (congrFun (View.canon_cons_unit_zero (S := S1280x1) two_zero inb_S1280x1_S1280x1_0_0 _ []) _).trans ?_
  refine (scale2_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr20 : (dats m 0 c).arrAt 20 cfg0.N = (inputs m c).code3 := by
  refine (dats m 0 c).arrAt_eq_of_covers 20 _ (by decide +kernel) fun t hf y => ?_
  blk_simp
  rw [after0_20]
  obtain ⟨r, k, rfl⟩ : ∃ (r : Fin 1280) (k : Fin 1024), y = ix2 r k := ⟨y 0, y 1, eq_ix2 y⟩
  rw [show (win0_20.blk t).view.emb (ix2 r k) = ix2 r k from by blk_ext [z20]]
  unfold out0_20
  refine (congrFun (View.canon_cons_unit_zero (S := S1280x1024) two_zero inb_S1280x1024_S1280x1024_0_0 _ []) _).trans ?_
  refine (code3_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr21 : (dats m 0 c).arrAt 21 cfg0.N = column (inputs m c).scale3 := by
  refine (dats m 0 c).arrAt_eq_of_covers 21 _ (by decide +kernel) fun t hf y => ?_
  blk_simp
  rw [after0_21]
  obtain ⟨r, k, rfl⟩ : ∃ (r : Fin 1280) (k : Fin 1), y = ix2 r k := ⟨y 0, y 1, eq_ix2 y⟩
  rw [show (win0_21.blk t).view.emb (ix2 r k) = ix2 r k from by blk_ext [z21]]
  unfold out0_21
  refine (congrFun (View.canon_cons_unit_zero (S := S1280x1) two_zero inb_S1280x1_S1280x1_0_0 _ []) _).trans ?_
  refine (scale3_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr22 : (dats m 0 c).arrAt 22 cfg0.N = (inputs m c).code4 := by
  refine (dats m 0 c).arrAt_eq_of_covers 22 _ (by decide +kernel) fun t hf y => ?_
  blk_simp
  rw [after0_22]
  obtain ⟨r, k, rfl⟩ : ∃ (r : Fin 1280) (k : Fin 4608), y = ix2 r k := ⟨y 0, y 1, eq_ix2 y⟩
  rw [show (win0_22.blk t).view.emb (ix2 r k) = ix2 r k from by blk_ext [z22]]
  unfold out0_22
  refine (congrFun (View.canon_cons_unit_zero (S := S1280x4608) two_zero inb_S1280x4608_S1280x4608_0_0 _ []) _).trans ?_
  refine (code4_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

theorem arr23 : (dats m 0 c).arrAt 23 cfg0.N = column (inputs m c).scale4 := by
  refine (dats m 0 c).arrAt_eq_of_covers 23 _ (by decide +kernel) fun t hf y => ?_
  blk_simp
  rw [after0_23]
  obtain ⟨r, k, rfl⟩ : ∃ (r : Fin 1280) (k : Fin 1), y = ix2 r k := ⟨y 0, y 1, eq_ix2 y⟩
  rw [show (win0_23.blk t).view.emb (ix2 r k) = ix2 r k from by blk_ext [z23]]
  unfold out0_23
  refine (congrFun (View.canon_cons_unit_zero (S := S1280x1) two_zero inb_S1280x1_S1280x1_0_0 _ []) _).trans ?_
  refine (scale4_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_
  rw [args_eq]
  rfl

end Cert.ReferenceIdeal.Body

end
-- ==== Proof.RefTail.lean ====
/- The reference after its call: the carried state is read from the convolution's input through each sequence's last three
   positions, and the scales are put in one row. -/
module

public import proofs.«01_k».proof.Proof.RefArrays

@[expose] public section

set_option maxRecDepth 16384

noncomputable section

namespace Cert.ReferenceIdeal.Body

open Cert.ReferenceIdeal Cert.ReferenceIdeal.Gen
open Idealize.ShloMosaic hiding ix1 ix2 ix3 eq_ix2 eq_ix3
open Idealize.ShloMosaic.TcCoe Idealize.ShloMosaic.ValueIdx Idealize.ShloMosaic.Tactic
open Idealize.SL.Sem

/-- A row of the carried state, from a position read out of the convolution's input and a test. -/
theorem state_at (I : Spec.Inputs) (b : Fin 6) (k : Fin 3) (j : Fin 1024) (idx : Vec Ideal S6x3x1 .i32) (p : BitVec 1)
    (hp : p = IntOp.cmpi .sge (Words.idx (I.cu (ix1 (⟨b.val + 1, by omega⟩ : Fin 7))) (BitVec.ofNat 32 k.val)) (I.cu (ix1 (⟨b.val, by omega⟩ : Fin 7))))
    (hidx : idx (ix3 b k 0) = Words.clip (I.cu (ix1 (⟨b.val + 1, by omega⟩ : Fin 7))) (BitVec.ofNat 32 k.val)) :
    Scalar.select p (Host.gather gather_S1280x1024_S6x3x1_S6x3x1024_2_0_n_n_0_2_11024 (bxArr I) idx (ix3 b k j)) (Spec.lit 0x00000000#32)
      = I.state (ix3 b k j) := by
  rw [gather_rows, hp, WordCmp.cmpi_sge_eq, Spec.lit_zero]
  unfold Scalar.select Spec.Inputs.state Spec.Args.state
  refine (if_congr (WordCmp.ofBool_decide_eq_one_iff _) ?_ rfl).trans rfl
  refine congrArg (fun t => I.args.bx t j) (Fin.ext ?_)
  show min (idx (ix3 b k 0)).toInt.toNat (1280 - 1) = (Words.clip (I.cu (ix1 (⟨b.val + 1, by omega⟩ : Fin 7))) (BitVec.ofNat 32 k.val)).toNat % 1280
  rw [hidx, clip_toInt]
  have := Words.clip_le (I.cu (ix1 (⟨b.val + 1, by omega⟩ : Fin 7))) (BitVec.ofNat 32 k.val)
  omega

/-- Each sequence's last three positions. -/
def places (cu : Vec Ideal S7 .i32) : Vec Ideal S6x3 .i32 :=
  addi (broadcastInDim S6x3 ![0, 1] bcast_S6x1_S6x3_0_1 (subi (broadcastInDim S6x1 ![0] bcast_S6_S6x1_0 (extractStridedSlice S6 ![1] cu slices_S7_S6_1))
      (broadcastInDim S6x1 ![] bcast_S_S6x1 (constantI S_ 32 3#32))))
    (broadcastInDim S6x3 ![0, 1] bcast_S1x3_S6x3_0_1 (broadcastInDim S1x3 ![1] bcast_S3_S1x3_1 (iotaInDim S3 32 0)))

theorem places_apply (cu : Vec Ideal S7 .i32) (b : Fin 6) (k : Fin 3) :
    places cu (ix2 b k) = Words.idx (cu (ix1 (⟨b.val + 1, by omega⟩ : Fin 7))) (BitVec.ofNat 32 k.val) := by
  refine congrArg (fun u => Words.idx u (BitVec.ofNat 32 k.val)) (congrArg cu (funext fun d => ?_))
  fin_cases d
  exact Fin.ext (Nat.add_comm _ _)

/-- They are clipped to the sequence, -/
def clips (cu : Vec Ideal S7 .i32) : Vec Ideal S6x3 .i32 :=
  minsi (broadcastInDim S6x3 ![] bcast_S_S6x3 (constantI S_ 32 1279#32)) (maxsi (broadcastInDim S6x3 ![] bcast_S_S6x3 (constantI S_ 32 0#32)) (places cu))

theorem clips_apply (cu : Vec Ideal S7 .i32) (b : Fin 6) (k : Fin 3) :
    clips cu (ix2 b k) = Words.clip (cu (ix1 (⟨b.val + 1, by omega⟩ : Fin 7))) (BitVec.ofNat 32 k.val) :=
  congrArg (fun u => IntOp.minsi 1279#32 (IntOp.maxsi 0#32 u)) (places_apply cu b k)

/-- wrapped, which changes nothing, -/
def wraps (cu : Vec Ideal S7 .i32) : Vec Ideal S6x3x1 .i32 :=
  broadcastInDim S6x3x1 ![0, 1] bcast_S6x3_S6x3x1_0_1
    (select (cmpi .slt (clips cu) (broadcastInDim S6x3 ![] bcast_S_S6x3 (constantI S_ 32 0#32)))
      (addi (clips cu) (broadcastInDim S6x3 ![] bcast_S_S6x3 (constantI S_ 32 1280#32))) (clips cu))

theorem wraps_apply (cu : Vec Ideal S7 .i32) (b : Fin 6) (k : Fin 3) :
    wraps cu (ix3 b k 0) = Words.clip (cu (ix1 (⟨b.val + 1, by omega⟩ : Fin 7))) (BitVec.ofNat 32 k.val) := by
  refine (broadcastInDim_apply ![0, 1] bcast_S6x3_S6x3x1_0_1 _ (ix3 b k 0) (ix2 b k) (fun a => by fin_cases a <;> rfl)).trans ?_
  refine Eq.trans ?_ (clip_wrap _ _)
  exact congrArg (fun C => Scalar.select (IntOp.cmpi .slt C 0#32) (IntOp.addi C 1280#32) C) (clips_apply cu b k)

/-- and tested against the sequence's start. -/
def tests (cu : Vec Ideal S7 .i32) : Vec Ideal S6x3x1 .i1 :=
  broadcastInDim S6x3x1 ![0, 1] bcast_S6x3_S6x3x1_0_1
    (cmpi .sge (places cu) (broadcastInDim S6x3 ![0, 1] bcast_S6x1_S6x3_0_1 (broadcastInDim S6x1 ![0] bcast_S6_S6x1_0 (extractStridedSlice S6 ![0] cu slices_S7_S6_0))))

theorem tests_apply (cu : Vec Ideal S7 .i32) (b : Fin 6) (k : Fin 3) (j : Fin 1024) :
    broadcastInDim S6x3x1024 ![0, 1, 2] bcast_S6x3x1_S6x3x1024_0_1_2 (tests cu) (ix3 b k j)
      = IntOp.cmpi .sge (Words.idx (cu (ix1 (⟨b.val + 1, by omega⟩ : Fin 7))) (BitVec.ofNat 32 k.val)) (cu (ix1 (⟨b.val, by omega⟩ : Fin 7))) := by
  refine (broadcastInDim_apply ![0, 1, 2] bcast_S6x3x1_S6x3x1024_0_1_2 _ (ix3 b k j) (ix3 b k 0) (fun a => by fin_cases a <;> rfl)).trans ?_
  refine (broadcastInDim_apply ![0, 1] bcast_S6x3_S6x3x1_0_1 _ (ix3 b k 0) (ix2 b k) (fun a => by fin_cases a <;> rfl)).trans ?_
  refine congrArg₂ (IntOp.cmpi .sge) (places_apply cu b k) (congrArg cu (funext fun d => ?_))
  fin_cases d
  exact Fin.ext (Nat.zero_add _)

variable (W : Valuation τ sig (Elt Ideal))

/-- The carried state. -/
theorem tail_state (I : Spec.Inputs) (hb : W (Proc.devRef .tc main_v23_1) = bxArr I) (hc : W (Proc.devRef .tc main_arg1) = I.cu) :
    StableHlo.after (List.flatten [hostOps1, hostOps1_1, hostOps1_2, hostOps1_3, hostOps1_4]) W (Proc.devRef .tc main_v47) = I.state := by
  simp only [hostOps1, hostOps1_1, hostOps1_2, hostOps1_3, hostOps1_4, List.flatten_cons, List.flatten_nil, List.append_nil, List.cons_append, List.nil_append]
  after_reads_simp
  rw [hb, hc]
  simp only [StableHlo.TRef.ofBuf_toBuf, StableHlo.TRef.ofBuf, StableHlo.TRef.toBuf, cast_eq]
  show select (broadcastInDim S6x3x1024 ![0, 1, 2] bcast_S6x3x1_S6x3x1024_0_1_2 (tests I.cu))
    (Host.gather gather_S1280x1024_S6x3x1_S6x3x1024_2_0_n_n_0_2_11024 (bxArr I) (wraps I.cu))
    (broadcastInDim S6x3x1024 ![] bcast_S_S6x3x1024 (constant (F := Ideal) S_ .f32 0x00000000#32)) = _
  funext y
  obtain ⟨b, k, j, rfl⟩ : ∃ (b : Fin 6) (k : Fin 3) (j : Fin 1024), y = ix3 b k j := ⟨y 0, y 1, y 2, eq_ix3 y⟩
  exact state_at I b k j (wraps I.cu) _ (tests_apply I.cu b k j) (wraps_apply I.cu b k)

theorem tail_v48 (f : Fin 1280 → EReal) (hf : W (Proc.devRef .tc main_v23_3) = column f) :
    StableHlo.after (List.flatten [hostOps1, hostOps1_1, hostOps1_2, hostOps1_3, hostOps1_4]) W (Proc.devRef .tc main_v48) = Spec.Inputs.row f := by
  simp only [hostOps1, hostOps1_1, hostOps1_2, hostOps1_3, hostOps1_4, List.flatten_cons, List.flatten_nil, List.append_nil, List.cons_append, List.nil_append]
  after_reads_simp
  rw [hf]
  exact column_row f _

theorem tail_v49 (f : Fin 1280 → EReal) (hf : W (Proc.devRef .tc main_v23_5) = column f) :
    StableHlo.after (List.flatten [hostOps1, hostOps1_1, hostOps1_2, hostOps1_3, hostOps1_4]) W (Proc.devRef .tc main_v49) = Spec.Inputs.row f := by
  simp only [hostOps1, hostOps1_1, hostOps1_2, hostOps1_3, hostOps1_4, List.flatten_cons, List.flatten_nil, List.append_nil, List.cons_append, List.nil_append]
  after_reads_simp
  rw [hf]
  exact column_row f _

theorem tail_v50 (f : Fin 1280 → EReal) (hf : W (Proc.devRef .tc main_v23_7) = column f) :
    StableHlo.after (List.flatten [hostOps1, hostOps1_1, hostOps1_2, hostOps1_3, hostOps1_4]) W (Proc.devRef .tc main_v50) = Spec.Inputs.row f := by
  simp only [hostOps1, hostOps1_1, hostOps1_2, hostOps1_3, hostOps1_4, List.flatten_cons, List.flatten_nil, List.append_nil, List.cons_append, List.nil_append]
  after_reads_simp
  rw [hf]
  exact column_row f _

theorem tail_v51 (f : Fin 1280 → EReal) (hf : W (Proc.devRef .tc main_v23_9) = column f) :
    StableHlo.after (List.flatten [hostOps1, hostOps1_1, hostOps1_2, hostOps1_3, hostOps1_4]) W (Proc.devRef .tc main_v51) = Spec.Inputs.row f := by
  simp only [hostOps1, hostOps1_1, hostOps1_2, hostOps1_3, hostOps1_4, List.flatten_cons, List.flatten_nil, List.append_nil, List.cons_append, List.nil_append]
  after_reads_simp
  rw [hf]
  exact column_row f _

end Cert.ReferenceIdeal.Body

end
-- ==== Proof.RefResults.lean ====
/- The reference's ten results. -/
module

public import proofs.«01_k».proof.Proof.RefTail

@[expose] public section

set_option maxRecDepth 16384

noncomputable section

namespace Cert.ReferenceIdeal.Body

open Cert.ReferenceIdeal Cert.ReferenceIdeal.Gen
open Idealize.ShloMosaic hiding ix1 ix2 ix3 eq_ix2 eq_ix3
open Idealize.ShloMosaic.TcCoe Idealize.ShloMosaic.ValueIdx Idealize.ShloMosaic.Tactic
open Idealize.SL.Sem

variable (m : (ℓ : Loc nD τ sig) → Buf (Elt Ideal) ℓ) (ρ : Dev nD → PrngReg)

/-- What the operations after the call find. -/
abbrev atTail (c : Dev nD) : Valuation τ sig (Elt Ideal) :=
  Pipeline.withArrays (cfgs 0).spec c (V0 m c) fun w => (dats m 0 c).arrAt w (cfgs 0).N

theorem arrRef_inj : Function.Injective (Pipeline.arrRef spec0) := by decide

theorem after_v47 (c : Dev nD) : Pipeline.afterTail₀ cfgs (dats m) 0 (V0 m) [hostOps1, hostOps1_1, hostOps1_2, hostOps1_3, hostOps1_4] c main_v47 = (inputs m c).state :=
  tail_state (atTail m c) (inputs m c) ((Pipeline.withArrays_arr spec0 arrRef_inj c (V0 m c) _ 15).trans (arr15 m c))
    ((Pipeline.withArrays_of_ne spec0 c (V0 m c) _ main_arg1 (by exact (by decide : ∀ w, Pipeline.arrRef spec0 w ≠ main_arg1))).trans (V_main_arg1 m c))

theorem after_v48 (c : Dev nD) : Pipeline.afterTail₀ cfgs (dats m) 0 (V0 m) [hostOps1, hostOps1_1, hostOps1_2, hostOps1_3, hostOps1_4] c main_v48 = Spec.Inputs.row (inputs m c).scale1 :=
  tail_v48 (atTail m c) _ ((Pipeline.withArrays_arr spec0 arrRef_inj c (V0 m c) _ 17).trans (arr17 m c))

theorem after_v49 (c : Dev nD) : Pipeline.afterTail₀ cfgs (dats m) 0 (V0 m) [hostOps1, hostOps1_1, hostOps1_2, hostOps1_3, hostOps1_4] c main_v49 = Spec.Inputs.row (inputs m c).scale2 :=
  tail_v49 (atTail m c) _ ((Pipeline.withArrays_arr spec0 arrRef_inj c (V0 m c) _ 19).trans (arr19 m c))

theorem after_v50 (c : Dev nD) : Pipeline.afterTail₀ cfgs (dats m) 0 (V0 m) [hostOps1, hostOps1_1, hostOps1_2, hostOps1_3, hostOps1_4] c main_v50 = Spec.Inputs.row (inputs m c).scale3 :=
  tail_v50 (atTail m c) _ ((Pipeline.withArrays_arr spec0 arrRef_inj c (V0 m c) _ 21).trans (arr21 m c))

theorem after_v51 (c : Dev nD) : Pipeline.afterTail₀ cfgs (dats m) 0 (V0 m) [hostOps1, hostOps1_1, hostOps1_2, hostOps1_3, hostOps1_4] c main_v51 = Spec.Inputs.row (inputs m c).scale4 :=
  tail_v51 (atTail m c) _ ((Pipeline.withArrays_arr spec0 arrRef_inj c (V0 m c) _ 23).trans (arr23 m c))

/-- The ten results are the mathematics' of the arguments. -/
theorem values : θ_run defs (onTc (τ := τ) (main (F := Ideal))) ⟨m, fun _ => 0, ρ⟩ (fun r => ∀ c : Dev nD,
      r.2.mem ((c.tc : Thread nD τ).loc main_v23_0) = (inputs m c).out
      ∧ r.2.mem ((c.tc : Thread nD τ).loc main_v47) = (inputs m c).state
      ∧ r.2.mem ((c.tc : Thread nD τ).loc main_v23_2) = (inputs m c).code1
      ∧ r.2.mem ((c.tc : Thread nD τ).loc main_v48) = Spec.Inputs.row (inputs m c).scale1
      ∧ r.2.mem ((c.tc : Thread nD τ).loc main_v23_4) = (inputs m c).code2
      ∧ r.2.mem ((c.tc : Thread nD τ).loc main_v49) = Spec.Inputs.row (inputs m c).scale2
      ∧ r.2.mem ((c.tc : Thread nD τ).loc main_v23_6) = (inputs m c).code3
      ∧ r.2.mem ((c.tc : Thread nD τ).loc main_v50) = Spec.Inputs.row (inputs m c).scale3
      ∧ r.2.mem ((c.tc : Thread nD τ).loc main_v23_8) = (inputs m c).code4
      ∧ r.2.mem ((c.tc : Thread nD τ).loc main_v51) = Spec.Inputs.row (inputs m c).scale4) :=
  (θ_run defs _ _).mono (fun _ h c => ⟨((h c).1 14).trans (arr14 m c),
      ((h c).2 main_v47 (Pipeline.mem_restRefs_of main_v47 (by decide) (by decide))).trans (after_v47 m c),
      ((h c).1 16).trans (arr16 m c),
      ((h c).2 main_v48 (Pipeline.mem_restRefs_of main_v48 (by decide) (by decide))).trans (after_v48 m c),
      ((h c).1 18).trans (arr18 m c),
      ((h c).2 main_v49 (Pipeline.mem_restRefs_of main_v49 (by decide) (by decide))).trans (after_v49 m c),
      ((h c).1 20).trans (arr20 m c),
      ((h c).2 main_v50 (Pipeline.mem_restRefs_of main_v50 (by decide) (by decide))).trans (after_v50 m c),
      ((h c).1 22).trans (arr22 m c),
      ((h c).2 main_v51 (Pipeline.mem_restRefs_of main_v51 (by decide) (by decide))).trans (after_v51 m c)⟩) (run_main m ρ)

end Cert.ReferenceIdeal.Body

end
-- ==== Proof.Algebraic.lean ====
/- The kernel's and the reference's results agree over the extended reals: both are the mathematics' of the same arguments. -/
module

public import proofs.«01_k».proof.Defs
public import proofs.«01_k».proof.Proof.KernelResults
public import proofs.«01_k».proof.Proof.RefResults

@[expose] public section

noncomputable section

namespace Cert.Proof

open Idealize.ShloMosaic Idealize.SL.Sem

attribute [ext] Cert.Spec.Inputs

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Memories that agree on the arguments hold the same arguments. -/
theorem inputs_eq (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
      m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
      m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Body.inputs m' c = Cert.KernelIdeal.Body.inputs m c :=
  Cert.Spec.Inputs.ext h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2.1 h.2.2.2.2.2.2.2.2.2.2.1 h.2.2.2.2.2.2.2.2.2.2.2.1 h.2.2.2.2.2.2.2.2.2.2.2.2

/-- The two programs' results are equal. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => (Cert.KernelIdeal.Body.inputs m c).out,
    fun c => (Cert.KernelIdeal.Body.inputs m c).state,
    fun c => (Cert.KernelIdeal.Body.inputs m c).code1,
    fun c => Spec.Inputs.row (Cert.KernelIdeal.Body.inputs m c).scale1,
    fun c => (Cert.KernelIdeal.Body.inputs m c).code2,
    fun c => Spec.Inputs.row (Cert.KernelIdeal.Body.inputs m c).scale2,
    fun c => (Cert.KernelIdeal.Body.inputs m c).code3,
    fun c => Spec.Inputs.row (Cert.KernelIdeal.Body.inputs m c).scale3,
    fun c => (Cert.KernelIdeal.Body.inputs m c).code4,
    fun c => Spec.Inputs.row (Cert.KernelIdeal.Body.inputs m c).scale4, ?_, ?_⟩
  · refine (θ_run _ _ _).mono (fun r hr c => ?_) (θ_run_and (Cert.KernelIdeal.Body.values m g) (Cert.KernelIdeal.Body.unchanged m g))
    have hv := hr.1 c
    exact ⟨hv.1, hv.2.1, hv.2.2.1, hv.2.2.2.1, hv.2.2.2.2.1, hv.2.2.2.2.2.1, hv.2.2.2.2.2.2.1, hv.2.2.2.2.2.2.2.1, hv.2.2.2.2.2.2.2.2.1, hv.2.2.2.2.2.2.2.2.2, hr.2 c⟩
  · refine (θ_run _ _ _).mono (fun r hr c => ?_) (θ_run_and (Cert.ReferenceIdeal.Body.values m' g') (Cert.ReferenceIdeal.Body.unchanged m' g'))
    have hv := hr.1 c
    rw [inputs_eq m m' c (h c)] at hv
    exact ⟨hv.1, hv.2.1, hv.2.2.1, hv.2.2.2.1, hv.2.2.2.2.1, hv.2.2.2.2.2.1, hv.2.2.2.2.2.2.1, hv.2.2.2.2.2.2.2.1, hv.2.2.2.2.2.2.2.2.1, hv.2.2.2.2.2.2.2.2.2, hr.2 c⟩

end Cert.Proof

end
-- ==== Proof.lean ====
/- The claim, assembled: the frames of the kernel, of its idealization and of the reference's, that the idealization keeps the
   kernel's code, and that the kernel's and the reference's results are equal over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.KernelFrame
public import proofs.«01_k».proof.Proof.KernelIdealFrame
public import proofs.«01_k».proof.Proof.ReferenceIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Body.frame m ρ, trivial, algebraic⟩

end Cert.Proof

end
